-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v456) = v0 c
          ∧ r.2.mem ((c.tc : Thread Cert.ReferenceIdeal.nD Cert.ReferenceIdeal.τ).loc Cert.ReferenceIdeal.main_v457) = v1 c
          ∧ r.2.mem ((c.tc : Thread Cert.ReferenceIdeal.nD Cert.ReferenceIdeal.τ).loc Cert.ReferenceIdeal.main_v449) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v5_0)) (v2 : (c : Dev Cert.Kernel2Ideal.nD) → Buf (Elt Ideal) ((c.tc : Thread Cert.Kernel2Ideal.nD Cert.Kernel2Ideal.τ).loc Cert.Kernel2Ideal.main_v6)) (v3 : (c : Dev Cert.Kernel2Ideal.nD) → Buf (Elt Ideal) ((c.tc : Thread Cert.Kernel2Ideal.nD Cert.Kernel2Ideal.τ).loc Cert.Kernel2Ideal.main_v7)) (v4 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v5_0) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_v7) = v3 c
          ∧ r.2.mem ((c.tc : Thread Cert.Kernel2Ideal.nD Cert.Kernel2Ideal.τ).loc Cert.Kernel2Ideal.main_v8) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v55) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)) (v6 : (c : Dev Cert.Kernel3Ideal.nD) → Buf (Elt Ideal) ((c.tc : Thread Cert.Kernel3Ideal.nD Cert.Kernel3Ideal.τ).loc Cert.Kernel3Ideal.main_v3_0)) (v7 : (c : Dev Cert.Kernel3Ideal.nD) → Buf (Elt Ideal) ((c.tc : Thread Cert.Kernel3Ideal.nD Cert.Kernel3Ideal.τ).loc Cert.Kernel3Ideal.main_v4)) (v8 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_v1_5) = v5 c
          ∧ r.2.mem ((c.tc : Thread Cert.Kernel3Ideal.nD Cert.Kernel3Ideal.τ).loc Cert.Kernel3Ideal.main_v3_0) = v6 c
          ∧ r.2.mem ((c.tc : Thread Cert.Kernel3Ideal.nD Cert.Kernel3Ideal.τ).loc Cert.Kernel3Ideal.main_v4) = v7 c
          ∧ r.2.mem ((c.tc : Thread Cert.Kernel3Ideal.nD Cert.Kernel3Ideal.τ).loc Cert.Kernel3Ideal.main_v5) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_v51) = v3 c
          ∧ r.2.mem ((c.tc : Thread Cert.Reference3Ideal.nD Cert.Reference3Ideal.τ).loc Cert.Reference3Ideal.main_v52) = v4 c
          ∧ r.2.mem ((c.tc : Thread Cert.Reference3Ideal.nD Cert.Reference3Ideal.τ).loc Cert.Reference3Ideal.main_v53) = v5 c
          ∧ r.2.mem ((c.tc : Thread Cert.Reference3Ideal.nD Cert.Reference3Ideal.τ).loc Cert.Reference3Ideal.main_v47) = v6 c
          ∧ r.2.mem ((c.tc : Thread Cert.Reference3Ideal.nD Cert.Reference3Ideal.τ).loc Cert.Reference3Ideal.main_v54) = v7 c
          ∧ r.2.mem ((c.tc : Thread Cert.Reference3Ideal.nD Cert.Reference3Ideal.τ).loc Cert.Reference3Ideal.main_v18) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)) (v5 : (c : Dev Cert.Kernel4Ideal.nD) → Buf (Elt Ideal) ((c.tc : Thread Cert.Kernel4Ideal.nD Cert.Kernel4Ideal.τ).loc Cert.Kernel4Ideal.main_v4_5)) (v6 : (c : Dev Cert.Kernel4Ideal.nD) → Buf (Elt Ideal) ((c.tc : Thread Cert.Kernel4Ideal.nD Cert.Kernel4Ideal.τ).loc Cert.Kernel4Ideal.main_v4_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_v4_5) = v5 c
          ∧ r.2.mem ((c.tc : Thread Cert.Kernel4Ideal.nD Cert.Kernel4Ideal.τ).loc Cert.Kernel4Ideal.main_v4_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_v71) = v3 c
          ∧ r.2.mem ((c.tc : Thread Cert.Reference4Ideal.nD Cert.Reference4Ideal.τ).loc Cert.Reference4Ideal.main_v38) = v4 c
          ∧ r.2.mem ((c.tc : Thread Cert.Reference4Ideal.nD Cert.Reference4Ideal.τ).loc Cert.Reference4Ideal.main_v39) = v5 c
          ∧ r.2.mem ((c.tc : Thread Cert.Reference4Ideal.nD Cert.Reference4Ideal.τ).loc Cert.Reference4Ideal.main_v40) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4224x1024 : Shape := ⟨2, ![4224, 1024]⟩
abbrev S32x512 : Shape := ⟨2, ![32, 512]⟩
abbrev S4224x512 : Shape := ⟨2, ![4224, 512]⟩
abbrev S4224x128 : Shape := ⟨2, ![4224, 128]⟩
abbrev S32x128 : Shape := ⟨2, ![32, 128]⟩
abbrev S4256x128 : Shape := ⟨2, ![4256, 128]⟩
abbrev S256x128 : Shape := ⟨2, ![256, 128]⟩
abbrev S128x128 : Shape := ⟨2, ![128, 128]⟩
abbrev S1x128 : Shape := ⟨2, ![1, 128]⟩
abbrev S8x128 : Shape := ⟨2, ![8, 128]⟩
abbrev S16x8x128 : Shape := ⟨3, ![16, 8, 128]⟩
abbrev S128 : Shape := ⟨1, ![128]⟩

abbrev nBuf : Space → Nat
  | .hbm => 6
  | .vmem => 17
  | .smem => 0
  | _ => 0

abbrev bufTy : (tb : Table) → Fin (tcTables nBuf tb) → BufTy
  | .hbm, ⟨0, _⟩ => ⟨S4224x1024, .f32⟩
  | .hbm, ⟨1, _⟩ => ⟨S32x512, .f32⟩
  | .hbm, ⟨2, _⟩ => ⟨S4224x512, .f32⟩
  | .hbm, ⟨3, _⟩ => ⟨S4224x512, .f32⟩
  | .hbm, ⟨4, _⟩ => ⟨S4224x512, .f32⟩
  | .hbm, ⟨5, _⟩ => ⟨S32x512, .f32⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S32x128, .f32⟩
  | .local _ .vmem, ⟨5, _⟩ => ⟨S32x128, .f32⟩
  | .local _ .vmem, ⟨6, _⟩ => ⟨S4224x128, .f32⟩
  | .local _ .vmem, ⟨7, _⟩ => ⟨S4224x128, .f32⟩
  | .local _ .vmem, ⟨8, _⟩ => ⟨S4224x128, .f32⟩
  | .local _ .vmem, ⟨9, _⟩ => ⟨S4224x128, .f32⟩
  | .local _ .vmem, ⟨10, _⟩ => ⟨S4224x128, .f32⟩
  | .local _ .vmem, ⟨11, _⟩ => ⟨S4224x128, .f32⟩
  | .local _ .vmem, ⟨12, _⟩ => ⟨S32x128, .f32⟩
  | .local _ .vmem, ⟨13, _⟩ => ⟨S32x128, .f32⟩
  | .local _ .vmem, ⟨14, _⟩ => ⟨S4256x128, .f32⟩
  | .local _ .vmem, ⟨15, _⟩ => ⟨S4256x128, .f32⟩
  | .local _ .vmem, ⟨16, _⟩ => ⟨S256x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c33_i32 : BitVec 32 := 33#32
  let v12 : BitVec 32 := Scalar.addi c0_i32 c33_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v140 : BitVec 32 := Scalar.muli arg11 c128_i32
  v140
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v140 : BitVec 32 := Scalar.muli arg11 c128_i32
  let v141 : BitVec 32 := v140
  let v142 : Index := Scalar.indexCast v141
  let c0_111 : Index := 0#32
  ![v142.toNat, 0]
def k0_off2 (k0_t1 : Fin k0_t1_loop.trips) : Fin 2 → Nat :=
  let c32_i32 : BitVec 32 := 32#32
  let c0_i32 : BitVec 32 := 0#32
  let c1_i32 : BitVec 32 := 1#32
  let arg11 : BitVec 32 := Scf.iv c0_i32 c1_i32 k0_t1
  let c128_i32 : BitVec 32 := 128#32
  let v140 : BitVec 32 := Scalar.muli arg11 c128_i32
  let v141 : BitVec 32 := v140
  let v154 : BitVec 32 := Scalar.addi c32_i32 v141
  let v155 : Index := Scalar.indexCast v154
  let c0_116 : Index := 0#32
  ![v155.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v140 : BitVec 32 := Scalar.muli arg11 c128_i32
  let v141 : BitVec 32 := v140
  let v161 : Index := Scalar.indexCast v141
  let c0_118 : Index := 0#32
  ![v161.toNat, 0]
@[reducible] def k0_t2_loop : Scf.Loop 32 :=
  let c0_i32_7 : BitVec 32 := 0#32
  let c33_i32_8 : BitVec 32 := 33#32
  let v13 : BitVec 32 := Scalar.addi c0_i32_7 c33_i32_8
  let c1_i32_9 : BitVec 32 := 1#32
  ⟨c0_i32_7, v13, c1_i32_9⟩
def k0_mult2 (k0_t2 : Fin k0_t2_loop.trips) : BitVec 32 :=
  let c0_i32_7 : BitVec 32 := 0#32
  let c1_i32_9 : BitVec 32 := 1#32
  let arg11 : BitVec 32 := Scf.iv c0_i32_7 c1_i32_9 k0_t2
  let c128_i32 : BitVec 32 := 128#32
  let v140 : BitVec 32 := Scalar.muli arg11 c128_i32
  v140
def k0_off4 (k0_t2 : Fin k0_t2_loop.trips) : Fin 2 → Nat :=
  let c0_i32_7 : BitVec 32 := 0#32
  let c1_i32_9 : BitVec 32 := 1#32
  let arg11 : BitVec 32 := Scf.iv c0_i32_7 c1_i32_9 k0_t2
  let c128_i32 : BitVec 32 := 128#32
  let v140 : BitVec 32 := Scalar.muli arg11 c128_i32
  let v141 : BitVec 32 := v140
  let v142 : Index := Scalar.indexCast v141
  let c0_111 : Index := 0#32
  ![v142.toNat, 0]
def k0_off5 (k0_t2 : Fin k0_t2_loop.trips) (c30_i32 : BitVec 32) : Fin 2 → Nat :=
  let c0_i32_7 : BitVec 32 := 0#32
  let c1_i32_9 : BitVec 32 := 1#32
  let arg11 : BitVec 32 := Scf.iv c0_i32_7 c1_i32_9 k0_t2
  let c128_i32 : BitVec 32 := 128#32
  let v140 : BitVec 32 := Scalar.muli arg11 c128_i32
  let v141 : BitVec 32 := v140
  let v146 : BitVec 32 := Scalar.addi v141 c30_i32
  let v147 : Index := Scalar.indexCast v146
  let c0_115 : Index := 0#32
  ![v147.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4224x1024 : Shape := ⟨2, ![4224, 1024]⟩
abbrev S32x512 : Shape := ⟨2, ![32, 512]⟩
abbrev S4224x512 : Shape := ⟨2, ![4224, 512]⟩
abbrev S_ : Shape := ⟨0, ![]⟩
abbrev S30x512 : Shape := ⟨2, ![30, 512]⟩
abbrev S4254x512 : Shape := ⟨2, ![4254, 512]⟩
abbrev S1x512 : Shape := ⟨2, ![1, 512]⟩
abbrev S512 : Shape := ⟨1, ![512]⟩

abbrev nBuf : Space → Nat
  | .hbm => 560
  | .vmem => 0
  | .smem => 0
  | _ => 0

abbrev hbmTy0_0 (i : Nat) : BufTy := match i % 128 with
  | 0 => ⟨S4224x1024, .f32⟩
  | 1 => ⟨S32x512, .f32⟩
  | 2 => ⟨S4224x512, .f32⟩
  | 3 => ⟨S4224x512, .f32⟩
  | 4 => ⟨S4224x512, .f32⟩
  | 5 => ⟨S4224x512, .f32⟩
  | 6 => ⟨S4224x512, .f32⟩
  | 7 => ⟨S_, .f32⟩
  | 8 => ⟨S4224x512, .f32⟩
  | 9 => ⟨S4224x512, .f32⟩
  | 10 => ⟨S_, .f32⟩
  | 11 => ⟨S4224x512, .f32⟩
  | 12 => ⟨S4224x512, .f32⟩
  | 13 => ⟨S_, .f32⟩
  | 14 => ⟨S4224x512, .f32⟩
  | 15 => ⟨S4224x512, .f32⟩
  | 16 => ⟨S4224x512, .f32⟩
  | 17 => ⟨S4224x512, .f32⟩
  | 18 => ⟨S_, .f32⟩
  | 19 => ⟨S30x512, .f32⟩
  | 20 => ⟨S4254x512, .f32⟩
  | 21 => ⟨S_, .f32⟩
  | 22 => ⟨S30x512, .f32⟩
  | 23 => ⟨S1x512, .f32⟩
  | 24 => ⟨S4224x512, .f32⟩
  | 25 => ⟨S4224x512, .f32⟩
  | 26 => ⟨S4224x512, .f32⟩
  | 27 => ⟨S_, .f32⟩
  | 28 => ⟨S4224x512, .f32⟩
  | 29 => ⟨S4224x512, .f32⟩
  | 30 => ⟨S1x512, .f32⟩
  | 31 => ⟨S4224x512, .f32⟩
  | 32 => ⟨S4224x512, .f32⟩
  | 33 => ⟨S4224x512, .f32⟩
  | 34 => ⟨S4224x512, .f32⟩
  | 35 => ⟨S1x512, .f32⟩
  | 36 => ⟨S4224x512, .f32⟩
  | 37 => ⟨S4224x512, .f32⟩
  | 38 => ⟨S4224x512, .f32⟩
  | 39 => ⟨S4224x512, .f32⟩
  | 40 => ⟨S1x512, .f32⟩
  | 41 => ⟨S4224x512, .f32⟩
  | 42 => ⟨S4224x512, .f32⟩
  | 43 => ⟨S4224x512, .f32⟩
  | 44 => ⟨S4224x512, .f32⟩
  | 45 => ⟨S1x512, .f32⟩
  | 46 => ⟨S4224x512, .f32⟩
  | 47 => ⟨S4224x512, .f32⟩
  | 48 => ⟨S4224x512, .f32⟩
  | 49 => ⟨S4224x512, .f32⟩
  | 50 => ⟨S1x512, .f32⟩
  | 51 => ⟨S4224x512, .f32⟩
  | 52 => ⟨S4224x512, .f32⟩
  | 53 => ⟨S4224x512, .f32⟩
  | 54 => ⟨S4224x512, .f32⟩
  | 55 => ⟨S1x512, .f32⟩
  | 56 => ⟨S4224x512, .f32⟩
  | 57 => ⟨S4224x512, .f32⟩
  | 58 => ⟨S4224x512, .f32⟩
  | 59 => ⟨S4224x512, .f32⟩
  | 60 => ⟨S1x512, .f32⟩
  | 61 => ⟨S4224x512, .f32⟩
  | 62 => ⟨S4224x512, .f32⟩
  | 63 => ⟨S4224x512, .f32⟩
  | 64 => ⟨S4224x512, .f32⟩
  | 65 => ⟨S1x512, .f32⟩
  | 66 => ⟨S4224x512, .f32⟩
  | 67 => ⟨S4224x512, .f32⟩
  | 68 => ⟨S4224x512, .f32⟩
  | 69 => ⟨S4224x512, .f32⟩
  | 70 => ⟨S1x512, .f32⟩
  | 71 => ⟨S4224x512, .f32⟩
  | 72 => ⟨S4224x512, .f32⟩
  | 73 => ⟨S4224x512, .f32⟩
  | 74 => ⟨S4224x512, .f32⟩
  | 75 => ⟨S1x512, .f32⟩
  | 76 => ⟨S4224x512, .f32⟩
  | 77 => ⟨S4224x512, .f32⟩
  | 78 => ⟨S4224x512, .f32⟩
  | 79 => ⟨S4224x512, .f32⟩
  | 80 => ⟨S1x512, .f32⟩
  | 81 => ⟨S4224x512, .f32⟩
  | 82 => ⟨S4224x512, .f32⟩
  | 83 => ⟨S4224x512, .f32⟩
  | 84 => ⟨S4224x512, .f32⟩
  | 85 => ⟨S1x512, .f32⟩
  | 86 => ⟨S4224x512, .f32⟩
  | 87 => ⟨S4224x512, .f32⟩
  | 88 => ⟨S4224x512, .f32⟩
  | 89 => ⟨S4224x512, .f32⟩
  | 90 => ⟨S1x512, .f32⟩
  | 91 => ⟨S4224x512, .f32⟩
  | 92 => ⟨S4224x512, .f32⟩
  | 93 => ⟨S4224x512, .f32⟩
  | 94 => ⟨S4224x512, .f32⟩
  | 95 => ⟨S1x512, .f32⟩
  | 96 => ⟨S4224x512, .f32⟩
  | 97 => ⟨S4224x512, .f32⟩
  | 98 => ⟨S4224x512, .f32⟩
  | 99 => ⟨S4224x512, .f32⟩
  | 100 => ⟨S1x512, .f32⟩
  | 101 => ⟨S4224x512, .f32⟩
  | 102 => ⟨S4224x512, .f32⟩
  | 103 => ⟨S4224x512, .f32⟩
  | 104 => ⟨S4224x512, .f32⟩
  | 105 => ⟨S1x512, .f32⟩
  | 106 => ⟨S4224x512, .f32⟩
  | 107 => ⟨S4224x512, .f32⟩
  | 108 => ⟨S4224x512, .f32⟩
  | 109 => ⟨S4224x512, .f32⟩
  | 110 => ⟨S1x512, .f32⟩
  | 111 => ⟨S4224x512, .f32⟩
  | 112 => ⟨S4224x512, .f32⟩
  | 113 => ⟨S4224x512, .f32⟩
  | 114 => ⟨S4224x512, .f32⟩
  | 115 => ⟨S1x512, .f32⟩
  | 116 => ⟨S4224x512, .f32⟩
  | 117 => ⟨S4224x512, .f32⟩
  | 118 => ⟨S4224x512, .f32⟩
  | 119 => ⟨S4224x512, .f32⟩
  | 120 => ⟨S1x512, .f32⟩
  | 121 => ⟨S4224x512, .f32⟩
  | 122 => ⟨S4224x512, .f32⟩
  | 123 => ⟨S4224x512, .f32⟩
  | 124 => ⟨S4224x512, .f32⟩
  | 125 => ⟨S1x512, .f32⟩
  | 126 => ⟨S4224x512, .f32⟩
  | 127 => ⟨S4224x512, .f32⟩
  | _ => ⟨S4224x1024, .f32⟩

abbrev hbmTy0_1 (i : Nat) : BufTy := match i % 128 with
  | 0 => ⟨S4224x512, .f32⟩
  | 1 => ⟨S4224x512, .f32⟩
  | 2 => ⟨S1x512, .f32⟩
  | 3 => ⟨S4224x512, .f32⟩
  | 4 => ⟨S4224x512, .f32⟩
  | 5 => ⟨S4224x512, .f32⟩
  | 6 => ⟨S4224x512, .f32⟩
  | 7 => ⟨S1x512, .f32⟩
  | 8 => ⟨S4224x512, .f32⟩
  | 9 => ⟨S4224x512, .f32⟩
  | 10 => ⟨S4224x512, .f32⟩
  | 11 => ⟨S4224x512, .f32⟩
  | 12 => ⟨S1x512, .f32⟩
  | 13 => ⟨S4224x512, .f32⟩
  | 14 => ⟨S4224x512, .f32⟩
  | 15 => ⟨S4224x512, .f32⟩
  | 16 => ⟨S4224x512, .f32⟩
  | 17 => ⟨S1x512, .f32⟩
  | 18 => ⟨S4224x512, .f32⟩
  | 19 => ⟨S4224x512, .f32⟩
  | 20 => ⟨S4224x512, .f32⟩
  | 21 => ⟨S4224x512, .f32⟩
  | 22 => ⟨S1x512, .f32⟩
  | 23 => ⟨S4224x512, .f32⟩
  | 24 => ⟨S4224x512, .f32⟩
  | 25 => ⟨S4224x512, .f32⟩
  | 26 => ⟨S4224x512, .f32⟩
  | 27 => ⟨S1x512, .f32⟩
  | 28 => ⟨S4224x512, .f32⟩
  | 29 => ⟨S4224x512, .f32⟩
  | 30 => ⟨S4224x512, .f32⟩
  | 31 => ⟨S4224x512, .f32⟩
  | 32 => ⟨S1x512, .f32⟩
  | 33 => ⟨S4224x512, .f32⟩
  | 34 => ⟨S4224x512, .f32⟩
  | 35 => ⟨S4224x512, .f32⟩
  | 36 => ⟨S4224x512, .f32⟩
  | 37 => ⟨S1x512, .f32⟩
  | 38 => ⟨S4224x512, .f32⟩
  | 39 => ⟨S4224x512, .f32⟩
  | 40 => ⟨S4224x512, .f32⟩
  | 41 => ⟨S4224x512, .f32⟩
  | 42 => ⟨S1x512, .f32⟩
  | 43 => ⟨S4224x512, .f32⟩
  | 44 => ⟨S4224x512, .f32⟩
  | 45 => ⟨S4224x512, .f32⟩
  | 46 => ⟨S4224x512, .f32⟩
  | 47 => ⟨S1x512, .f32⟩
  | 48 => ⟨S4224x512, .f32⟩
  | 49 => ⟨S4224x512, .f32⟩
  | 50 => ⟨S4224x512, .f32⟩
  | 51 => ⟨S4224x512, .f32⟩
  | 52 => ⟨S4224x512, .f32⟩
  | 53 => ⟨S4224x512, .f32⟩
  | 54 => ⟨S4224x512, .f32⟩
  | 55 => ⟨S4224x512, .f32⟩
  | 56 => ⟨S4224x512, .f32⟩
  | 57 => ⟨S_, .f32⟩
  | 58 => ⟨S512, .f32⟩
  | 59 => ⟨S1x512, .f32⟩
  | 60 => ⟨S_, .f32⟩
  | 61 => ⟨S4254x512, .f32⟩
  | 62 => ⟨S_, .f32⟩
  | 63 => ⟨S32x512, .f32⟩
  | 64 => ⟨S4224x512, .f32⟩
  | 65 => ⟨S4224x512, .f32⟩
  | 66 => ⟨S4224x512, .f32⟩
  | 67 => ⟨S_, .f32⟩
  | 68 => ⟨S512, .f32⟩
  | 69 => ⟨S1x512, .f32⟩
  | 70 => ⟨S_, .f32⟩
  | 71 => ⟨S4254x512, .f32⟩
  | 72 => ⟨S4254x512, .f32⟩
  | 73 => ⟨S_, .f32⟩
  | 74 => ⟨S32x512, .f32⟩
  | 75 => ⟨S32x512, .f32⟩
  | 76 => ⟨S4224x512, .f32⟩
  | 77 => ⟨S4224x512, .f32⟩
  | 78 => ⟨S4224x512, .f32⟩
  | 79 => ⟨S_, .f32⟩
  | 80 => ⟨S512, .f32⟩
  | 81 => ⟨S1x512, .f32⟩
  | 82 => ⟨S_, .f32⟩
  | 83 => ⟨S4254x512, .f32⟩
  | 84 => ⟨S4254x512, .f32⟩
  | 85 => ⟨S_, .f32⟩
  | 86 => ⟨S32x512, .f32⟩
  | 87 => ⟨S32x512, .f32⟩
  | 88 => ⟨S4224x512, .f32⟩
  | 89 => ⟨S4224x512, .f32⟩
  | 90 => ⟨S4224x512, .f32⟩
  | 91 => ⟨S_, .f32⟩
  | 92 => ⟨S512, .f32⟩
  | 93 => ⟨S1x512, .f32⟩
  | 94 => ⟨S_, .f32⟩
  | 95 => ⟨S4254x512, .f32⟩
  | 96 => ⟨S4254x512, .f32⟩
  | 97 => ⟨S_, .f32⟩
  | 98 => ⟨S32x512, .f32⟩
  | 99 => ⟨S32x512, .f32⟩
  | 100 => ⟨S4224x512, .f32⟩
  | 101 => ⟨S4224x512, .f32⟩
  | 102 => ⟨S4224x512, .f32⟩
  | 103 => ⟨S_, .f32⟩
  | 104 => ⟨S512, .f32⟩
  | 105 => ⟨S1x512, .f32⟩
  | 106 => ⟨S_, .f32⟩
  | 107 => ⟨S4254x512, .f32⟩
  | 108 => ⟨S4254x512, .f32⟩
  | 109 => ⟨S_, .f32⟩
  | 110 => ⟨S32x512, .f32⟩
  | 111 => ⟨S32x512, .f32⟩
  | 112 => ⟨S4224x512, .f32⟩
  | 113 => ⟨S4224x512, .f32⟩
  | 114 => ⟨S4224x512, .f32⟩
  | 115 => ⟨S_, .f32⟩
  | 116 => ⟨S512, .f32⟩
  | 117 => ⟨S1x512, .f32⟩
  | 118 => ⟨S_, .f32⟩
  | 119 => ⟨S4254x512, .f32⟩
  | 120 => ⟨S4254x512, .f32⟩
  | 121 => ⟨S_, .f32⟩
  | 122 => ⟨S32x512, .f32⟩
  | 123 => ⟨S32x512, .f32⟩
  | 124 => ⟨S4224x512, .f32⟩
  | 125 => ⟨S4224x512, .f32⟩
  | 126 => ⟨S4224x512, .f32⟩
  | 127 => ⟨S_, .f32⟩
  | _ => ⟨S4224x1024, .f32⟩

abbrev hbmTy0_2 (i : Nat) : BufTy := match i % 128 with
  | 0 => ⟨S512, .f32⟩
  | 1 => ⟨S1x512, .f32⟩
  | 2 => ⟨S_, .f32⟩
  | 3 => ⟨S4254x512, .f32⟩
  | 4 => ⟨S4254x512, .f32⟩
  | 5 => ⟨S_, .f32⟩
  | 6 => ⟨S32x512, .f32⟩
  | 7 => ⟨S32x512, .f32⟩
  | 8 => ⟨S4224x512, .f32⟩
  | 9 => ⟨S4224x512, .f32⟩
  | 10 => ⟨S4224x512, .f32⟩
  | 11 => ⟨S_, .f32⟩
  | 12 => ⟨S512, .f32⟩
  | 13 => ⟨S1x512, .f32⟩
  | 14 => ⟨S_, .f32⟩
  | 15 => ⟨S4254x512, .f32⟩
  | 16 => ⟨S4254x512, .f32⟩
  | 17 => ⟨S_, .f32⟩
  | 18 => ⟨S32x512, .f32⟩
  | 19 => ⟨S32x512, .f32⟩
  | 20 => ⟨S4224x512, .f32⟩
  | 21 => ⟨S4224x512, .f32⟩
  | 22 => ⟨S4224x512, .f32⟩
  | 23 => ⟨S_, .f32⟩
  | 24 => ⟨S512, .f32⟩
  | 25 => ⟨S1x512, .f32⟩
  | 26 => ⟨S_, .f32⟩
  | 27 => ⟨S4254x512, .f32⟩
  | 28 => ⟨S4254x512, .f32⟩
  | 29 => ⟨S_, .f32⟩
  | 30 => ⟨S32x512, .f32⟩
  | 31 => ⟨S32x512, .f32⟩
  | 32 => ⟨S4224x512, .f32⟩
  | 33 => ⟨S4224x512, .f32⟩
  | 34 => ⟨S4224x512, .f32⟩
  | 35 => ⟨S_, .f32⟩
  | 36 => ⟨S512, .f32⟩
  | 37 => ⟨S1x512, .f32⟩
  | 38 => ⟨S_, .f32⟩
  | 39 => ⟨S4254x512, .f32⟩
  | 40 => ⟨S4254x512, .f32⟩
  | 41 => ⟨S_, .f32⟩
  | 42 => ⟨S32x512, .f32⟩
  | 43 => ⟨S32x512, .f32⟩
  | 44 => ⟨S4224x512, .f32⟩
  | 45 => ⟨S4224x512, .f32⟩
  | 46 => ⟨S4224x512, .f32⟩
  | 47 => ⟨S_, .f32⟩
  | 48 => ⟨S512, .f32⟩
  | 49 => ⟨S1x512, .f32⟩
  | 50 => ⟨S_, .f32⟩
  | 51 => ⟨S4254x512, .f32⟩
  | 52 => ⟨S4254x512, .f32⟩
  | 53 => ⟨S_, .f32⟩
  | 54 => ⟨S32x512, .f32⟩
  | 55 => ⟨S32x512, .f32⟩
  | 56 => ⟨S4224x512, .f32⟩
  | 57 => ⟨S4224x512, .f32⟩
  | 58 => ⟨S4224x512, .f32⟩
  | 59 => ⟨S_, .f32⟩
  | 60 => ⟨S512, .f32⟩
  | 61 => ⟨S1x512, .f32⟩
  | 62 => ⟨S_, .f32⟩
  | 63 => ⟨S4254x512, .f32⟩
  | 64 => ⟨S4254x512, .f32⟩
  | 65 => ⟨S_, .f32⟩
  | 66 => ⟨S32x512, .f32⟩
  | 67 => ⟨S32x512, .f32⟩
  | 68 => ⟨S4224x512, .f32⟩
  | 69 => ⟨S4224x512, .f32⟩
  | 70 => ⟨S4224x512, .f32⟩
  | 71 => ⟨S_, .f32⟩
  | 72 => ⟨S512, .f32⟩
  | 73 => ⟨S1x512, .f32⟩
  | 74 => ⟨S_, .f32⟩
  | 75 => ⟨S4254x512, .f32⟩
  | 76 => ⟨S4254x512, .f32⟩
  | 77 => ⟨S_, .f32⟩
  | 78 => ⟨S32x512, .f32⟩
  | 79 => ⟨S32x512, .f32⟩
  | 80 => ⟨S4224x512, .f32⟩
  | 81 => ⟨S4224x512, .f32⟩
  | 82 => ⟨S4224x512, .f32⟩
  | 83 => ⟨S_, .f32⟩
  | 84 => ⟨S512, .f32⟩
  | 85 => ⟨S1x512, .f32⟩
  | 86 => ⟨S_, .f32⟩
  | 87 => ⟨S4254x512, .f32⟩
  | 88 => ⟨S4254x512, .f32⟩
  | 89 => ⟨S_, .f32⟩
  | 90 => ⟨S32x512, .f32⟩
  | 91 => ⟨S32x512, .f32⟩
  | 92 => ⟨S4224x512, .f32⟩
  | 93 => ⟨S4224x512, .f32⟩
  | 94 => ⟨S4224x512, .f32⟩
  | 95 => ⟨S_, .f32⟩
  | 96 => ⟨S512, .f32⟩
  | 97 => ⟨S1x512, .f32⟩
  | 98 => ⟨S_, .f32⟩
  | 99 => ⟨S4254x512, .f32⟩
  | 100 => ⟨S4254x512, .f32⟩
  | 101 => ⟨S_, .f32⟩
  | 102 => ⟨S32x512, .f32⟩
  | 103 => ⟨S32x512, .f32⟩
  | 104 => ⟨S4224x512, .f32⟩
  | 105 => ⟨S4224x512, .f32⟩
  | 106 => ⟨S4224x512, .f32⟩
  | 107 => ⟨S_, .f32⟩
  | 108 => ⟨S512, .f32⟩
  | 109 => ⟨S1x512, .f32⟩
  | 110 => ⟨S_, .f32⟩
  | 111 => ⟨S4254x512, .f32⟩
  | 112 => ⟨S4254x512, .f32⟩
  | 113 => ⟨S_, .f32⟩
  | 114 => ⟨S32x512, .f32⟩
  | 115 => ⟨S32x512, .f32⟩
  | 116 => ⟨S4224x512, .f32⟩
  | 117 => ⟨S4224x512, .f32⟩
  | 118 => ⟨S4224x512, .f32⟩
  | 119 => ⟨S_, .f32⟩
  | 120 => ⟨S512, .f32⟩
  | 121 => ⟨S1x512, .f32⟩
  | 122 => ⟨S_, .f32⟩
  | 123 => ⟨S4254x512, .f32⟩
  | 124 => ⟨S4254x512, .f32⟩
  | 125 => ⟨S_, .f32⟩
  | 126 => ⟨S32x512, .f32⟩
  | 127 => ⟨S32x512, .f32⟩
  | _ => ⟨S4224x1024, .f32⟩

abbrev hbmTy0_3 (i : Nat) : BufTy := match i % 128 with
  | 0 => ⟨S4224x512, .f32⟩
  | 1 => ⟨S4224x512, .f32⟩
  | 2 => ⟨S4224x512, .f32⟩
  | 3 => ⟨S_, .f32⟩
  | 4 => ⟨S512, .f32⟩
  | 5 => ⟨S1x512, .f32⟩
  | 6 => ⟨S_, .f32⟩
  | 7 => ⟨S4254x512, .f32⟩
  | 8 => ⟨S4254x512, .f32⟩
  | 9 => ⟨S_, .f32⟩
  | 10 => ⟨S32x512, .f32⟩
  | 11 => ⟨S32x512, .f32⟩
  | 12 => ⟨S4224x512, .f32⟩
  | 13 => ⟨S4224x512, .f32⟩
  | 14 => ⟨S4224x512, .f32⟩
  | 15 => ⟨S_, .f32⟩
  | 16 => ⟨S512, .f32⟩
  | 17 => ⟨S1x512, .f32⟩
  | 18 => ⟨S_, .f32⟩
  | 19 => ⟨S4254x512, .f32⟩
  | 20 => ⟨S4254x512, .f32⟩
  | 21 => ⟨S_, .f32⟩
  | 22 => ⟨S32x512, .f32⟩
  | 23 => ⟨S32x512, .f32⟩
  | 24 => ⟨S4224x512, .f32⟩
  | 25 => ⟨S4224x512, .f32⟩
  | 26 => ⟨S4224x512, .f32⟩
  | 27 => ⟨S_, .f32⟩
  | 28 => ⟨S512, .f32⟩
  | 29 => ⟨S1x512, .f32⟩
  | 30 => ⟨S_, .f32⟩
  | 31 => ⟨S4254x512, .f32⟩
  | 32 => ⟨S4254x512, .f32⟩
  | 33 => ⟨S_, .f32⟩
  | 34 => ⟨S32x512, .f32⟩
  | 35 => ⟨S32x512, .f32⟩
  | 36 => ⟨S4224x512, .f32⟩
  | 37 => ⟨S4224x512, .f32⟩
  | 38 => ⟨S4224x512, .f32⟩
  | 39 => ⟨S_, .f32⟩
  | 40 => ⟨S512, .f32⟩
  | 41 => ⟨S1x512, .f32⟩
  | 42 => ⟨S_, .f32⟩
  | 43 => ⟨S4254x512, .f32⟩
  | 44 => ⟨S4254x512, .f32⟩
  | 45 => ⟨S_, .f32⟩
  | 46 => ⟨S32x512, .f32⟩
  | 47 => ⟨S32x512, .f32⟩
  | 48 => ⟨S4224x512, .f32⟩
  | 49 => ⟨S4224x512, .f32⟩
  | 50 => ⟨S4224x512, .f32⟩
  | 51 => ⟨S_, .f32⟩
  | 52 => ⟨S512, .f32⟩
  | 53 => ⟨S1x512, .f32⟩
  | 54 => ⟨S_, .f32⟩
  | 55 => ⟨S4254x512, .f32⟩
  | 56 => ⟨S4254x512, .f32⟩
  | 57 => ⟨S_, .f32⟩
  | 58 => ⟨S32x512, .f32⟩
  | 59 => ⟨S32x512, .f32⟩
  | 60 => ⟨S4224x512, .f32⟩
  | 61 => ⟨S4224x512, .f32⟩
  | 62 => ⟨S4224x512, .f32⟩
  | 63 => ⟨S_, .f32⟩
  | 64 => ⟨S512, .f32⟩
  | 65 => ⟨S1x512, .f32⟩
  | 66 => ⟨S_, .f32⟩
  | 67 => ⟨S4254x512, .f32⟩
  | 68 => ⟨S4254x512, .f32⟩
  | 69 => ⟨S_, .f32⟩
  | 70 => ⟨S32x512, .f32⟩
  | 71 => ⟨S32x512, .f32⟩
  | 72 => ⟨S4224x512, .f32⟩
  | 73 => ⟨S4224x512, .f32⟩
  | 74 => ⟨S4224x512, .f32⟩
  | 75 => ⟨S_, .f32⟩
  | 76 => ⟨S512, .f32⟩
  | 77 => ⟨S1x512, .f32⟩
  | 78 => ⟨S_, .f32⟩
  | 79 => ⟨S4254x512, .f32⟩
  | 80 => ⟨S4254x512, .f32⟩
  | 81 => ⟨S_, .f32⟩
  | 82 => ⟨S32x512, .f32⟩
  | 83 => ⟨S32x512, .f32⟩
  | 84 => ⟨S4224x512, .f32⟩
  | 85 => ⟨S4224x512, .f32⟩
  | 86 => ⟨S4224x512, .f32⟩
  | 87 => ⟨S_, .f32⟩
  | 88 => ⟨S512, .f32⟩
  | 89 => ⟨S1x512, .f32⟩
  | 90 => ⟨S_, .f32⟩
  | 91 => ⟨S4254x512, .f32⟩
  | 92 => ⟨S4254x512, .f32⟩
  | 93 => ⟨S_, .f32⟩
  | 94 => ⟨S32x512, .f32⟩
  | 95 => ⟨S32x512, .f32⟩
  | 96 => ⟨S4224x512, .f32⟩
  | 97 => ⟨S4224x512, .f32⟩
  | 98 => ⟨S4224x512, .f32⟩
  | 99 => ⟨S_, .f32⟩
  | 100 => ⟨S512, .f32⟩
  | 101 => ⟨S1x512, .f32⟩
  | 102 => ⟨S_, .f32⟩
  | 103 => ⟨S4254x512, .f32⟩
  | 104 => ⟨S4254x512, .f32⟩
  | 105 => ⟨S_, .f32⟩
  | 106 => ⟨S32x512, .f32⟩
  | 107 => ⟨S32x512, .f32⟩
  | 108 => ⟨S4224x512, .f32⟩
  | 109 => ⟨S4224x512, .f32⟩
  | 110 => ⟨S4224x512, .f32⟩
  | 111 => ⟨S_, .f32⟩
  | 112 => ⟨S512, .f32⟩
  | 113 => ⟨S1x512, .f32⟩
  | 114 => ⟨S_, .f32⟩
  | 115 => ⟨S4254x512, .f32⟩
  | 116 => ⟨S4254x512, .f32⟩
  | 117 => ⟨S_, .f32⟩
  | 118 => ⟨S32x512, .f32⟩
  | 119 => ⟨S32x512, .f32⟩
  | 120 => ⟨S4224x512, .f32⟩
  | 121 => ⟨S4224x512, .f32⟩
  | 122 => ⟨S4224x512, .f32⟩
  | 123 => ⟨S_, .f32⟩
  | 124 => ⟨S512, .f32⟩
  | 125 => ⟨S1x512, .f32⟩
  | 126 => ⟨S_, .f32⟩
  | 127 => ⟨S4254x512, .f32⟩
  | _ => ⟨S4224x1024, .f32⟩

abbrev hbmTy0_4 (i : Nat) : BufTy := match i % 128 with
  | 0 => ⟨S4254x512, .f32⟩
  | 1 => ⟨S_, .f32⟩
  | 2 => ⟨S32x512, .f32⟩
  | 3 => ⟨S32x512, .f32⟩
  | 4 => ⟨S4224x512, .f32⟩
  | 5 => ⟨S4224x512, .f32⟩
  | 6 => ⟨S4224x512, .f32⟩
  | 7 => ⟨S_, .f32⟩
  | 8 => ⟨S512, .f32⟩
  | 9 => ⟨S1x512, .f32⟩
  | 10 => ⟨S_, .f32⟩
  | 11 => ⟨S4254x512, .f32⟩
  | 12 => ⟨S4254x512, .f32⟩
  | 13 => ⟨S_, .f32⟩
  | 14 => ⟨S32x512, .f32⟩
  | 15 => ⟨S32x512, .f32⟩
  | 16 => ⟨S4224x512, .f32⟩
  | 17 => ⟨S4224x512, .f32⟩
  | 18 => ⟨S4224x512, .f32⟩
  | 19 => ⟨S_, .f32⟩
  | 20 => ⟨S512, .f32⟩
  | 21 => ⟨S1x512, .f32⟩
  | 22 => ⟨S_, .f32⟩
  | 23 => ⟨S4254x512, .f32⟩
  | 24 => ⟨S4254x512, .f32⟩
  | 25 => ⟨S_, .f32⟩
  | 26 => ⟨S32x512, .f32⟩
  | 27 => ⟨S32x512, .f32⟩
  | 28 => ⟨S4224x512, .f32⟩
  | 29 => ⟨S4224x512, .f32⟩
  | 30 => ⟨S4224x512, .f32⟩
  | 31 => ⟨S_, .f32⟩
  | 32 => ⟨S512, .f32⟩
  | 33 => ⟨S1x512, .f32⟩
  | 34 => ⟨S_, .f32⟩
  | 35 => ⟨S4254x512, .f32⟩
  | 36 => ⟨S4254x512, .f32⟩
  | 37 => ⟨S_, .f32⟩
  | 38 => ⟨S32x512, .f32⟩
  | 39 => ⟨S32x512, .f32⟩
  | 40 => ⟨S30x512, .f32⟩
  | 41 => ⟨S4224x512, .f32⟩
  | 42 => ⟨S4224x512, .f32⟩
  | 43 => ⟨S4224x512, .f32⟩
  | 44 => ⟨S4224x512, .f32⟩
  | 45 => ⟨S4224x1024, .f32⟩
  | 46 => ⟨S4224x512, .f32⟩
  | 47 => ⟨S4224x512, .f32⟩
  | _ => ⟨S4224x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_cst_5 : Ref sig .tc := ⟨.hbm, 185, rfl⟩
abbrev main_v176 : Ref sig .tc := ⟨.hbm, 186, rfl⟩
abbrev main_v177 : Ref sig .tc := ⟨.hbm, 187, rfl⟩
abbrev main_cst_6 : Ref sig .tc := ⟨.hbm, 188, rfl⟩
abbrev main_v178 : Ref sig .tc := ⟨.hbm, 189, rfl⟩
abbrev main_cst_7 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_cst_8 : Ref sig .tc := ⟨.hbm, 195, rfl⟩
abbrev main_v183 : Ref sig .tc := ⟨.hbm, 196, rfl⟩
abbrev main_v184 : Ref sig .tc := ⟨.hbm, 197, rfl⟩
abbrev main_cst_9 : Ref sig .tc := ⟨.hbm, 198, rfl⟩
abbrev main_v185 : Ref sig .tc := ⟨.hbm, 199, rfl⟩
abbrev main_v186 : Ref sig .tc := ⟨.hbm, 200, rfl⟩
abbrev main_cst_10 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_cst_11 : Ref sig .tc := ⟨.hbm, 207, rfl⟩
abbrev main_v192 : Ref sig .tc := ⟨.hbm, 208, rfl⟩
abbrev main_v193 : Ref sig .tc := ⟨.hbm, 209, rfl⟩
abbrev main_cst_12 : Ref sig .tc := ⟨.hbm, 210, rfl⟩
abbrev main_v194 : Ref sig .tc := ⟨.hbm, 211, rfl⟩
abbrev main_v195 : Ref sig .tc := ⟨.hbm, 212, rfl⟩
abbrev main_cst_13 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_cst_14 : Ref sig .tc := ⟨.hbm, 219, rfl⟩
abbrev main_v201 : Ref sig .tc := ⟨.hbm, 220, rfl⟩
abbrev main_v202 : Ref sig .tc := ⟨.hbm, 221, rfl⟩
abbrev main_cst_15 : Ref sig .tc := ⟨.hbm, 222, rfl⟩
abbrev main_v203 : Ref sig .tc := ⟨.hbm, 223, rfl⟩
abbrev main_v204 : Ref sig .tc := ⟨.hbm, 224, rfl⟩
abbrev main_cst_16 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_cst_17 : Ref sig .tc := ⟨.hbm, 231, rfl⟩
abbrev main_v210 : Ref sig .tc := ⟨.hbm, 232, rfl⟩
abbrev main_v211 : Ref sig .tc := ⟨.hbm, 233, rfl⟩
abbrev main_cst_18 : Ref sig .tc := ⟨.hbm, 234, rfl⟩
abbrev main_v212 : Ref sig .tc := ⟨.hbm, 235, rfl⟩
abbrev main_v213 : Ref sig .tc := ⟨.hbm, 236, rfl⟩
abbrev main_cst_19 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_cst_20 : Ref sig .tc := ⟨.hbm, 243, rfl⟩
abbrev main_v219 : Ref sig .tc := ⟨.hbm, 244, rfl⟩
abbrev main_v220 : Ref sig .tc := ⟨.hbm, 245, rfl⟩
abbrev main_cst_21 : Ref sig .tc := ⟨.hbm, 246, rfl⟩
abbrev main_v221 : Ref sig .tc := ⟨.hbm, 247, rfl⟩
abbrev main_v222 : Ref sig .tc := ⟨.hbm, 248, rfl⟩
abbrev main_cst_22 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_cst_23 : Ref sig .tc := ⟨.hbm, 255, rfl⟩
abbrev main_v228 : Ref sig .tc := ⟨.hbm, 256, rfl⟩
abbrev main_v229 : Ref sig .tc := ⟨.hbm, 257, rfl⟩
abbrev main_cst_24 : Ref sig .tc := ⟨.hbm, 258, rfl⟩
abbrev main_v230 : Ref sig .tc := ⟨.hbm, 259, rfl⟩
abbrev main_v231 : Ref sig .tc := ⟨.hbm, 260, rfl⟩
abbrev main_cst_25 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_cst_26 : Ref sig .tc := ⟨.hbm, 267, rfl⟩
abbrev main_v237 : Ref sig .tc := ⟨.hbm, 268, rfl⟩
abbrev main_v238 : Ref sig .tc := ⟨.hbm, 269, rfl⟩
abbrev main_cst_27 : Ref sig .tc := ⟨.hbm, 270, rfl⟩
abbrev main_v239 : Ref sig .tc := ⟨.hbm, 271, rfl⟩
abbrev main_v240 : Ref sig .tc := ⟨.hbm, 272, rfl⟩
abbrev main_cst_28 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_cst_29 : Ref sig .tc := ⟨.hbm, 279, rfl⟩
abbrev main_v246 : Ref sig .tc := ⟨.hbm, 280, rfl⟩
abbrev main_v247 : Ref sig .tc := ⟨.hbm, 281, rfl⟩
abbrev main_cst_30 : Ref sig .tc := ⟨.hbm, 282, rfl⟩
abbrev main_v248 : Ref sig .tc := ⟨.hbm, 283, rfl⟩
abbrev main_v249 : Ref sig .tc := ⟨.hbm, 284, rfl⟩
abbrev main_cst_31 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_cst_32 : Ref sig .tc := ⟨.hbm, 291, rfl⟩
abbrev main_v255 : Ref sig .tc := ⟨.hbm, 292, rfl⟩
abbrev main_v256 : Ref sig .tc := ⟨.hbm, 293, rfl⟩
abbrev main_cst_33 : Ref sig .tc := ⟨.hbm, 294, rfl⟩
abbrev main_v257 : Ref sig .tc := ⟨.hbm, 295, rfl⟩
abbrev main_v258 : Ref sig .tc := ⟨.hbm, 296, rfl⟩
abbrev main_cst_34 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_cst_35 : Ref sig .tc := ⟨.hbm, 303, rfl⟩
abbrev main_v264 : Ref sig .tc := ⟨.hbm, 304, rfl⟩
abbrev main_v265 : Ref sig .tc := ⟨.hbm, 305, rfl⟩
abbrev main_cst_36 : Ref sig .tc := ⟨.hbm, 306, rfl⟩
abbrev main_v266 : Ref sig .tc := ⟨.hbm, 307, rfl⟩
abbrev main_v267 : Ref sig .tc := ⟨.hbm, 308, rfl⟩
abbrev main_cst_37 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_cst_38 : Ref sig .tc := ⟨.hbm, 315, rfl⟩
abbrev main_v273 : Ref sig .tc := ⟨.hbm, 316, rfl⟩
abbrev main_v274 : Ref sig .tc := ⟨.hbm, 317, rfl⟩
abbrev main_cst_39 : Ref sig .tc := ⟨.hbm, 318, rfl⟩
abbrev main_v275 : Ref sig .tc := ⟨.hbm, 319, rfl⟩
abbrev main_v276 : Ref sig .tc := ⟨.hbm, 320, rfl⟩
abbrev main_cst_40 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_cst_41 : Ref sig .tc := ⟨.hbm, 327, rfl⟩
abbrev main_v282 : Ref sig .tc := ⟨.hbm, 328, rfl⟩
abbrev main_v283 : Ref sig .tc := ⟨.hbm, 329, rfl⟩
abbrev main_cst_42 : Ref sig .tc := ⟨.hbm, 330, rfl⟩
abbrev main_v284 : Ref sig .tc := ⟨.hbm, 331, rfl⟩
abbrev main_v285 : Ref sig .tc := ⟨.hbm, 332, rfl⟩
abbrev main_cst_43 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_cst_44 : Ref sig .tc := ⟨.hbm, 339, rfl⟩
abbrev main_v291 : Ref sig .tc := ⟨.hbm, 340, rfl⟩
abbrev main_v292 : Ref sig .tc := ⟨.hbm, 341, rfl⟩
abbrev main_cst_45 : Ref sig .tc := ⟨.hbm, 342, rfl⟩
abbrev main_v293 : Ref sig .tc := ⟨.hbm, 343, rfl⟩
abbrev main_v294 : Ref sig .tc := ⟨.hbm, 344, rfl⟩
abbrev main_cst_46 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_cst_47 : Ref sig .tc := ⟨.hbm, 351, rfl⟩
abbrev main_v300 : Ref sig .tc := ⟨.hbm, 352, rfl⟩
abbrev main_v301 : Ref sig .tc := ⟨.hbm, 353, rfl⟩
abbrev main_cst_48 : Ref sig .tc := ⟨.hbm, 354, rfl⟩
abbrev main_v302 : Ref sig .tc := ⟨.hbm, 355, rfl⟩
abbrev main_v303 : Ref sig .tc := ⟨.hbm, 356, rfl⟩
abbrev main_cst_49 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_cst_50 : Ref sig .tc := ⟨.hbm, 363, rfl⟩
abbrev main_v309 : Ref sig .tc := ⟨.hbm, 364, rfl⟩
abbrev main_v310 : Ref sig .tc := ⟨.hbm, 365, rfl⟩
abbrev main_cst_51 : Ref sig .tc := ⟨.hbm, 366, rfl⟩
abbrev main_v311 : Ref sig .tc := ⟨.hbm, 367, rfl⟩
abbrev main_v312 : Ref sig .tc := ⟨.hbm, 368, rfl⟩
abbrev main_cst_52 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_cst_53 : Ref sig .tc := ⟨.hbm, 375, rfl⟩
abbrev main_v318 : Ref sig .tc := ⟨.hbm, 376, rfl⟩
abbrev main_v319 : Ref sig .tc := ⟨.hbm, 377, rfl⟩
abbrev main_cst_54 : Ref sig .tc := ⟨.hbm, 378, rfl⟩
abbrev main_v320 : Ref sig .tc := ⟨.hbm, 379, rfl⟩
abbrev main_v321 : Ref sig .tc := ⟨.hbm, 380, rfl⟩
abbrev main_cst_55 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_cst_56 : Ref sig .tc := ⟨.hbm, 387, rfl⟩
abbrev main_v327 : Ref sig .tc := ⟨.hbm, 388, rfl⟩
abbrev main_v328 : Ref sig .tc := ⟨.hbm, 389, rfl⟩
abbrev main_cst_57 : Ref sig .tc := ⟨.hbm, 390, rfl⟩
abbrev main_v329 : Ref sig .tc := ⟨.hbm, 391, rfl⟩
abbrev main_v330 : Ref sig .tc := ⟨.hbm, 392, rfl⟩
abbrev main_cst_58 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_cst_59 : Ref sig .tc := ⟨.hbm, 399, rfl⟩
abbrev main_v336 : Ref sig .tc := ⟨.hbm, 400, rfl⟩
abbrev main_v337 : Ref sig .tc := ⟨.hbm, 401, rfl⟩
abbrev main_cst_60 : Ref sig .tc := ⟨.hbm, 402, rfl⟩
abbrev main_v338 : Ref sig .tc := ⟨.hbm, 403, rfl⟩
abbrev main_v339 : Ref sig .tc := ⟨.hbm, 404, rfl⟩
abbrev main_cst_61 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_cst_62 : Ref sig .tc := ⟨.hbm, 411, rfl⟩
abbrev main_v345 : Ref sig .tc := ⟨.hbm, 412, rfl⟩
abbrev main_v346 : Ref sig .tc := ⟨.hbm, 413, rfl⟩
abbrev main_cst_63 : Ref sig .tc := ⟨.hbm, 414, rfl⟩
abbrev main_v347 : Ref sig .tc := ⟨.hbm, 415, rfl⟩
abbrev main_v348 : Ref sig .tc := ⟨.hbm, 416, rfl⟩
abbrev main_cst_64 : Ref sig .tc := ⟨.hbm, 417, rfl⟩
abbrev main_v349 : Ref sig .tc := ⟨.hbm, 418, rfl⟩
abbrev main_v350 : Ref sig .tc := ⟨.hbm, 419, rfl⟩
abbrev main_v351 : Ref sig .tc := ⟨.hbm, 420, rfl⟩
abbrev main_v352 : Ref sig .tc := ⟨.hbm, 421, rfl⟩
abbrev main_v353 : Ref sig .tc := ⟨.hbm, 422, rfl⟩
abbrev main_cst_65 : Ref sig .tc := ⟨.hbm, 423, rfl⟩
abbrev main_v354 : Ref sig .tc := ⟨.hbm, 424, rfl⟩
abbrev main_v355 : Ref sig .tc := ⟨.hbm, 425, rfl⟩
abbrev main_cst_66 : Ref sig .tc := ⟨.hbm, 426, rfl⟩
abbrev main_v356 : Ref sig .tc := ⟨.hbm, 427, rfl⟩
abbrev main_v357 : Ref sig .tc := ⟨.hbm, 428, rfl⟩
abbrev main_cst_67 : Ref sig .tc := ⟨.hbm, 429, rfl⟩
abbrev main_v358 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_cst_68 : Ref sig .tc := ⟨.hbm, 435, rfl⟩
abbrev main_v363 : Ref sig .tc := ⟨.hbm, 436, rfl⟩
abbrev main_v364 : Ref sig .tc := ⟨.hbm, 437, rfl⟩
abbrev main_cst_69 : Ref sig .tc := ⟨.hbm, 438, rfl⟩
abbrev main_v365 : Ref sig .tc := ⟨.hbm, 439, rfl⟩
abbrev main_v366 : Ref sig .tc := ⟨.hbm, 440, rfl⟩
abbrev main_cst_70 : Ref sig .tc := ⟨.hbm, 441, rfl⟩
abbrev main_v367 : Ref sig .tc := ⟨.hbm, 442, rfl⟩
abbrev main_v368 : Ref sig .tc := ⟨.hbm, 443, rfl⟩
abbrev main_v369 : Ref sig .tc := ⟨.hbm, 444, rfl⟩
abbrev main_v370 : Ref sig .tc := ⟨.hbm, 445, rfl⟩
abbrev main_v371 : Ref sig .tc := ⟨.hbm, 446, rfl⟩
abbrev main_cst_71 : Ref sig .tc := ⟨.hbm, 447, rfl⟩
abbrev main_v372 : Ref sig .tc := ⟨.hbm, 448, rfl⟩
abbrev main_v373 : Ref sig .tc := ⟨.hbm, 449, rfl⟩
abbrev main_cst_72 : Ref sig .tc := ⟨.hbm, 450, rfl⟩
abbrev main_v374 : Ref sig .tc := ⟨.hbm, 451, rfl⟩
abbrev main_v375 : Ref sig .tc := ⟨.hbm, 452, rfl⟩
abbrev main_cst_73 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_v379 : Ref sig .tc := ⟨.hbm, 457, rfl⟩
abbrev main_v380 : Ref sig .tc := ⟨.hbm, 458, rfl⟩
abbrev main_cst_74 : Ref sig .tc := ⟨.hbm, 459, rfl⟩
abbrev main_v381 : Ref sig .tc := ⟨.hbm, 460, rfl⟩
abbrev main_v382 : Ref sig .tc := ⟨.hbm, 461, rfl⟩
abbrev main_cst_75 : Ref sig .tc := ⟨.hbm, 462, rfl⟩
abbrev main_v383 : Ref sig .tc := ⟨.hbm, 463, rfl⟩
abbrev main_v384 : Ref sig .tc := ⟨.hbm, 464, rfl⟩
abbrev main_cst_76 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_cst_77 : Ref sig .tc := ⟨.hbm, 471, rfl⟩
abbrev main_v390 : Ref sig .tc := ⟨.hbm, 472, rfl⟩
abbrev main_v391 : Ref sig .tc := ⟨.hbm, 473, rfl⟩
abbrev main_cst_78 : Ref sig .tc := ⟨.hbm, 474, rfl⟩
abbrev main_v392 : Ref sig .tc := ⟨.hbm, 475, rfl⟩
abbrev main_v393 : Ref sig .tc := ⟨.hbm, 476, rfl⟩
abbrev main_cst_79 : Ref sig .tc := ⟨.hbm, 477, rfl⟩
abbrev main_v394 : Ref sig .tc := ⟨.hbm, 478, rfl⟩
abbrev main_v395 : Ref sig .tc := ⟨.hbm, 479, rfl⟩
abbrev main_v396 : Ref sig .tc := ⟨.hbm, 480, rfl⟩
abbrev main_v397 : Ref sig .tc := ⟨.hbm, 481, rfl⟩
abbrev main_v398 : Ref sig .tc := ⟨.hbm, 482, rfl⟩
abbrev main_cst_80 : Ref sig .tc := ⟨.hbm, 483, rfl⟩
abbrev main_v399 : Ref sig .tc := ⟨.hbm, 484, rfl⟩
abbrev main_v400 : Ref sig .tc := ⟨.hbm, 485, rfl⟩
abbrev main_cst_81 : Ref sig .tc := ⟨.hbm, 486, rfl⟩
abbrev main_v401 : Ref sig .tc := ⟨.hbm, 487, rfl⟩
abbrev main_v402 : Ref sig .tc := ⟨.hbm, 488, rfl⟩
abbrev main_cst_82 : Ref sig .tc := ⟨.hbm, 489, rfl⟩
abbrev main_v403 : Ref sig .tc := ⟨.hbm, 490, rfl⟩
abbrev main_v404 : Ref sig .tc := ⟨.hbm, 491, rfl⟩
abbrev main_v405 : Ref sig .tc := ⟨.hbm, 492, rfl⟩
abbrev main_v406 : Ref sig .tc := ⟨.hbm, 493, rfl⟩
abbrev main_v407 : Ref sig .tc := ⟨.hbm, 494, rfl⟩
abbrev main_cst_83 : Ref sig .tc := ⟨.hbm, 495, rfl⟩
abbrev main_v408 : Ref sig .tc := ⟨.hbm, 496, rfl⟩
abbrev main_v409 : Ref sig .tc := ⟨.hbm, 497, rfl⟩
abbrev main_cst_84 : Ref sig .tc := ⟨.hbm, 498, rfl⟩
abbrev main_v410 : Ref sig .tc := ⟨.hbm, 499, rfl⟩
abbrev main_v411 : Ref sig .tc := ⟨.hbm, 500, rfl⟩
abbrev main_cst_85 : Ref sig .tc := ⟨.hbm, 501, rfl⟩
abbrev main_v412 : Ref sig .tc := ⟨.hbm, 502, rfl⟩
abbrev main_v413 : Ref sig .tc := ⟨.hbm, 503, rfl⟩
abbrev main_v414 : Ref sig .tc := ⟨.hbm, 504, rfl⟩
abbrev main_v415 : Ref sig .tc := ⟨.hbm, 505, rfl⟩
abbrev main_v416 : Ref sig .tc := ⟨.hbm, 506, rfl⟩
abbrev main_cst_86 : Ref sig .tc := ⟨.hbm, 507, rfl⟩
abbrev main_v417 : Ref sig .tc := ⟨.hbm, 508, rfl⟩
abbrev main_v418 : Ref sig .tc := ⟨.hbm, 509, rfl⟩
abbrev main_cst_87 : Ref sig .tc := ⟨.hbm, 510, rfl⟩
abbrev main_v419 : Ref sig .tc := ⟨.hbm, 511, rfl⟩
abbrev main_v420 : Ref sig .tc := ⟨.hbm, 512, rfl⟩
abbrev main_cst_88 : Ref sig .tc := ⟨.hbm, 513, rfl⟩
abbrev main_v421 : Ref sig .tc := ⟨.hbm, 514, rfl⟩
abbrev main_v422 : Ref sig .tc := ⟨.hbm, 515, rfl⟩
abbrev main_v423 : Ref sig .tc := ⟨.hbm, 516, rfl⟩
abbrev main_v424 : Ref sig .tc := ⟨.hbm, 517, rfl⟩
abbrev main_v425 : Ref sig .tc := ⟨.hbm, 518, rfl⟩
abbrev main_cst_89 : Ref sig .tc := ⟨.hbm, 519, rfl⟩
abbrev main_v426 : Ref sig .tc := ⟨.hbm, 520, rfl⟩
abbrev main_v427 : Ref sig .tc := ⟨.hbm, 521, rfl⟩
abbrev main_cst_90 : Ref sig .tc := ⟨.hbm, 522, rfl⟩
abbrev main_v428 : Ref sig .tc := ⟨.hbm, 523, rfl⟩
abbrev main_v429 : Ref sig .tc := ⟨.hbm, 524, rfl⟩
abbrev main_cst_91 : Ref sig .tc := ⟨.hbm, 525, rfl⟩
abbrev main_v430 : Ref sig .tc := ⟨.hbm, 526, rfl⟩
abbrev main_v431 : Ref sig .tc := ⟨.hbm, 527, rfl⟩
abbrev main_v432 : Ref sig .tc := ⟨.hbm, 528, rfl⟩
abbrev main_v433 : Ref sig .tc := ⟨.hbm, 529, rfl⟩
abbrev main_v434 : Ref sig .tc := ⟨.hbm, 530, rfl⟩
abbrev main_cst_92 : Ref sig .tc := ⟨.hbm, 531, rfl⟩
abbrev main_v435 : Ref sig .tc := ⟨.hbm, 532, rfl⟩
abbrev main_v436 : Ref sig .tc := ⟨.hbm, 533, rfl⟩
abbrev main_cst_93 : Ref sig .tc := ⟨.hbm, 534, rfl⟩
abbrev main_v437 : Ref sig .tc := ⟨.hbm, 535, rfl⟩
abbrev main_v438 : Ref sig .tc := ⟨.hbm, 536, rfl⟩
abbrev main_cst_94 : Ref sig .tc := ⟨.hbm, 537, rfl⟩
abbrev main_v439 : Ref sig .tc := ⟨.hbm, 538, rfl⟩
abbrev main_v440 : Ref sig .tc := ⟨.hbm, 539, rfl⟩
abbrev main_v441 : Ref sig .tc := ⟨.hbm, 540, rfl⟩
abbrev main_v442 : Ref sig .tc := ⟨.hbm, 541, rfl⟩
abbrev main_v443 : Ref sig .tc := ⟨.hbm, 542, rfl⟩
abbrev main_cst_95 : Ref sig .tc := ⟨.hbm, 543, rfl⟩
abbrev main_v444 : Ref sig .tc := ⟨.hbm, 544, rfl⟩
abbrev main_v445 : Ref sig .tc := ⟨.hbm, 545, rfl⟩
abbrev main_cst_96 : Ref sig .tc := ⟨.hbm, 546, rfl⟩
abbrev main_v446 : Ref sig .tc := ⟨.hbm, 547, rfl⟩
abbrev main_v447 : Ref sig .tc := ⟨.hbm, 548, rfl⟩
abbrev main_cst_97 : Ref sig .tc := ⟨.hbm, 549, rfl⟩
abbrev main_v448 : Ref sig .tc := ⟨.hbm, 550, rfl⟩
abbrev main_v449 : Ref sig .tc := ⟨.hbm, 551, rfl⟩
abbrev main_v450 : Ref sig .tc := ⟨.hbm, 552, rfl⟩
abbrev main_v451 : Ref sig .tc := ⟨.hbm, 553, rfl⟩
abbrev main_v452 : Ref sig .tc := ⟨.hbm, 554, rfl⟩
abbrev main_v453 : Ref sig .tc := ⟨.hbm, 555, rfl⟩
abbrev main_v454 : Ref sig .tc := ⟨.hbm, 556, rfl⟩
abbrev main_v455 : Ref sig .tc := ⟨.hbm, 557, rfl⟩
abbrev main_v456 : Ref sig .tc := ⟨.hbm, 558, rfl⟩
abbrev main_v457 : Ref sig .tc := ⟨.hbm, 559, rfl⟩

abbrev nD : Nat := 1
abbrev τ : Topo := Topo.v7x

variable {F : FTy → Type} [FloatOps F]
-- ==== Kernel2.lean ====
abbrev S4224x1024 : Shape := ⟨2, ![4224, 1024]⟩
abbrev S1x1024 : Shape := ⟨2, ![1, 1024]⟩
abbrev S1024x4096 : Shape := ⟨2, ![1024, 4096]⟩
abbrev S4096x1024 : Shape := ⟨2, ![4096, 1024]⟩
abbrev S4224x4096 : Shape := ⟨2, ![4224, 4096]⟩
abbrev S192x1024 : Shape := ⟨2, ![192, 1024]⟩
abbrev S192x4096 : Shape := ⟨2, ![192, 4096]⟩
abbrev S192 : Shape := ⟨1, ![192]⟩
abbrev S192x1 : Shape := ⟨2, ![192, 1]⟩
abbrev S8x1024 : Shape := ⟨2, ![8, 1024]⟩
abbrev S24x8x1024 : Shape := ⟨3, ![24, 8, 1024]⟩
abbrev S_ : Shape := ⟨0, ![]⟩
abbrev S1024 : Shape := ⟨1, ![1024]⟩
abbrev S4x1024x1024 : Shape := ⟨3, ![4, 1024, 1024]⟩
abbrev S2112x1024 : Shape := ⟨2, ![2112, 1024]⟩
abbrev S1x1024x1024 : Shape := ⟨3, ![1, 1024, 1024]⟩
abbrev S1024x1024 : Shape := ⟨2, ![1024, 1024]⟩
abbrev S384x4096 : Shape := ⟨2, ![384, 4096]⟩
abbrev S384x512 : Shape := ⟨2, ![384, 512]⟩
abbrev S4096x512 : Shape := ⟨2, ![4096, 512]⟩

abbrev nBuf : Space → Nat
  | .hbm => 20
  | .vmem => 39
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4224x1024, .f32⟩
  | .hbm, ⟨5, _⟩ => ⟨S1024x4096, .bf16⟩
  | .hbm, ⟨6, _⟩ => ⟨S4096x1024, .bf16⟩
  | .hbm, ⟨7, _⟩ => ⟨S4224x1024, .f32⟩
  | .hbm, ⟨8, _⟩ => ⟨S4224x4096, .f32⟩
  | .hbm, ⟨9, _⟩ => ⟨S4096x1024, .bf16⟩
  | .hbm, ⟨10, _⟩ => ⟨S1024x4096, .bf16⟩
  | .hbm, ⟨11, _⟩ => ⟨S4224x1024, .f32⟩
  | .hbm, ⟨12, _⟩ => ⟨S4224x1024, .bf16⟩
  | .hbm, ⟨13, _⟩ => ⟨S4224x4096, .bf16⟩
  | .hbm, ⟨14, _⟩ => ⟨S4224x4096, .bf16⟩
  | .hbm, ⟨15, _⟩ => ⟨S8x1024, .f32⟩
  | .hbm, ⟨16, _⟩ => ⟨S_, .f32⟩
  | .hbm, ⟨17, _⟩ => ⟨S1024, .f32⟩
  | .hbm, ⟨18, _⟩ => ⟨S4x1024x1024, .f32⟩
  | .hbm, ⟨19, _⟩ => ⟨S4096x1024, .f32⟩
  | .local _ .vmem, ⟨0, _⟩ => ⟨S192x1024, .f32⟩
  | .local _ .vmem, ⟨1, _⟩ => ⟨S192x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S192x1024, .f32⟩
  | .local _ .vmem, ⟨6, _⟩ => ⟨S192x1024, .f32⟩
  | .local _ .vmem, ⟨7, _⟩ => ⟨S192x4096, .f32⟩
  | .local _ .vmem, ⟨8, _⟩ => ⟨S192x4096, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x4096, .f32⟩
  | .local _ .vmem, ⟨14, _⟩ => ⟨S192x4096, .f32⟩
  | .local _ .vmem, ⟨15, _⟩ => ⟨S1x1024, .f32⟩
  | .local _ .vmem, ⟨16, _⟩ => ⟨S4096x1024, .bf16⟩
  | .local _ .vmem, ⟨17, _⟩ => ⟨S1024x4096, .bf16⟩
  | .local _ .vmem, ⟨18, _⟩ => ⟨S192x1024, .f32⟩
  | .local _ .vmem, ⟨19, _⟩ => ⟨S192x1024, .f32⟩
  | .local _ .vmem, ⟨20, _⟩ => ⟨S192x1024, .bf16⟩
  | .local _ .vmem, ⟨21, _⟩ => ⟨S192x1024, .bf16⟩
  | .local _ .vmem, ⟨22, _⟩ => ⟨S192x4096, .bf16⟩
  | .local _ .vmem, ⟨23, _⟩ => ⟨S192x4096, .bf16⟩
  | .local _ .vmem, ⟨24, _⟩ => ⟨S192x4096, .bf16⟩
  | .local _ .vmem, ⟨25, _⟩ => ⟨S192x4096, .bf16⟩
  | .local _ .vmem, ⟨26, _⟩ => ⟨S8x1024, .f32⟩
  | .local _ .vmem, ⟨27, _⟩ => ⟨S2112x1024, .bf16⟩
  | .local _ .vmem, ⟨28, _⟩ => ⟨S2112x1024, .bf16⟩
  | .local _ .vmem, ⟨29, _⟩ => ⟨S2112x1024, .bf16⟩
  | .local _ .vmem, ⟨30, _⟩ => ⟨S2112x1024, .bf16⟩
  | .local _ .vmem, ⟨31, _⟩ => ⟨S1x1024x1024, .f32⟩
  | .local _ .vmem, ⟨32, _⟩ => ⟨S1x1024x1024, .f32⟩
  | .local _ .vmem, ⟨33, _⟩ => ⟨S384x4096, .bf16⟩
  | .local _ .vmem, ⟨34, _⟩ => ⟨S384x4096, .bf16⟩
  | .local _ .vmem, ⟨35, _⟩ => ⟨S384x512, .f32⟩
  | .local _ .vmem, ⟨36, _⟩ => ⟨S384x512, .f32⟩
  | .local _ .vmem, ⟨37, _⟩ => ⟨S4096x512, .f32⟩
  | .local _ .vmem, ⟨38, _⟩ => ⟨S4096x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S192x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S192x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S192x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S192x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S192x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S192x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S192x4096 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage2_0 : Fin 2 → Memref sig .tc .vmem S2112x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2112x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S384x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S384x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S4096x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== Reference2Ideal.lean ====
abbrev S4224x1024 : Shape := ⟨2, ![4224, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4224 : Shape := ⟨1, ![4224]⟩
abbrev S4224x1 : Shape := ⟨2, ![4224, 1]⟩
abbrev S4224x4096 : Shape := ⟨2, ![4224, 4096]⟩
abbrev S1024 : Shape := ⟨1, ![1024]⟩
abbrev S1024x4x1024 : Shape := ⟨3, ![1024, 4, 1024]⟩
abbrev S4x1024x1024 : Shape := ⟨3, ![4, 1024, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x4096, .f32⟩
  | .hbm, ⟨25, _⟩ => ⟨S_, .f32⟩
  | .hbm, ⟨26, _⟩ => ⟨S4224x4096, .f32⟩
  | .hbm, ⟨27, _⟩ => ⟨S4224x4096, .f32⟩
  | .hbm, ⟨28, _⟩ => ⟨S_, .f32⟩
  | .hbm, ⟨29, _⟩ => ⟨S4224x4096, .f32⟩
  | .hbm, ⟨30, _⟩ => ⟨S4224x4096, .i1⟩
  | .hbm, ⟨31, _⟩ => ⟨S_, .f32⟩
  | .hbm, ⟨32, _⟩ => ⟨S4224x4096, .f32⟩
  | .hbm, ⟨33, _⟩ => ⟨S4224x4096, .f32⟩
  | .hbm, ⟨34, _⟩ => ⟨S_, .f32⟩
  | .hbm, ⟨35, _⟩ => ⟨S4224x4096, .f32⟩
  | .hbm, ⟨36, _⟩ => ⟨S4224x4096, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S1024x4096, .f32⟩
  | .hbm, ⟨41, _⟩ => ⟨S4096x1024, .f32⟩
  | .hbm, ⟨42, _⟩ => ⟨S4224x4096, .f32⟩
  | .hbm, ⟨43, _⟩ => ⟨S4224x4096, .f32⟩
  | .hbm, ⟨44, _⟩ => ⟨S_, .f32⟩
  | .hbm, ⟨45, _⟩ => ⟨S4224x4096, .f32⟩
  | .hbm, ⟨46, _⟩ => ⟨S4224x4096, .f32⟩
  | .hbm, ⟨47, _⟩ => ⟨S4096x1024, .f32⟩
  | .hbm, ⟨48, _⟩ => ⟨S1024x4096, .f32⟩
  | .hbm, ⟨49, _⟩ => ⟨S4224x1024, .f32⟩
  | .hbm, ⟨50, _⟩ => ⟨S4224x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4224x1024, .f32⟩
  | .hbm, ⟨55, _⟩ => ⟨S4224x1024, .f32⟩
  | .hbm, ⟨56, _⟩ => ⟨S4224x1024, .f32⟩
  | .hbm, ⟨57, _⟩ => ⟨S_, .f32⟩
  | .hbm, ⟨58, _⟩ => ⟨S4224, .f32⟩
  | .hbm, ⟨59, _⟩ => ⟨S4224x1, .f32⟩
  | .hbm, ⟨60, _⟩ => ⟨S4224x1024, .f32⟩
  | .hbm, ⟨61, _⟩ => ⟨S4224x1024, .f32⟩
  | .hbm, ⟨62, _⟩ => ⟨S4224x1024, .f32⟩
  | .hbm, ⟨63, _⟩ => ⟨S4224x1, .f32⟩
  | .hbm, ⟨64, _⟩ => ⟨S_, .f32⟩
  | .hbm, ⟨65, _⟩ => ⟨S4224x1, .f32⟩
  | .hbm, ⟨66, _⟩ => ⟨S4224x1, .f32⟩
  | .hbm, ⟨67, _⟩ => ⟨S_, .f32⟩
  | .hbm, ⟨68, _⟩ => ⟨S4224, .f32⟩
  | .hbm, ⟨69, _⟩ => ⟨S4224x1024, .f32⟩
  | .hbm, ⟨70, _⟩ => ⟨S4224x1024, .f32⟩
  | .hbm, ⟨71, _⟩ => ⟨S4224x1024, .f32⟩
  | .hbm, ⟨72, _⟩ => ⟨S4224x1024, .f32⟩
  | .hbm, ⟨73, _⟩ => ⟨S4224x1024, .f32⟩
  | .hbm, ⟨74, _⟩ => ⟨S1024, .f32⟩
  | .hbm, ⟨75, _⟩ => ⟨S1024x4x1024, .f32⟩
  | .hbm, ⟨76, _⟩ => ⟨S4x1024x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel3.lean ====
abbrev S4224x1024 : Shape := ⟨2, ![4224, 1024]⟩
abbrev S1x1024 : Shape := ⟨2, ![1, 1024]⟩
abbrev S1024x6656 : Shape := ⟨2, ![1024, 6656]⟩
abbrev S4224x6656 : Shape := ⟨2, ![4224, 6656]⟩
abbrev S4224x3072 : Shape := ⟨2, ![4224, 3072]⟩
abbrev S4224x2048 : Shape := ⟨2, ![4224, 2048]⟩
abbrev S4224x256 : Shape := ⟨2, ![4224, 256]⟩
abbrev S4224x128 : Shape := ⟨2, ![4224, 128]⟩
abbrev S192x1024 : Shape := ⟨2, ![192, 1024]⟩
abbrev S192x3072 : Shape := ⟨2, ![192, 3072]⟩
abbrev S192x2048 : Shape := ⟨2, ![192, 2048]⟩
abbrev S192x256 : Shape := ⟨2, ![192, 256]⟩
abbrev S192x128 : Shape := ⟨2, ![192, 128]⟩
abbrev S192 : Shape := ⟨1, ![192]⟩
abbrev S192x1 : Shape := ⟨2, ![192, 1]⟩
abbrev S1024x3072 : Shape := ⟨2, ![1024, 3072]⟩
abbrev S1024x1024 : Shape := ⟨2, ![1024, 1024]⟩
abbrev S1024x2048 : Shape := ⟨2, ![1024, 2048]⟩
abbrev S1024x256 : Shape := ⟨2, ![1024, 256]⟩
abbrev S1024x128 : Shape := ⟨2, ![1024, 128]⟩
abbrev S6656x1024 : Shape := ⟨2, ![6656, 1024]⟩
abbrev S8x1024 : Shape := ⟨2, ![8, 1024]⟩
abbrev S384x6656 : Shape := ⟨2, ![384, 6656]⟩
abbrev S384x1024 : Shape := ⟨2, ![384, 1024]⟩
abbrev S384 : Shape := ⟨1, ![384]⟩
abbrev S384x1 : Shape := ⟨2, ![384, 1]⟩
abbrev S48x8x1024 : Shape := ⟨3, ![48, 8, 1024]⟩
abbrev S_ : Shape := ⟨0, ![]⟩
abbrev S1024 : Shape := ⟨1, ![1024]⟩
abbrev S384x3328 : Shape := ⟨2, ![384, 3328]⟩
abbrev S1024x3328 : Shape := ⟨2, ![1024, 3328]⟩

abbrev nBuf : Space → Nat
  | .hbm => 19
  | .vmem => 35
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x6656, .f32⟩
  | .hbm, ⟨3, _⟩ => ⟨S4224x6656, .bf16⟩
  | .hbm, ⟨4, _⟩ => ⟨S4224x1024, .f32⟩
  | .hbm, ⟨5, _⟩ => ⟨S1024x6656, .bf16⟩
  | .hbm, ⟨6, _⟩ => ⟨S4224x3072, .f32⟩
  | .hbm, ⟨7, _⟩ => ⟨S4224x1024, .f32⟩
  | .hbm, ⟨8, _⟩ => ⟨S4224x2048, .f32⟩
  | .hbm, ⟨9, _⟩ => ⟨S4224x256, .f32⟩
  | .hbm, ⟨10, _⟩ => ⟨S4224x128, .f32⟩
  | .hbm, ⟨11, _⟩ => ⟨S4224x128, .f32⟩
  | .hbm, ⟨12, _⟩ => ⟨S4224x1024, .bf16⟩
  | .hbm, ⟨13, _⟩ => ⟨S6656x1024, .bf16⟩
  | .hbm, ⟨14, _⟩ => ⟨S4224x1024, .f32⟩
  | .hbm, ⟨15, _⟩ => ⟨S8x1024, .f32⟩
  | .hbm, ⟨16, _⟩ => ⟨S_, .f32⟩
  | .hbm, ⟨17, _⟩ => ⟨S1024, .f32⟩
  | .hbm, ⟨18, _⟩ => ⟨S1024x6656, .f32⟩
  | .local _ .vmem, ⟨0, _⟩ => ⟨S192x1024, .f32⟩
  | .local _ .vmem, ⟨1, _⟩ => ⟨S192x1024, .f32⟩
  | .local _ .vmem, ⟨2, _⟩ => ⟨S1x1024, .f32⟩
  | .local _ .vmem, ⟨3, _⟩ => ⟨S1024x6656, .bf16⟩
  | .local _ .vmem, ⟨4, _⟩ => ⟨S192x3072, .f32⟩
  | .local _ .vmem, ⟨5, _⟩ => ⟨S192x3072, .f32⟩
  | .local _ .vmem, ⟨6, _⟩ => ⟨S192x1024, .f32⟩
  | .local _ .vmem, ⟨7, _⟩ => ⟨S192x1024, .f32⟩
  | .local _ .vmem, ⟨8, _⟩ => ⟨S192x2048, .f32⟩
  | .local _ .vmem, ⟨9, _⟩ => ⟨S192x2048, .f32⟩
  | .local _ .vmem, ⟨10, _⟩ => ⟨S192x256, .f32⟩
  | .local _ .vmem, ⟨11, _⟩ => ⟨S192x256, .f32⟩
  | .local _ .vmem, ⟨12, _⟩ => ⟨S192x128, .f32⟩
  | .local _ .vmem, ⟨13, _⟩ => ⟨S192x128, .f32⟩
  | .local _ .vmem, ⟨14, _⟩ => ⟨S192x128, .f32⟩
  | .local _ .vmem, ⟨15, _⟩ => ⟨S192x128, .f32⟩
  | .local _ .vmem, ⟨16, _⟩ => ⟨S192x1024, .bf16⟩
  | .local _ .vmem, ⟨17, _⟩ => ⟨S192x1024, .bf16⟩
  | .local _ .vmem, ⟨18, _⟩ => ⟨S384x6656, .bf16⟩
  | .local _ .vmem, ⟨19, _⟩ => ⟨S384x6656, .bf16⟩
  | .local _ .vmem, ⟨20, _⟩ => ⟨S384x1024, .f32⟩
  | .local _ .vmem, ⟨21, _⟩ => ⟨S384x1024, .f32⟩
  | .local _ .vmem, ⟨22, _⟩ => ⟨S384x1024, .f32⟩
  | .local _ .vmem, ⟨23, _⟩ => ⟨S384x1024, .f32⟩
  | .local _ .vmem, ⟨24, _⟩ => ⟨S1x1024, .f32⟩
  | .local _ .vmem, ⟨25, _⟩ => ⟨S6656x1024, .bf16⟩
  | .local _ .vmem, ⟨26, _⟩ => ⟨S384x1024, .f32⟩
  | .local _ .vmem, ⟨27, _⟩ => ⟨S384x1024, .f32⟩
  | .local _ .vmem, ⟨28, _⟩ => ⟨S8x1024, .f32⟩
  | .local _ .vmem, ⟨29, _⟩ => ⟨S384x1024, .bf16⟩
  | .local _ .vmem, ⟨30, _⟩ => ⟨S384x1024, .bf16⟩
  | .local _ .vmem, ⟨31, _⟩ => ⟨S384x3328, .bf16⟩
  | .local _ .vmem, ⟨32, _⟩ => ⟨S384x3328, .bf16⟩
  | .local _ .vmem, ⟨33, _⟩ => ⟨S1024x3328, .f32⟩
  | .local _ .vmem, ⟨34, _⟩ => ⟨S1024x3328, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v1_6 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem5_1 : DmaSem sig := 27
abbrev cc1_sem6_0 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S384x6656 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S384x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S384x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S6656x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S384x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S8x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨2, ![2, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S384x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S384x3328 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x3328 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]
-- ==== Reference3Ideal.lean ====
abbrev S4224x1024 : Shape := ⟨2, ![4224, 1024]⟩
abbrev S1x1024 : Shape := ⟨2, ![1, 1024]⟩
abbrev S1024x6656 : Shape := ⟨2, ![1024, 6656]⟩
abbrev S4224x6656 : Shape := ⟨2, ![4224, 6656]⟩
abbrev S_ : Shape := ⟨0, ![]⟩
abbrev S4224 : Shape := ⟨1, ![4224]⟩
abbrev S4224x1 : Shape := ⟨2, ![4224, 1]⟩
abbrev S6656x1024 : Shape := ⟨2, ![6656, 1024]⟩
abbrev S1024 : Shape := ⟨1, ![1024]⟩
abbrev S4224x3072 : Shape := ⟨2, ![4224, 3072]⟩
abbrev S4224x2048 : Shape := ⟨2, ![4224, 2048]⟩
abbrev S4224x256 : Shape := ⟨2, ![4224, 256]⟩
abbrev S4224x128 : Shape := ⟨2, ![4224, 128]⟩

abbrev nBuf : Space → Nat
  | .hbm => 74
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x6656, .f32⟩
  | .hbm, ⟨3, _⟩ => ⟨S4224x6656, .bf16⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x6656, .f32⟩
  | .hbm, ⟨25, _⟩ => ⟨S4224x6656, .f32⟩
  | .hbm, ⟨26, _⟩ => ⟨S6656x1024, .f32⟩
  | .hbm, ⟨27, _⟩ => ⟨S1024x6656, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S4224x1024, .f32⟩
  | .hbm, ⟨40, _⟩ => ⟨S4224x1024, .f32⟩
  | .hbm, ⟨41, _⟩ => ⟨S4224x1, .f32⟩
  | .hbm, ⟨42, _⟩ => ⟨S_, .f32⟩
  | .hbm, ⟨43, _⟩ => ⟨S4224x1, .f32⟩
  | .hbm, ⟨44, _⟩ => ⟨S4224x1, .f32⟩
  | .hbm, ⟨45, _⟩ => ⟨S_, .f32⟩
  | .hbm, ⟨46, _⟩ => ⟨S4224, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224, .i32⟩
  | .hbm, ⟨53, _⟩ => ⟨S4224x1, .i32⟩
  | .hbm, ⟨54, _⟩ => ⟨S_, .i32⟩
  | .hbm, ⟨55, _⟩ => ⟨S4224x1, .i32⟩
  | .hbm, ⟨56, _⟩ => ⟨S4224x1, .i1⟩
  | .hbm, ⟨57, _⟩ => ⟨S_, .i32⟩
  | .hbm, ⟨58, _⟩ => ⟨S4224x1, .i32⟩
  | .hbm, ⟨59, _⟩ => ⟨S4224x1, .i1⟩
  | .hbm, ⟨60, _⟩ => ⟨S4224x1, .i1⟩
  | .hbm, ⟨61, _⟩ => ⟨S4224x1024, .f32⟩
  | .hbm, ⟨62, _⟩ => ⟨S_, .f32⟩
  | .hbm, ⟨63, _⟩ => ⟨S_, .f32⟩
  | .hbm, ⟨64, _⟩ => ⟨S4224x1024, .i1⟩
  | .hbm, ⟨65, _⟩ => ⟨S4224x1024, .f32⟩
  | .hbm, ⟨66, _⟩ => ⟨S4224x1024, .f32⟩
  | .hbm, ⟨67, _⟩ => ⟨S4224x3072, .f32⟩
  | .hbm, ⟨68, _⟩ => ⟨S4224x1024, .f32⟩
  | .hbm, ⟨69, _⟩ => ⟨S4224x2048, .f32⟩
  | .hbm, ⟨70, _⟩ => ⟨S4224x256, .f32⟩
  | .hbm, ⟨71, _⟩ => ⟨S4224x128, .f32⟩
  | .hbm, ⟨72, _⟩ => ⟨S4224x128, .f32⟩
  | .hbm, ⟨73, _⟩ => ⟨S1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel4.lean ====
abbrev S4224x1024 : Shape := ⟨2, ![4224, 1024]⟩
abbrev S4224x512 : Shape := ⟨2, ![4224, 512]⟩
abbrev S4224x2048 : Shape := ⟨2, ![4224, 2048]⟩
abbrev S4224x3072 : Shape := ⟨2, ![4224, 3072]⟩
abbrev S1x512 : Shape := ⟨2, ![1, 512]⟩
abbrev S512x1024 : Shape := ⟨2, ![512, 1024]⟩
abbrev S1024x1024 : Shape := ⟨2, ![1024, 1024]⟩
abbrev S384x1024 : Shape := ⟨2, ![384, 1024]⟩
abbrev S384x512 : Shape := ⟨2, ![384, 512]⟩
abbrev S384x3072 : Shape := ⟨2, ![384, 3072]⟩
abbrev S384 : Shape := ⟨1, ![384]⟩
abbrev S384x1 : Shape := ⟨2, ![384, 1]⟩
abbrev S384x128 : Shape := ⟨2, ![384, 128]⟩
abbrev S1x128 : Shape := ⟨2, ![1, 128]⟩

abbrev nBuf : Space → Nat
  | .hbm => 24
  | .vmem => 33
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x1024, .f32⟩
  | .hbm, ⟨3, _⟩ => ⟨S4224x512, .f32⟩
  | .hbm, ⟨4, _⟩ => ⟨S4224x2048, .f32⟩
  | .hbm, ⟨5, _⟩ => ⟨S4224x3072, .f32⟩
  | .hbm, ⟨6, _⟩ => ⟨S1x512, .f32⟩
  | .hbm, ⟨7, _⟩ => ⟨S1x512, .f32⟩
  | .hbm, ⟨8, _⟩ => ⟨S512x1024, .f32⟩
  | .hbm, ⟨9, _⟩ => ⟨S1024x1024, .f32⟩
  | .hbm, ⟨10, _⟩ => ⟨S1x512, .f32⟩
  | .hbm, ⟨11, _⟩ => ⟨S512x1024, .f32⟩
  | .hbm, ⟨12, _⟩ => ⟨S1024x1024, .f32⟩
  | .hbm, ⟨13, _⟩ => ⟨S512x1024, .bf16⟩
  | .hbm, ⟨14, _⟩ => ⟨S1024x1024, .bf16⟩
  | .hbm, ⟨15, _⟩ => ⟨S512x1024, .bf16⟩
  | .hbm, ⟨16, _⟩ => ⟨S1024x1024, .bf16⟩
  | .hbm, ⟨17, _⟩ => ⟨S4224x1024, .f32⟩
  | .hbm, ⟨18, _⟩ => ⟨S4224x1024, .bf16⟩
  | .hbm, ⟨19, _⟩ => ⟨S4224x512, .bf16⟩
  | .hbm, ⟨20, _⟩ => ⟨S4224x512, .bf16⟩
  | .hbm, ⟨21, _⟩ => ⟨S4224x1024, .f32⟩
  | .hbm, ⟨22, _⟩ => ⟨S4224x1024, .f32⟩
  | .hbm, ⟨23, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x512, .f32⟩
  | .local _ .vmem, ⟨3, _⟩ => ⟨S384x512, .f32⟩
  | .local _ .vmem, ⟨4, _⟩ => ⟨S384x1024, .f32⟩
  | .local _ .vmem, ⟨5, _⟩ => ⟨S384x1024, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x3072, .f32⟩
  | .local _ .vmem, ⟨11, _⟩ => ⟨S384x3072, .f32⟩
  | .local _ .vmem, ⟨12, _⟩ => ⟨S1x512, .f32⟩
  | .local _ .vmem, ⟨13, _⟩ => ⟨S1x512, .f32⟩
  | .local _ .vmem, ⟨14, _⟩ => ⟨S512x1024, .bf16⟩
  | .local _ .vmem, ⟨15, _⟩ => ⟨S1024x1024, .bf16⟩
  | .local _ .vmem, ⟨16, _⟩ => ⟨S1x512, .f32⟩
  | .local _ .vmem, ⟨17, _⟩ => ⟨S512x1024, .bf16⟩
  | .local _ .vmem, ⟨18, _⟩ => ⟨S1024x1024, .bf16⟩
  | .local _ .vmem, ⟨19, _⟩ => ⟨S384x1024, .f32⟩
  | .local _ .vmem, ⟨20, _⟩ => ⟨S384x1024, .f32⟩
  | .local _ .vmem, ⟨21, _⟩ => ⟨S384x1024, .bf16⟩
  | .local _ .vmem, ⟨22, _⟩ => ⟨S384x1024, .bf16⟩
  | .local _ .vmem, ⟨23, _⟩ => ⟨S384x512, .bf16⟩
  | .local _ .vmem, ⟨24, _⟩ => ⟨S384x512, .bf16⟩
  | .local _ .vmem, ⟨25, _⟩ => ⟨S384x512, .bf16⟩
  | .local _ .vmem, ⟨26, _⟩ => ⟨S384x512, .bf16⟩
  | .local _ .vmem, ⟨27, _⟩ => ⟨S384x1024, .f32⟩
  | .local _ .vmem, ⟨28, _⟩ => ⟨S384x1024, .f32⟩
  | .local _ .vmem, ⟨29, _⟩ => ⟨S384x1024, .f32⟩
  | .local _ .vmem, ⟨30, _⟩ => ⟨S384x1024, .f32⟩
  | .local _ .vmem, ⟨31, _⟩ => ⟨S384x1024, .f32⟩
  | .local _ .vmem, ⟨32, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S384x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S384x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S384x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S4224x1024 : Shape := ⟨2, ![4224, 1024]⟩
abbrev S4224x512 : Shape := ⟨2, ![4224, 512]⟩
abbrev S4224x2048 : Shape := ⟨2, ![4224, 2048]⟩
abbrev S4224x3072 : Shape := ⟨2, ![4224, 3072]⟩
abbrev S1x512 : Shape := ⟨2, ![1, 512]⟩
abbrev S512x1024 : Shape := ⟨2, ![512, 1024]⟩
abbrev S1024x1024 : Shape := ⟨2, ![1024, 1024]⟩
abbrev S_ : Shape := ⟨0, ![]⟩
abbrev S4224 : Shape := ⟨1, ![4224]⟩
abbrev S4224x1 : Shape := ⟨2, ![4224, 1]⟩
abbrev S4224x4x128 : Shape := ⟨3, ![4224, 4, 128]⟩
abbrev S4224x4 : Shape := ⟨2, ![4224, 4]⟩
abbrev S4224x4x1 : Shape := ⟨3, ![4224, 4, 1]⟩
abbrev S4224x3x1024 : Shape := ⟨3, ![4224, 3, 1024]⟩
abbrev S4224x1x1024 : Shape := ⟨3, ![4224, 1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x1024, .f32⟩
  | .hbm, ⟨3, _⟩ => ⟨S4224x512, .f32⟩
  | .hbm, ⟨4, _⟩ => ⟨S4224x2048, .f32⟩
  | .hbm, ⟨5, _⟩ => ⟨S4224x3072, .f32⟩
  | .hbm, ⟨6, _⟩ => ⟨S1x512, .f32⟩
  | .hbm, ⟨7, _⟩ => ⟨S1x512, .f32⟩
  | .hbm, ⟨8, _⟩ => ⟨S512x1024, .f32⟩
  | .hbm, ⟨9, _⟩ => ⟨S1024x1024, .f32⟩
  | .hbm, ⟨10, _⟩ => ⟨S1x512, .f32⟩
  | .hbm, ⟨11, _⟩ => ⟨S512x1024, .f32⟩
  | .hbm, ⟨12, _⟩ => ⟨S1024x1024, .f32⟩
  | .hbm, ⟨13, _⟩ => ⟨S_, .f32⟩
  | .hbm, ⟨14, _⟩ => ⟨S4224, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x512, .f32⟩
  | .hbm, ⟨20, _⟩ => ⟨S4224x512, .f32⟩
  | .hbm, ⟨21, _⟩ => ⟨S4224x512, .f32⟩
  | .hbm, ⟨22, _⟩ => ⟨S_, .f32⟩
  | .hbm, ⟨23, _⟩ => ⟨S4224, .f32⟩
  | .hbm, ⟨24, _⟩ => ⟨S4224x1, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S_, .f32⟩
  | .hbm, ⟨29, _⟩ => ⟨S4224x1, .f32⟩
  | .hbm, ⟨30, _⟩ => ⟨S4224x1, .f32⟩
  | .hbm, ⟨31, _⟩ => ⟨S4224x1, .f32⟩
  | .hbm, ⟨32, _⟩ => ⟨S4224x512, .f32⟩
  | .hbm, ⟨33, _⟩ => ⟨S4224x512, .f32⟩
  | .hbm, ⟨34, _⟩ => ⟨S4224x512, .f32⟩
  | .hbm, ⟨35, _⟩ => ⟨S4224x512, .f32⟩
  | .hbm, ⟨36, _⟩ => ⟨S4224x512, .f32⟩
  | .hbm, ⟨37, _⟩ => ⟨S4224x512, .f32⟩
  | .hbm, ⟨38, _⟩ => ⟨S4224x512, .f32⟩
  | .hbm, ⟨39, _⟩ => ⟨S4224x512, .f32⟩
  | .hbm, ⟨40, _⟩ => ⟨S_, .f32⟩
  | .hbm, ⟨41, _⟩ => ⟨S4224x512, .f32⟩
  | .hbm, ⟨42, _⟩ => ⟨S4224x512, .f32⟩
  | .hbm, ⟨43, _⟩ => ⟨S_, .f32⟩
  | .hbm, ⟨44, _⟩ => ⟨S4224x512, .f32⟩
  | .hbm, ⟨45, _⟩ => ⟨S4224x512, .f32⟩
  | .hbm, ⟨46, _⟩ => ⟨S4224x512, .f32⟩
  | .hbm, ⟨47, _⟩ => ⟨S4224x4x128, .f32⟩
  | .hbm, ⟨48, _⟩ => ⟨S4224x4x128, .f32⟩
  | .hbm, ⟨49, _⟩ => ⟨S_, .f32⟩
  | .hbm, ⟨50, _⟩ => ⟨S4224x4, .f32⟩
  | .hbm, ⟨51, _⟩ => ⟨S4224x4x1, .f32⟩
  | .hbm, ⟨52, _⟩ => ⟨S_, .f32⟩
  | .hbm, ⟨53, _⟩ => ⟨S4224x4x1, .f32⟩
  | .hbm, ⟨54, _⟩ => ⟨S4224x4x1, .f32⟩
  | .hbm, ⟨55, _⟩ => ⟨S_, .f32⟩
  | .hbm, ⟨56, _⟩ => ⟨S4224x4x1, .f32⟩
  | .hbm, ⟨57, _⟩ => ⟨S4224x4x1, .f32⟩
  | .hbm, ⟨58, _⟩ => ⟨S4224x4x1, .f32⟩
  | .hbm, ⟨59, _⟩ => ⟨S4224x4x128, .f32⟩
  | .hbm, ⟨60, _⟩ => ⟨S4224x4x128, .f32⟩
  | .hbm, ⟨61, _⟩ => ⟨S4224x512, .f32⟩
  | .hbm, ⟨62, _⟩ => ⟨S4224x512, .f32⟩
  | .hbm, ⟨63, _⟩ => ⟨S4224x512, .f32⟩
  | .hbm, ⟨64, _⟩ => ⟨S4224x512, .f32⟩
  | .hbm, ⟨65, _⟩ => ⟨S4224x512, .f32⟩
  | .hbm, ⟨66, _⟩ => ⟨S4224x512, .f32⟩
  | .hbm, ⟨67, _⟩ => ⟨S_, .f32⟩
  | .hbm, ⟨68, _⟩ => ⟨S4224x512, .f32⟩
  | .hbm, ⟨69, _⟩ => ⟨S4224x512, .f32⟩
  | .hbm, ⟨70, _⟩ => ⟨S_, .f32⟩
  | .hbm, ⟨71, _⟩ => ⟨S4224x512, .f32⟩
  | .hbm, ⟨72, _⟩ => ⟨S4224x512, .f32⟩
  | .hbm, ⟨73, _⟩ => ⟨S4224x512, .f32⟩
  | .hbm, ⟨74, _⟩ => ⟨S4224x512, .f32⟩
  | .hbm, ⟨75, _⟩ => ⟨S4224x1024, .f32⟩
  | .hbm, ⟨76, _⟩ => ⟨S4224x1024, .f32⟩
  | .hbm, ⟨77, _⟩ => ⟨S4224x1024, .f32⟩
  | .hbm, ⟨78, _⟩ => ⟨S4224x3072, .f32⟩
  | .hbm, ⟨79, _⟩ => ⟨S4224x3072, .f32⟩
  | .hbm, ⟨80, _⟩ => ⟨S_, .f32⟩
  | .hbm, ⟨81, _⟩ => ⟨S4224x3072, .f32⟩
  | .hbm, ⟨82, _⟩ => ⟨S4224x3072, .f32⟩
  | .hbm, ⟨83, _⟩ => ⟨S_, .f32⟩
  | .hbm, ⟨84, _⟩ => ⟨S4224x3072, .f32⟩
  | .hbm, ⟨85, _⟩ => ⟨S4224x3072, .f32⟩
  | .hbm, ⟨86, _⟩ => ⟨S4224x3x1024, .f32⟩
  | .hbm, ⟨87, _⟩ => ⟨S4224x1x1024, .f32⟩
  | .hbm, ⟨88, _⟩ => ⟨S4224x1024, .f32⟩
  | .hbm, ⟨89, _⟩ => ⟨S4224x1024, .f32⟩
  | .hbm, ⟨90, _⟩ => ⟨S4224x1x1024, .f32⟩
  | .hbm, ⟨91, _⟩ => ⟨S4224x1024, .f32⟩
  | .hbm, ⟨92, _⟩ => ⟨S4224x1024, .f32⟩
  | .hbm, ⟨93, _⟩ => ⟨S4224x1024, .f32⟩
  | .hbm, ⟨94, _⟩ => ⟨S4224x1x1024, .f32⟩
  | .hbm, ⟨95, _⟩ => ⟨S4224x1024, .f32⟩
  | .hbm, ⟨96, _⟩ => ⟨S4224x1024, .f32⟩
  | .hbm, ⟨97, _⟩ => ⟨S4224x1024, .f32⟩
  | .hbm, ⟨98, _⟩ => ⟨S4224, .i32⟩
  | .hbm, ⟨99, _⟩ => ⟨S4224x1, .i32⟩
  | .hbm, ⟨100, _⟩ => ⟨S_, .i32⟩
  | .hbm, ⟨101, _⟩ => ⟨S4224x1, .i32⟩
  | .hbm, ⟨102, _⟩ => ⟨S4224x1, .i1⟩
  | .hbm, ⟨103, _⟩ => ⟨S_, .i32⟩
  | .hbm, ⟨104, _⟩ => ⟨S4224x1, .i32⟩
  | .hbm, ⟨105, _⟩ => ⟨S4224x1, .i1⟩
  | .hbm, ⟨106, _⟩ => ⟨S4224x1, .i1⟩
  | .hbm, ⟨107, _⟩ => ⟨S4224x1024, .f32⟩
  | .hbm, ⟨108, _⟩ => ⟨S4224x1024, .f32⟩
  | .hbm, ⟨109, _⟩ => ⟨S4224x1024, .i1⟩
  | .hbm, ⟨110, _⟩ => ⟨S4224x1024, .f32⟩
  | .hbm, ⟨111, _⟩ => ⟨S4224x1024, .bf16⟩
  | .hbm, ⟨112, _⟩ => ⟨S4224x512, .bf16⟩
  | .hbm, ⟨113, _⟩ => ⟨S4224x512, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_7 : Ref sig .tc := ⟨.hbm, 80, rfl⟩
abbrev main_v43 : Ref sig .tc := ⟨.hbm, 81, rfl⟩
abbrev main_v44 : Ref sig .tc := ⟨.hbm, 82, rfl⟩
abbrev main_cst_8 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c : Ref sig .tc := ⟨.hbm, 100, rfl⟩
abbrev main_v61 : Ref sig .tc := ⟨.hbm, 101, rfl⟩
abbrev main_v62 : Ref sig .tc := ⟨.hbm, 102, rfl⟩
abbrev main_c_9 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_call2_v0 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩

abbrev nD : Nat := 1
abbrev τ : Topo := Topo.v7x

variable {F : FTy → Type} [FloatOps F]
-- ==== Proof.Conv.Trip.lean ====
/-
  One trip of each counted loop of the convolution's backward pass, by element, over the extended reals. The first
  loop fills two scratch blocks, the gated input below 32 rows of zeros and the incoming gradient above 32 rows of
  zeros, 128 rows a trip. The second forms, for 128 rows, the gradients of the two halves of the gated input, and adds
  the trip's part of the taps' gradient into an accumulator of eight rows a tap.
-/
module

public import proofs.«01_k».proof.Proof.Gen.KernelIdeal.Loops
public import proofs.«01_k».proof.Proof.Gen.KernelIdeal.Frame
public import Idealize.ShloMosaic.Lib.Pointwise
public import Idealize.ShloMosaic.Lib.WritesUnit
public import Idealize.ShloMosaic.Lib.VecWindow

@[expose] public section

set_option maxRecDepth 16384

noncomputable section

namespace Cert.Conv

open Idealize.ShloMosaic Idealize.ShloMosaic.TcCoe Idealize.ShloMosaic.Tactic
open Idealize.SL.Sem
open Cert.KernelIdeal Cert.KernelIdeal.Gen
open scoped BigOperators

/-- Row `r` and column `c` of a block of 128 columns; zero past its last row. -/
def rowAt {n : ℕ} (x : (⟨2, ![n, 128]⟩ : Shape).Idx → EReal) (r : ℕ) (c : Fin 128) : EReal :=
  if h : r < n then x (ix2 ⟨r, h⟩ c) else 0

theorem rowAt_of_lt {n : ℕ} (x : (⟨2, ![n, 128]⟩ : Shape).Idx → EReal) {r : ℕ} (h : r < n) (c : Fin 128) :
    rowAt x r c = x (ix2 ⟨r, h⟩ c) := dif_pos h

/-- The gate's value as the kernel forms it. -/
def sg (z : EReal) : EReal := Ideal.div 1 (1 + Ideal.exp (0 - z))

/-- A load of 128 rows from row `o`, by element. -/
theorem load_rows {n w : ℕ} (m : Memref sig .tc .vmem ⟨2, ![n, 128]⟩ .f32) (f : BufTy.Contents (Elt Ideal) m.view.ty)
    {off : Fin 2 → ℕ} (inb : ∀ a, off a + (![w, 128] : Fin 2 → ℕ) a ≤ (![n, 128] : Fin 2 → ℕ) a) (o : ℕ) (ho : off = ![o, 0])
    (r : Fin w) (c : Fin 128) :
    m.view.readAt (Elt Ideal) (Rect.unit (s := ⟨2, ![n, 128]⟩) off ![w, 128] inb).toLoadRect f (ix2 r c)
      = rowAt (m.view.read (Elt Ideal) f) (o + r.val) c := by
  subst ho
  have h0 : o + w ≤ n := inb 0
  rw [rowAt_of_lt _ (show o + r.val < n by have := r.isLt; omega)]
  refine congrArg (m.view.read (Elt Ideal) f) (funext fun a => Fin.ext ?_)
  match a with
  | ⟨0, _⟩ => show o + 1 * r.val = o + r.val; omega
  | ⟨1, _⟩ => show 0 + 1 * c.val = c.val; omega

variable (c : Dev nD) (i : grid0.Coords) (arg1 : Memref sig .tc .vmem S4224x128 .f32) (harg1 : arg1.IsWhole) (arg2 : Memref sig .tc .vmem S4224x128 .f32) (harg2 : arg2.IsWhole) (arg3 : Memref sig .tc .vmem S32x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S32x128 .f32) (harg7 : arg7.IsWhole) (arg8 : Memref sig .tc .vmem S4256x128 .f32) (harg8 : arg8.IsWhole) (arg9 : Memref sig .tc .vmem S4256x128 .f32) (harg9 : arg9.IsWhole) (arg10 : Memref sig .tc .vmem S256x128 .f32) (harg10 : arg10.IsWhole)

/-- Trip `k` of the filling loop stores one block into the input scratch and one into the gradient scratch. -/
theorem fill_lists (X1 : BufTy.Contents (Elt Ideal) arg1.view.ty) (X2 : BufTy.Contents (Elt Ideal) arg2.view.ty) (X4 : BufTy.Contents (Elt Ideal) arg4.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 X1 X2 X4 k
      = ([⟨Rect.unit (s := S4256x128) (k0_off2 k) S128x128.size (k0_off2_inb k),
            k0_pay74 (arg1.view.readAt (Elt Ideal) (Rect.unit (s := S4224x128) (k0_off1 k) S128x128.size (k0_off1_inb k)).toLoadRect X1)
              (arg2.view.readAt (Elt Ideal) (Rect.unit (s := S4224x128) (k0_off1 k) S128x128.size (k0_off1_inb k)).toLoadRect X2)⟩],
         [⟨Rect.unit (s := S4256x128) (k0_off3 k) S128x128.size (k0_off3_inb k),
            k0_pay75 (arg4.view.readAt (Elt Ideal) (Rect.unit (s := S4224x128) (k0_off1 k) S128x128.size (k0_off1_inb k)).toLoadRect X4)⟩]) := by
  unfold tripL_k0_t1 trip_k0_t1
  rfl

/-- What one tap's accumulator becomes in a trip: itself plus the sums, over every eighth row, of the products. -/
abbrev accPay (z : Vec Ideal S128x128 .f32) (a : Vec Ideal S8x128 .f32) (h : Vec Ideal S128x128 .f32) : Vec Ideal S8x128 .f32 :=
  k0_pay7 z a h

theorem accPay_apply (z : Vec Ideal S128x128 .f32) (a : Vec Ideal S8x128 .f32) (h : Vec Ideal S128x128 .f32) (s : Fin 8) (l : Fin 128) :
    accPay z a h (ix2 s l) = a (ix2 s l) + ∑ u : Fin 16, z (ix2 ⟨u.val * 8 + s.val, by omega⟩ l) * h (ix2 ⟨u.val * 8 + s.val, by omega⟩ l) := by
  pointwise [accPay, k0_pay7]

theorem acc_inb (κ : Fin 31) (a : Fin 2) : (![8 * κ.val, 0] : Fin 2 → ℕ) a + (![8, 128] : Fin 2 → ℕ) a ≤ S256x128.size a := by
  match a with
  | ⟨0, _⟩ => show 8 * κ.val + 8 ≤ 256; omega
  | ⟨1, _⟩ => show 0 + 128 ≤ 128; omega

theorem off5_inb (k : Fin k0_t2_loop.trips) (κ : Fin 31) (d : ℕ) (hd : d = κ.val + 2) (a : Fin 2) :
    (k0_off5 k (BitVec.ofNat 32 d)) a + S128x128.size a ≤ S4256x128.size a := by
  subst hd; exact k0_off5_inb k ⟨κ.val + 2, by omega⟩ a

/-- Trip `k`'s stores into the accumulator, one tile of eight rows a tap. -/
theorem acc_list (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (k : Fin k0_t2_loop.trips) (f5 : BufTy.Contents (Elt Ideal) arg5.view.ty) (f6 : BufTy.Contents (Elt Ideal) arg6.view.ty) (f10 : BufTy.Contents (Elt Ideal) arg10.view.ty) :
    (tripL_k0_t2 (F := Ideal) Variants.none c none i arg1 harg1 arg2 harg2 arg3 harg3 arg4 harg4 arg5 harg5 arg6 harg6 arg7 harg7 arg8 harg8 arg9 harg9 arg10 harg10 X1 X2 X3 X4 X8 X9 k f5 f6 f10).2.2
      = View.tilePieces (s := S256x128) (e := .f32) (Val := Elt Ideal) ![8, 128] (fun κ : Fin 31 => ![8 * κ.val, 0]) acc_inb
        (fun κ => accPay
          (arg4.view.readAt (Elt Ideal) (Rect.unit (s := S4224x128) (k0_off4 k) S128x128.size (k0_off4_inb k)).toLoadRect X4)
          (arg10.view.readAt (Elt Ideal) (Rect.unit (s := S256x128) ![8 * κ.val, 0] S8x128.size (acc_inb κ)).toLoadRect f10)
          (arg8.view.readAt (Elt Ideal) (Rect.unit (s := S4256x128) (k0_off5 k (BitVec.ofNat 32 (κ.val + 2))) S128x128.size (off5_inb k κ _ rfl)).toLoadRect X8))
        31 (le_refl 31) := by
  unfold tripL_k0_t2 trip_k0_t2
  rfl

/-- The gradient before the gate, tap by tap: the sum of the first `n` taps' rows times shifted gradients. -/
def dhPay (W : Fin 31 → Vec Ideal S1x128 .f32) (D : Fin 31 → Vec Ideal S128x128 .f32) : (n : ℕ) → n ≤ 31 → FVec Ideal S128x128 .f32
  | 0, _ => broadcast S128x128 (Scalar.ofBits .f32 0x00000000#32)
  | n + 1, h => addf (dhPay W D n (Nat.le_of_succ_le h)) (mulf (broadcastTo S128x128 (W ⟨n, h⟩) broadcasts_S1x128_S128x128) (D ⟨n, h⟩))

theorem dhPay_apply (W : Fin 31 → Vec Ideal S1x128 .f32) (D : Fin 31 → Vec Ideal S128x128 .f32) (r l : Fin 128) :
    ∀ (n : ℕ) (h : n ≤ 31), dhPay W D n h (ix2 r l) = ∑ j : Fin n, W (j.castLE h) (ix2 0 l) * D (j.castLE h) (ix2 r l)
  | 0, _ => by
    rw [Finset.univ_eq_empty, Finset.sum_empty]
    pointwise [dhPay]
  | n + 1, h => by
    rw [Fin.sum_univ_castSucc]
    refine (show _ = dhPay W D n (Nat.le_of_succ_le h) (ix2 r l) + W ⟨n, h⟩ (ix2 0 l) * D ⟨n, h⟩ (ix2 r l) from ?_).trans
      (congrArg₂ (· + ·) (dhPay_apply W D r l n (Nat.le_of_succ_le h)) rfl)
    pointwise [dhPay]

theorem row_inb (κ : Fin 31) (a : Fin 2) : (![κ.val, 0] : Fin 2 → ℕ) a + S1x128.size a ≤ S32x128.size a := by
  match a with
  | ⟨0, _⟩ => show κ.val + 1 ≤ 32; omega
  | ⟨1, _⟩ => show 0 + 128 ≤ 128; omega

theorem off5_inb' (k : Fin k0_t2_loop.trips) (κ : Fin 31) (a : Fin 2) :
    (k0_off5 k (BitVec.ofNat 32 (30 - κ.val))) a + S128x128.size a ≤ S4256x128.size a :=
  k0_off5_inb k ⟨30 - κ.val, by omega⟩ a

/-- Trip `k`'s gradient before the gate, from the taps and the padded gradient. -/
def dhTrip (arg3 : Memref sig .tc .vmem S32x128 .f32) (arg9 : Memref sig .tc .vmem S4256x128 .f32)
    (X3 : BufTy.Contents (Elt Ideal) arg3.view.ty) (X9 : BufTy.Contents (Elt Ideal) arg9.view.ty) (k : Fin k0_t2_loop.trips) : FVec Ideal S128x128 .f32 :=
  dhPay (fun κ => arg3.view.readAt (Elt Ideal) (Rect.unit (s := S32x128) ![κ.val, 0] S1x128.size (row_inb κ)).toLoadRect X3)
    (fun κ => arg9.view.readAt (Elt Ideal) (Rect.unit (s := S4256x128) (k0_off5 k (BitVec.ofNat 32 (30 - κ.val))) S128x128.size (off5_inb' k κ)).toLoadRect X9)
    31 (le_refl 31)

/-- Trip `k`'s one store into the first half's gradient. -/
theorem da_list (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (k : Fin k0_t2_loop.trips) (f5 : BufTy.Contents (Elt Ideal) arg5.view.ty) (f6 : BufTy.Contents (Elt Ideal) arg6.view.ty) (f10 : BufTy.Contents (Elt Ideal) arg10.view.ty) :
    (tripL_k0_t2 (F := Ideal) Variants.none c none i arg1 harg1 arg2 harg2 arg3 harg3 arg4 harg4 arg5 harg5 arg6 harg6 arg7 harg7 arg8 harg8 arg9 harg9 arg10 harg10 X1 X2 X3 X4 X8 X9 k f5 f6 f10).1
      = [⟨Rect.unit (s := S4224x128) (k0_off4 k) S128x128.size (k0_off4_inb k),
          mulf (dhTrip arg3 arg9 X3 X9 k) (k0_pay69 (arg2.view.readAt (Elt Ideal) (Rect.unit (s := S4224x128) (k0_off4 k) S128x128.size (k0_off4_inb k)).toLoadRect X2))⟩] := by
  unfold tripL_k0_t2 trip_k0_t2
  rfl

/-- Trip `k`'s one store into the gate half's gradient. -/
theorem dg_list (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (k : Fin k0_t2_loop.trips) (f5 : BufTy.Contents (Elt Ideal) arg5.view.ty) (f6 : BufTy.Contents (Elt Ideal) arg6.view.ty) (f10 : BufTy.Contents (Elt Ideal) arg10.view.ty) :
    (tripL_k0_t2 (F := Ideal) Variants.none c none i arg1 harg1 arg2 harg2 arg3 harg3 arg4 harg4 arg5 harg5 arg6 harg6 arg7 harg7 arg8 harg8 arg9 harg9 arg10 harg10 X1 X2 X3 X4 X8 X9 k f5 f6 f10).2.1
      = [⟨Rect.unit (s := S4224x128) (k0_off4 k) S128x128.size (k0_off4_inb k),
          k0_pay76 (dhTrip arg3 arg9 X3 X9 k) (arg1.view.readAt (Elt Ideal) (Rect.unit (s := S4224x128) (k0_off4 k) S128x128.size (k0_off4_inb k)).toLoadRect X1)
            (k0_pay69 (arg2.view.readAt (Elt Ideal) (Rect.unit (s := S4224x128) (k0_off4 k) S128x128.size (k0_off4_inb k)).toLoadRect X2))⟩] := by
  unfold tripL_k0_t2 trip_k0_t2
  rfl

/-! ### The payloads by element -/

theorem pay69_apply (g : Vec Ideal S128x128 .f32) (r l : Fin 128) : k0_pay69 g (ix2 r l) = sg (g (ix2 r l)) := by
  unfold sg; pointwise [k0_pay69]

theorem pay74_apply (a g : Vec Ideal S128x128 .f32) (r l : Fin 128) : k0_pay74 a g (ix2 r l) = a (ix2 r l) * sg (g (ix2 r l)) := by
  unfold sg; pointwise [k0_pay74]

theorem pay75_apply (z : Vec Ideal S128x128 .f32) (r l : Fin 128) : k0_pay75 z (ix2 r l) = z (ix2 r l) := by
  pointwise [k0_pay75]

theorem pay76_apply (d a s : Vec Ideal S128x128 .f32) (r l : Fin 128) :
    k0_pay76 d a s (ix2 r l) = d (ix2 r l) * a (ix2 r l) * s (ix2 r l) * (1 - s (ix2 r l)) := by
  pointwise [k0_pay76]

theorem dhTrip_apply (X3 : BufTy.Contents (Elt Ideal) arg3.view.ty) (X9 : BufTy.Contents (Elt Ideal) arg9.view.ty) (k : Fin k0_t2_loop.trips) (r l : Fin 128) :
    dhTrip arg3 arg9 X3 X9 k (ix2 r l)
      = ∑ κ : Fin 31, rowAt (arg3.view.read (Elt Ideal) X3) κ.val l * rowAt (arg9.view.read (Elt Ideal) X9) (128 * k.val + r.val + (30 - κ.val)) l := by
  unfold dhTrip
  rw [dhPay_apply]
  refine Finset.sum_congr rfl fun κ _ => ?_
  refine congrArg₂ (· * ·) ?_ ?_
  · exact load_rows (n := 32) (w := 1) arg3 X3 _ κ.val rfl 0 l
  · refine (load_rows (n := 4256) (w := 128) arg9 X9 _ (128 * k.val + (30 - κ.val)) (k0_off5_eq k ⟨30 - κ.val, by omega⟩) r l).trans ?_
    exact congrArg (fun z => rowAt (arg9.view.read (Elt Ideal) X9) z l) (by omega)

end Cert.Conv

end
-- ==== Proof.Conv.Loops.lean ====
/-
  The two counted loops of the convolution's backward pass, by element: after the first the input scratch holds the
  gated input below 32 rows of zeros and the gradient scratch the incoming gradient above 32 rows of zeros; after the
  second the two gradients' rows are done and the accumulator holds, for each tap and each residue modulo eight, the sum
  over every trip.
-/
module

public import proofs.«01_k».proof.Proof.Conv.Trip

@[expose] public section

set_option maxRecDepth 16384

noncomputable section

namespace Cert.Conv

open Idealize.ShloMosaic Idealize.ShloMosaic.TcCoe Idealize.ShloMosaic.Tactic
open Idealize.SL.Sem
open Cert.KernelIdeal Cert.KernelIdeal.Gen
open scoped BigOperators

/-- Reading, by element, the contents under a newest store of whole rows. -/
theorem rowAt_cons {n w : ℕ} (m : Memref sig .tc .vmem ⟨2, ![n, 128]⟩ .f32) (f : BufTy.Contents (Elt Ideal) m.view.ty)
    {off : Fin 2 → ℕ} (inb : ∀ a, off a + (![w, 128] : Fin 2 → ℕ) a ≤ (![n, 128] : Fin 2 → ℕ) a)
    (p : (⟨2, ![w, 128]⟩ : Shape).Idx → EReal) (L : List (View.Piece (Elt Ideal) ⟨2, ![n, 128]⟩ .f32))
    (o : ℕ) (ho : off = ![o, 0]) (r : ℕ) (hr : r < n) (l : Fin 128) :
    rowAt (m.view.read (Elt Ideal) (m.view.writes (Elt Ideal) f (⟨Rect.unit (s := ⟨2, ![n, 128]⟩) off ![w, 128] inb, p⟩ :: L))) r l
      = if h : o ≤ r ∧ r < o + w then p (ix2 ⟨r - o, by omega⟩ l) else rowAt (m.view.read (Elt Ideal) (m.view.writes (Elt Ideal) f L)) r l := by
  rw [rowAt_of_lt _ hr]
  split
  · rename_i h
    exact View.read_writes_cons_rows_of_mem m.view f inb p L (ix2 ⟨r, hr⟩ l) (ix2 ⟨r - o, by omega⟩ l) ho
      (by show r = o + (r - o); omega) rfl
  · rename_i h
    rw [rowAt_of_lt _ hr]
    exact View.read_writes_cons_rows_of_not_mem m.view f inb p L (ix2 ⟨r, hr⟩ l) ho (W := w) rfl
      (by show r < o ∨ o + w ≤ r; omega)

theorem trips1 : k0_t1_loop.trips = 33 := by decide +kernel
theorem trips2 : k0_t2_loop.trips = 33 := by decide +kernel

variable (c : Dev nD) (i : grid0.Coords) (arg1 : Memref sig .tc .vmem S4224x128 .f32) (harg1 : arg1.IsWhole) (arg2 : Memref sig .tc .vmem S4224x128 .f32) (harg2 : arg2.IsWhole) (arg3 : Memref sig .tc .vmem S32x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S32x128 .f32) (harg7 : arg7.IsWhole) (arg8 : Memref sig .tc .vmem S4256x128 .f32) (harg8 : arg8.IsWhole) (arg9 : Memref sig .tc .vmem S4256x128 .f32) (harg9 : arg9.IsWhole) (arg10 : Memref sig .tc .vmem S256x128 .f32) (harg10 : arg10.IsWhole)

/-- The pieces of the filling loop's trips before `k`. -/
abbrev fillP (X1 : BufTy.Contents (Elt Ideal) arg1.view.ty) (X2 : BufTy.Contents (Elt Ideal) arg2.view.ty) (X4 : BufTy.Contents (Elt Ideal) arg4.view.ty) (k : ℕ) := pb_k0_t1 (F := Ideal) Variants.none c none i arg1 harg1 arg2 harg2 arg3 harg3 arg4 harg4 arg5 harg5 arg6 harg6 arg7 harg7 arg8 harg8 arg9 harg9 arg10 harg10 X1 X2 X4 k

/-- The gated input, below its 32 rows of zeros. -/
def hAt (x1 x2 : (⟨2, ![4224, 128]⟩ : Shape).Idx → EReal) (r : ℕ) (l : Fin 128) : EReal :=
  if r < 32 then 0 else rowAt x1 (r - 32) l * sg (rowAt x2 (r - 32) l)

theorem fill8 (X1 : BufTy.Contents (Elt Ideal) arg1.view.ty) (X2 : BufTy.Contents (Elt Ideal) arg2.view.ty) (X4 : BufTy.Contents (Elt Ideal) arg4.view.ty) (G : BufTy.Contents (Elt Ideal) arg8.view.ty) (l : Fin 128) :
    ∀ (k : ℕ), k ≤ 33 → ∀ r < 4256, rowAt (arg8.view.read (Elt Ideal) (arg8.view.writes (Elt Ideal) G (fillP c i arg1 harg1 arg2 harg2 arg3 harg3 arg4 harg4 arg5 harg5 arg6 harg6 arg7 harg7 arg8 harg8 arg9 harg9 arg10 harg10 X1 X2 X4 k).1)) r l
      = if 32 ≤ r ∧ r < 32 + 128 * k then hAt (arg1.view.read (Elt Ideal) X1) (arg2.view.read (Elt Ideal) X2) r l
        else rowAt (arg8.view.read (Elt Ideal) G) r l
  | 0, _, r, hr => by rw [if_neg (by omega)]; rfl
  | k + 1, hk, r, hr => by
    have hk' : k < k0_t1_loop.trips := by rw [trips1]; omega
    have e := pb_k0_t1_succ (F := Ideal) Variants.none c none i arg1 harg1 arg2 harg2 arg3 harg3 arg4 harg4 arg5 harg5 arg6 harg6 arg7 harg7 arg8 harg8 arg9 harg9 arg10 harg10 X1 X2 X4 ⟨k, hk'⟩
    unfold fillP
    rw [show k + 1 = (⟨k, hk'⟩ : Fin k0_t1_loop.trips).val + 1 from rfl, e, fill_lists]
    refine (rowAt_cons (n := 4256) (w := 128) arg8 G (k0_off2_inb ⟨k, hk'⟩) _ _ (128 * k + 32) (k0_off2_eq ⟨k, hk'⟩) r hr l).trans ?_
    split
    · rename_i h
      rw [if_pos (by show 32 ≤ r ∧ r < 32 + 128 * (k + 1); omega), hAt, if_neg (by omega), pay74_apply]
      refine congrArg₂ (fun a b => a * sg b) ?_ ?_
      · refine (load_rows (n := 4224) (w := 128) arg1 X1 _ (128 * k) (k0_off1_eq ⟨k, hk'⟩) _ l).trans ?_
        exact congrArg (fun z => rowAt (arg1.view.read (Elt Ideal) X1) z l) (by show 128 * k + (r - (128 * k + 32)) = r - 32; omega)
      · refine (load_rows (n := 4224) (w := 128) arg2 X2 _ (128 * k) (k0_off1_eq ⟨k, hk'⟩) _ l).trans ?_
        exact congrArg (fun z => rowAt (arg2.view.read (Elt Ideal) X2) z l) (by show 128 * k + (r - (128 * k + 32)) = r - 32; omega)
    · rename_i h
      refine (fill8 X1 X2 X4 G l k (by omega) r hr).trans (if_congr ?_ rfl rfl)
      show (32 ≤ r ∧ r < 32 + 128 * k) ↔ 32 ≤ r ∧ r < 32 + 128 * (k + 1)
      omega

theorem fill9 (X1 : BufTy.Contents (Elt Ideal) arg1.view.ty) (X2 : BufTy.Contents (Elt Ideal) arg2.view.ty) (X4 : BufTy.Contents (Elt Ideal) arg4.view.ty) (G : BufTy.Contents (Elt Ideal) arg9.view.ty) (l : Fin 128) :
    ∀ (k : ℕ), k ≤ 33 → ∀ r < 4256, rowAt (arg9.view.read (Elt Ideal) (arg9.view.writes (Elt Ideal) G (fillP c i arg1 harg1 arg2 harg2 arg3 harg3 arg4 harg4 arg5 harg5 arg6 harg6 arg7 harg7 arg8 harg8 arg9 harg9 arg10 harg10 X1 X2 X4 k).2)) r l
      = if r < 128 * k then rowAt (arg4.view.read (Elt Ideal) X4) r l
        else rowAt (arg9.view.read (Elt Ideal) G) r l
  | 0, _, r, hr => by rw [if_neg (by omega)]; rfl
  | k + 1, hk, r, hr => by
    have hk' : k < k0_t1_loop.trips := by rw [trips1]; omega
    have e := pb_k0_t1_succ (F := Ideal) Variants.none c none i arg1 harg1 arg2 harg2 arg3 harg3 arg4 harg4 arg5 harg5 arg6 harg6 arg7 harg7 arg8 harg8 arg9 harg9 arg10 harg10 X1 X2 X4 ⟨k, hk'⟩
    unfold fillP
    rw [show k + 1 = (⟨k, hk'⟩ : Fin k0_t1_loop.trips).val + 1 from rfl, e, fill_lists]
    refine (rowAt_cons (n := 4256) (w := 128) arg9 G (k0_off3_inb ⟨k, hk'⟩) _ _ (128 * k) (k0_off3_eq ⟨k, hk'⟩) r hr l).trans ?_
    split
    · rename_i h
      rw [if_pos (by show r < 128 * (k + 1); omega), pay75_apply]
      refine (load_rows (n := 4224) (w := 128) arg4 X4 _ (128 * k) (k0_off1_eq ⟨k, hk'⟩) _ l).trans ?_
      exact congrArg (fun z => rowAt (arg4.view.read (Elt Ideal) X4) z l) (by show 128 * k + (r - 128 * k) = r; omega)
    · rename_i h
      refine (fill9 X1 X2 X4 G l k (by omega) r hr).trans (if_congr ?_ rfl rfl)
      show r < 128 * k ↔ r < 128 * (k + 1)
      omega

/-- After the filling loop, over contents whose first 32 rows are zero: the gated input. -/
theorem fill8_all (X1 : BufTy.Contents (Elt Ideal) arg1.view.ty) (X2 : BufTy.Contents (Elt Ideal) arg2.view.ty) (X4 : BufTy.Contents (Elt Ideal) arg4.view.ty) (f : BufTy.Contents (Elt Ideal) arg8.view.ty) (z : Vec Ideal S32x128 .f32) (hz : ∀ y, z y = 0)
    (inb : ∀ a, (![0, 0] : Fin 2 → ℕ) a + S32x128.size a ≤ S4256x128.size a) (r : ℕ) (hr : r < 4256) (l : Fin 128) :
    rowAt (arg8.view.read (Elt Ideal) (arg8.view.writes (Elt Ideal) f ((fillP c i arg1 harg1 arg2 harg2 arg3 harg3 arg4 harg4 arg5 harg5 arg6 harg6 arg7 harg7 arg8 harg8 arg9 harg9 arg10 harg10 X1 X2 X4 33).1 ++ [⟨Rect.unit (s := S4256x128) ![0, 0] S32x128.size inb, z⟩]))) r l
      = hAt (arg1.view.read (Elt Ideal) X1) (arg2.view.read (Elt Ideal) X2) r l := by
  rw [View.writes_append, fill8 c i arg1 harg1 arg2 harg2 arg3 harg3 arg4 harg4 arg5 harg5 arg6 harg6 arg7 harg7 arg8 harg8 arg9 harg9 arg10 harg10 X1 X2 X4 _ l 33 (le_refl _) r hr]
  split
  · rfl
  · rename_i h
    rw [hAt, if_pos (by omega)]
    refine (rowAt_cons (n := 4256) (w := 32) arg8 f inb z [] 0 rfl r hr l).trans ?_
    rw [dif_pos (by omega)]
    exact hz _

/-- After the filling loop, over contents whose last 32 rows are zero: the incoming gradient. -/
theorem fill9_all (X1 : BufTy.Contents (Elt Ideal) arg1.view.ty) (X2 : BufTy.Contents (Elt Ideal) arg2.view.ty) (X4 : BufTy.Contents (Elt Ideal) arg4.view.ty) (f : BufTy.Contents (Elt Ideal) arg9.view.ty) (z : Vec Ideal S32x128 .f32) (hz : ∀ y, z y = 0)
    (inb : ∀ a, (![4224, 0] : Fin 2 → ℕ) a + S32x128.size a ≤ S4256x128.size a) (r : ℕ) (hr : r < 4256) (l : Fin 128) :
    rowAt (arg9.view.read (Elt Ideal) (arg9.view.writes (Elt Ideal) f ((fillP c i arg1 harg1 arg2 harg2 arg3 harg3 arg4 harg4 arg5 harg5 arg6 harg6 arg7 harg7 arg8 harg8 arg9 harg9 arg10 harg10 X1 X2 X4 33).2 ++ [⟨Rect.unit (s := S4256x128) ![4224, 0] S32x128.size inb, z⟩]))) r l
      = rowAt (arg4.view.read (Elt Ideal) X4) r l := by
  rw [View.writes_append, fill9 c i arg1 harg1 arg2 harg2 arg3 harg3 arg4 harg4 arg5 harg5 arg6 harg6 arg7 harg7 arg8 harg8 arg9 harg9 arg10 harg10 X1 X2 X4 _ l 33 (le_refl _) r hr]
  split
  · rfl
  · rename_i h
    refine (rowAt_cons (n := 4256) (w := 32) arg9 f inb z [] 4224 rfl r hr l).trans ?_
    rw [dif_pos (by omega), rowAt, dif_neg (by omega)]
    exact hz _

/-- The pieces of the main loop's trips before `k`. -/
abbrev mainP (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G6 : BufTy.Contents (Elt Ideal) arg6.view.ty) (G10 : BufTy.Contents (Elt Ideal) arg10.view.ty) (k : ℕ) :=
  pb_k0_t2 (F := Ideal) Variants.none c none i arg1 harg1 arg2 harg2 arg3 harg3 arg4 harg4 arg5 harg5 arg6 harg6 arg7 harg7 arg8 harg8 arg9 harg9 arg10 harg10 X1 X2 X3 X4 X8 X9 G5 G6 G10 k

/-- The gradient before the gate at row `r`. -/
def dhAt (w : (⟨2, ![32, 128]⟩ : Shape).Idx → EReal) (d : ℕ → Fin 128 → EReal) (r : ℕ) (l : Fin 128) : EReal :=
  ∑ κ : Fin 31, rowAt w κ.val l * d (r + (30 - κ.val)) l

theorem main5 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G6 : BufTy.Contents (Elt Ideal) arg6.view.ty) (G10 : BufTy.Contents (Elt Ideal) arg10.view.ty) (l : Fin 128) :
    ∀ (k : ℕ), k ≤ 33 → ∀ r < 128 * k,
      rowAt (arg5.view.read (Elt Ideal) (arg5.view.writes (Elt Ideal) G5 (mainP c i arg1 harg1 arg2 harg2 arg3 harg3 arg4 harg4 arg5 harg5 arg6 harg6 arg7 harg7 arg8 harg8 arg9 harg9 arg10 harg10 X1 X2 X3 X4 X8 X9 G5 G6 G10 k).1)) r l
      = dhAt (arg3.view.read (Elt Ideal) X3) (rowAt (arg9.view.read (Elt Ideal) X9)) r l * sg (rowAt (arg2.view.read (Elt Ideal) X2) r l)
  | 0, _, r, hr => by omega
  | k + 1, hk, r, hr => by
    have hk' : k < k0_t2_loop.trips := by rw [trips2]; omega
    have e := pb_k0_t2_succ (F := Ideal) Variants.none c none i arg1 harg1 arg2 harg2 arg3 harg3 arg4 harg4 arg5 harg5 arg6 harg6 arg7 harg7 arg8 harg8 arg9 harg9 arg10 harg10 X1 X2 X3 X4 X8 X9 G5 G6 G10 ⟨k, hk'⟩
    have e' := (congrArg (fun q => q.1) e).trans (congrArg (· ++ (mainP c i arg1 harg1 arg2 harg2 arg3 harg3 arg4 harg4 arg5 harg5 arg6 harg6 arg7 harg7 arg8 harg8 arg9 harg9 arg10 harg10 X1 X2 X3 X4 X8 X9 G5 G6 G10 k).1) (da_list c i arg1 harg1 arg2 harg2 arg3 harg3 arg4 harg4 arg5 harg5 arg6 harg6 arg7 harg7 arg8 harg8 arg9 harg9 arg10 harg10 X1 X2 X3 X4 X8 X9 ⟨k, hk'⟩ _ _ _))
    refine (congrArg (fun L => rowAt (arg5.view.read (Elt Ideal) (arg5.view.writes (Elt Ideal) G5 L)) r l) e').trans ?_
    refine (rowAt_cons (n := 4224) (w := 128) arg5 G5 (k0_off4_inb ⟨k, hk'⟩) _ _ (128 * k) (k0_off4_eq ⟨k, hk'⟩) r (by omega) l).trans ?_
    split
    · rename_i h
      refine (show mulf _ _ _ = _ from rfl).trans ?_
      refine congrArg₂ (· * ·) ?_ ?_
      · rw [dhTrip_apply]
        exact Finset.sum_congr rfl fun κ _ => congrArg (fun z => _ * rowAt (arg9.view.read (Elt Ideal) X9) z l)
          (by show 128 * k + (r - 128 * k) + (30 - κ.val) = r + (30 - κ.val); omega)
      · rw [pay69_apply]
        refine congrArg sg ((load_rows (n := 4224) (w := 128) arg2 X2 _ (128 * k) (k0_off4_eq ⟨k, hk'⟩) _ l).trans ?_)
        exact congrArg (fun z => rowAt (arg2.view.read (Elt Ideal) X2) z l) (by show 128 * k + (r - 128 * k) = r; omega)
    · rename_i h
      exact main5 X1 X2 X3 X4 X8 X9 G5 G6 G10 l k (by omega) r (by omega)

theorem main6 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G6 : BufTy.Contents (Elt Ideal) arg6.view.ty) (G10 : BufTy.Contents (Elt Ideal) arg10.view.ty) (l : Fin 128) :
    ∀ (k : ℕ), k ≤ 33 → ∀ r < 128 * k,
      rowAt (arg6.view.read (Elt Ideal) (arg6.view.writes (Elt Ideal) G6 (mainP c i arg1 harg1 arg2 harg2 arg3 harg3 arg4 harg4 arg5 harg5 arg6 harg6 arg7 harg7 arg8 harg8 arg9 harg9 arg10 harg10 X1 X2 X3 X4 X8 X9 G5 G6 G10 k).2.1)) r l
      = dhAt (arg3.view.read (Elt Ideal) X3) (rowAt (arg9.view.read (Elt Ideal) X9)) r l * rowAt (arg1.view.read (Elt Ideal) X1) r l
          * sg (rowAt (arg2.view.read (Elt Ideal) X2) r l) * (1 - sg (rowAt (arg2.view.read (Elt Ideal) X2) r l))
  | 0, _, r, hr => by omega
  | k + 1, hk, r, hr => by
    have hk' : k < k0_t2_loop.trips := by rw [trips2]; omega
    have e := pb_k0_t2_succ (F := Ideal) Variants.none c none i arg1 harg1 arg2 harg2 arg3 harg3 arg4 harg4 arg5 harg5 arg6 harg6 arg7 harg7 arg8 harg8 arg9 harg9 arg10 harg10 X1 X2 X3 X4 X8 X9 G5 G6 G10 ⟨k, hk'⟩
    have e' := (congrArg (fun q => q.2.1) e).trans (congrArg (· ++ (mainP c i arg1 harg1 arg2 harg2 arg3 harg3 arg4 harg4 arg5 harg5 arg6 harg6 arg7 harg7 arg8 harg8 arg9 harg9 arg10 harg10 X1 X2 X3 X4 X8 X9 G5 G6 G10 k).2.1) (dg_list c i arg1 harg1 arg2 harg2 arg3 harg3 arg4 harg4 arg5 harg5 arg6 harg6 arg7 harg7 arg8 harg8 arg9 harg9 arg10 harg10 X1 X2 X3 X4 X8 X9 ⟨k, hk'⟩ _ _ _))
    refine (congrArg (fun L => rowAt (arg6.view.read (Elt Ideal) (arg6.view.writes (Elt Ideal) G6 L)) r l) e').trans ?_
    refine (rowAt_cons (n := 4224) (w := 128) arg6 G6 (k0_off4_inb ⟨k, hk'⟩) _ _ (128 * k) (k0_off4_eq ⟨k, hk'⟩) r (by omega) l).trans ?_
    split
    · rename_i h
      have e1 : dhTrip arg3 arg9 X3 X9 ⟨k, hk'⟩ (ix2 ⟨r - 128 * k, by omega⟩ l) = dhAt (arg3.view.read (Elt Ideal) X3) (rowAt (arg9.view.read (Elt Ideal) X9)) r l := by
        rw [dhTrip_apply]
        exact Finset.sum_congr rfl fun κ _ => congrArg (fun z => _ * rowAt (arg9.view.read (Elt Ideal) X9) z l)
          (by show 128 * k + (r - 128 * k) + (30 - κ.val) = r + (30 - κ.val); omega)
      have e2 := (load_rows (n := 4224) (w := 128) arg2 X2 (k0_off4_inb ⟨k, hk'⟩) (128 * k) (k0_off4_eq ⟨k, hk'⟩) ⟨r - 128 * k, by omega⟩ l).trans
        (congrArg (fun z => rowAt (arg2.view.read (Elt Ideal) X2) z l) (show 128 * k + (r - 128 * k) = r by omega))
      have e3 := (load_rows (n := 4224) (w := 128) arg1 X1 (k0_off4_inb ⟨k, hk'⟩) (128 * k) (k0_off4_eq ⟨k, hk'⟩) ⟨r - 128 * k, by omega⟩ l).trans
        (congrArg (fun z => rowAt (arg1.view.read (Elt Ideal) X1) z l) (show 128 * k + (r - 128 * k) = r by omega))
      rw [pay76_apply, pay69_apply, e1]
      exact congrArg₂ (fun a b => _ * a * sg b * (1 - sg b)) e3 e2
    · rename_i h
      exact main6 X1 X2 X3 X4 X8 X9 G5 G6 G10 l k (by omega) r (by omega)

/-- What trip `k` adds to row `r` of the accumulator. -/
def tapAt (z : (⟨2, ![4224, 128]⟩ : Shape).Idx → EReal) (h : ℕ → Fin 128 → EReal) (k r : ℕ) (l : Fin 128) : EReal :=
  ∑ u : Fin 16, rowAt z (128 * k + (u.val * 8 + r % 8)) l * h (128 * k + (u.val * 8 + r % 8) + (r / 8 + 2)) l

theorem main10 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X8 : BufTy.Contents (Elt Ideal) arg8.view.ty) (X9 : BufTy.Contents (Elt Ideal) arg9.view.ty) (G5 : BufTy.Contents (Elt Ideal) arg5.view.ty) (G6 : BufTy.Contents (Elt Ideal) arg6.view.ty) (G10 : BufTy.Contents (Elt Ideal) arg10.view.ty) (l : Fin 128) :
    ∀ (k : ℕ), k ≤ 33 → ∀ r < 248,
      rowAt (arg10.view.read (Elt Ideal) (arg10.view.writes (Elt Ideal) G10 (mainP c i arg1 harg1 arg2 harg2 arg3 harg3 arg4 harg4 arg5 harg5 arg6 harg6 arg7 harg7 arg8 harg8 arg9 harg9 arg10 harg10 X1 X2 X3 X4 X8 X9 G5 G6 G10 k).2.2)) r l
      = rowAt (arg10.view.read (Elt Ideal) G10) r l
        + ∑ j ∈ Finset.range k, tapAt (arg4.view.read (Elt Ideal) X4) (rowAt (arg8.view.read (Elt Ideal) X8)) j r l
  | 0, _, r, hr => by rw [Finset.sum_range_zero, add_zero]; rfl
  | k + 1, hk, r, hr => by
    have hk' : k < k0_t2_loop.trips := by rw [trips2]; omega
    have e := pb_k0_t2_succ (F := Ideal) Variants.none c none i arg1 harg1 arg2 harg2 arg3 harg3 arg4 harg4 arg5 harg5 arg6 harg6 arg7 harg7 arg8 harg8 arg9 harg9 arg10 harg10 X1 X2 X3 X4 X8 X9 G5 G6 G10 ⟨k, hk'⟩
    have ih := main10 X1 X2 X3 X4 X8 X9 G5 G6 G10 l k (by omega) r hr
    have e' := (congrArg (fun q => q.2.2) e).trans (congrArg (· ++ (mainP c i arg1 harg1 arg2 harg2 arg3 harg3 arg4 harg4 arg5 harg5 arg6 harg6 arg7 harg7 arg8 harg8 arg9 harg9 arg10 harg10 X1 X2 X3 X4 X8 X9 G5 G6 G10 k).2.2) (acc_list c i arg1 harg1 arg2 harg2 arg3 harg3 arg4 harg4 arg5 harg5 arg6 harg6 arg7 harg7 arg8 harg8 arg9 harg9 arg10 harg10 X1 X2 X3 X4 X8 X9 ⟨k, hk'⟩ _ _ _))
    refine (congrArg (fun L => rowAt (arg10.view.read (Elt Ideal) (arg10.view.writes (Elt Ideal) G10 L)) r l) e').trans ?_
    rw [View.writes_append, rowAt_of_lt _ (show r < 256 by omega)]
    refine (View.read_tilePieces arg10.view _ ![8, 128] (fun κ : Fin 31 => ![8 * κ.val, 0]) acc_inb _ 31 (le_refl 31)
      (ix2 ⟨r, by omega⟩ l) ⟨r / 8, by omega⟩ (by show r / 8 < 31; omega) (ix2 ⟨r % 8, by omega⟩ l) ?_ (0 : Fin 2) ?_).trans ?_
    · intro a
      match a with
      | ⟨0, _⟩ => show r = 8 * (r / 8) + r % 8; omega
      | ⟨1, _⟩ => show l.val = 0 + l.val; omega
    · intro κ hκ
      have hκ' : κ.val ≠ r / 8 := fun h => hκ (Fin.ext h)
      show r < 8 * κ.val ∨ 8 * κ.val + 8 ≤ r
      omega
    · rw [accPay_apply, Finset.sum_range_succ, ← add_assoc, ← ih]
      refine congrArg₂ (· + ·) ?_ (Finset.sum_congr rfl fun u _ => congrArg₂ (· * ·) ?_ ?_)
      · refine (load_rows (n := 256) (w := 8) arg10 _ _ (8 * (r / 8)) rfl _ l).trans ?_
        exact congrArg (fun z => rowAt (arg10.view.read (Elt Ideal) _) z l) (by show 8 * (r / 8) + r % 8 = r; omega)
      · exact load_rows (n := 4224) (w := 128) arg4 X4 _ (128 * k) (k0_off4_eq ⟨k, hk'⟩) _ l
      · refine (load_rows (n := 4256) (w := 128) arg8 X8 _ (128 * k + (r / 8 + 2)) (k0_off5_eq ⟨k, hk'⟩ ⟨r / 8 + 2, by omega⟩) _ l).trans ?_
        exact congrArg (fun z => rowAt (arg8.view.read (Elt Ideal) X8) z l)
          (by show 128 * k + (r / 8 + 2) + (u.val * 8 + r % 8) = 128 * k + (u.val * 8 + r % 8) + (r / 8 + 2); omega)

end Cert.Conv

end
-- ==== Proof.Conv.BodyRun.lean ====
/-
  The body of the convolution's backward pass run once, over any float values: its inputs end as they were, and each of its three
  result blocks is what the stores of the two loops leave.
-/
module

public import proofs.«01_k».proof.Proof.Conv.Loops

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Out

variable (c : Dev nD) (i : grid0.Coords) (arg1 : Memref sig .tc .vmem S4224x128 .f32) (harg1 : arg1.IsWhole) (arg2 : Memref sig .tc .vmem S4224x128 .f32) (harg2 : arg2.IsWhole) (arg3 : Memref sig .tc .vmem S32x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S32x128 .f32) (harg7 : arg7.IsWhole) (arg8 : Memref sig .tc .vmem S4256x128 .f32) (harg8 : arg8.IsWhole) (arg9 : Memref sig .tc .vmem S4256x128 .f32) (harg9 : arg9.IsWhole) (arg10 : Memref sig .tc .vmem S256x128 .f32) (harg10 : arg10.IsWhole)
  (x0 : Vec F S4224x128 .f32) (x1 : Vec F S4224x128 .f32) (x2 : Vec F S32x128 .f32) (x3 : Vec F S4224x128 .f32)

theorem row31_inb (a : Fin 2) : (![31, 0] : Fin 2 → ℕ) a + S1x128.size a ≤ S32x128.size a := by
  match a with
  | ⟨0, _⟩ => show 31 + 1 ≤ 32; omega
  | ⟨1, _⟩ => show 0 + 128 ≤ 128; omega

/-- The first loop's stores into the two scratch buffers, under the stores of zeros. -/
abbrev in8 (f8 : BufTy.Contents (Elt F) arg8.view.ty) (n : ℕ) : BufTy.Contents (Elt F) arg8.view.ty :=
  (arg8.view.writes (Elt F) f8 ((pb_k0_t1 (F := F) Variants.none c none i arg1 harg1 arg2 harg2 arg3 harg3 arg4 harg4 arg5 harg5 arg6 harg6 arg7 harg7 arg8 harg8 arg9 harg9 arg10 harg10 (harg1.unread x0) (harg2.unread x1) (harg4.unread x3) n).1 ++ [⟨Rect.unit (s := S4256x128) ![0, 0] S32x128.size inb_S4256x128_S32x128_0_0, k0_pay71 (F := F)⟩]))
abbrev in9 (f9 : BufTy.Contents (Elt F) arg9.view.ty) (n : ℕ) : BufTy.Contents (Elt F) arg9.view.ty :=
  (arg9.view.writes (Elt F) f9 ((pb_k0_t1 (F := F) Variants.none c none i arg1 harg1 arg2 harg2 arg3 harg3 arg4 harg4 arg5 harg5 arg6 harg6 arg7 harg7 arg8 harg8 arg9 harg9 arg10 harg10 (harg1.unread x0) (harg2.unread x1) (harg4.unread x3) n).2 ++ [⟨Rect.unit (s := S4256x128) ![4224, 0] S32x128.size inb_S4256x128_S32x128_4224_0, k0_pay72 (F := F)⟩]))

/-- The second loop's stores, from those scratch contents and an accumulator of zeros. -/
abbrev mains (f5 : BufTy.Contents (Elt F) arg5.view.ty) (f6 : BufTy.Contents (Elt F) arg6.view.ty) (f8 : BufTy.Contents (Elt F) arg8.view.ty) (f9 : BufTy.Contents (Elt F) arg9.view.ty) (n : ℕ) :=
  pb_k0_t2 (F := F) Variants.none c none i arg1 harg1 arg2 harg2 arg3 harg3 arg4 harg4 arg5 harg5 arg6 harg6 arg7 harg7 arg8 harg8 arg9 harg9 arg10 harg10 (harg1.unread x0) (harg2.unread x1) (harg3.unread x2) (harg4.unread x3) (in8 c i arg1 harg1 arg2 harg2 arg3 harg3 arg4 harg4 arg5 harg5 arg6 harg6 arg7 harg7 arg8 harg8 arg9 harg9 arg10 harg10 x0 x1 x3 f8 n) (in9 c i arg1 harg1 arg2 harg2 arg3 harg3 arg4 harg4 arg5 harg5 arg6 harg6 arg7 harg7 arg8 harg8 arg9 harg9 arg10 harg10 x0 x1 x3 f9 n) f5 f6
    (arg10.view.writes (Elt F) arg10.view.junk [⟨Rect.unit (s := S256x128) ![0, 0] S256x128.size inb_S256x128_S256x128_0_0, k0_pay73 (F := F)⟩]) n

/-- The accumulator's stores, oldest last. -/
abbrev accs (f5 : BufTy.Contents (Elt F) arg5.view.ty) (f6 : BufTy.Contents (Elt F) arg6.view.ty) (f8 : BufTy.Contents (Elt F) arg8.view.ty) (f9 : BufTy.Contents (Elt F) arg9.view.ty) (n : ℕ) :=
  (mains c i arg1 harg1 arg2 harg2 arg3 harg3 arg4 harg4 arg5 harg5 arg6 harg6 arg7 harg7 arg8 harg8 arg9 harg9 arg10 harg10 x0 x1 x2 x3 f5 f6 f8 f9 n).2.2 ++ [⟨Rect.unit (s := S256x128) ![0, 0] S256x128.size inb_S256x128_S256x128_0_0, k0_pay73 (F := F)⟩]

/-- What the run says of each result: it reads as the stores over some earlier contents. -/
def Out5 (d : Vec F S4224x128 .f32) : Prop := ∃ f5 f6 f8 f9 n, n = 33 ∧
  arg5.view.read (Elt F) (arg5.view.writes (Elt F) f5 (mains c i arg1 harg1 arg2 harg2 arg3 harg3 arg4 harg4 arg5 harg5 arg6 harg6 arg7 harg7 arg8 harg8 arg9 harg9 arg10 harg10 x0 x1 x2 x3 f5 f6 f8 f9 n).1) = d
def Out6 (d : Vec F S4224x128 .f32) : Prop := ∃ f5 f6 f8 f9 n, n = 33 ∧
  arg6.view.read (Elt F) (arg6.view.writes (Elt F) f6 (mains c i arg1 harg1 arg2 harg2 arg3 harg3 arg4 harg4 arg5 harg5 arg6 harg6 arg7 harg7 arg8 harg8 arg9 harg9 arg10 harg10 x0 x1 x2 x3 f5 f6 f8 f9 n).2.1) = d
def Out7 (d : Vec F S32x128 .f32) : Prop := ∃ f5 f6 f7 f8 f9 n, n = 33 ∧
  arg7.view.read (Elt F) (arg7.view.writes (Elt F) f7
      (⟨Rect.unit (s := S32x128) ![31, 0] S1x128.size row31_inb, k0_pay6 (F := F)⟩
        :: View.tilePieces (s := S32x128) (e := .f32) (Val := Elt F) ![1, 128] (fun κ : Fin 31 => ![κ.val, 0]) row_inb
          (fun κ => k0_pay77 (arg10.view.readCov (accs c i arg1 harg1 arg2 harg2 arg3 harg3 arg4 harg4 arg5 harg5 arg6 harg6 arg7 harg7 arg8 harg8 arg9 harg9 arg10 harg10 x0 x1 x2 x3 f5 f6 f8 f9 n) (Rect.unit (s := S256x128) ![8 * κ.val, 0] S8x128.size (acc_inb κ)).toLoadRect)) 31 (le_refl 31))) = d

end Out

set_option maxHeartbeats 1000000 in
/-- The body's triple. -/
theorem body_run (c : Dev nD) (i : grid0.Coords) (arg1 : Memref sig .tc .vmem S4224x128 .f32) (harg1 : arg1.IsWhole) (arg2 : Memref sig .tc .vmem S4224x128 .f32) (harg2 : arg2.IsWhole) (arg3 : Memref sig .tc .vmem S32x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S32x128 .f32) (harg7 : arg7.IsWhole) (arg8 : Memref sig .tc .vmem S4256x128 .f32) (harg8 : arg8.IsWhole) (arg9 : Memref sig .tc .vmem S4256x128 .f32) (harg9 : arg9.IsWhole) (arg10 : Memref sig .tc .vmem S256x128 .f32) (harg10 : arg10.IsWhole)
    (x0 : Vec F S4224x128 .f32) (x1 : Vec F S4224x128 .f32) (x2 : Vec F S32x128 .f32) (x3 : Vec F S4224x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, ⌜Out5 c i arg1 harg1 arg2 harg2 arg3 harg3 arg4 harg4 arg5 harg5 arg6 harg6 arg7 harg7 arg8 harg8 arg9 harg9 arg10 harg10 x0 x1 x2 x3 d⌝ ∗ owns (c : Thread nD τ) arg5 fullShare d) ∗ (∃ d, ⌜Out6 c i arg1 harg1 arg2 harg2 arg3 harg3 arg4 harg4 arg5 harg5 arg6 harg6 arg7 harg7 arg8 harg8 arg9 harg9 arg10 harg10 x0 x1 x2 x3 d⌝ ∗ owns (c : Thread nD τ) arg6 fullShare d) ∗ (∃ d, ⌜Out7 c i arg1 harg1 arg2 harg2 arg3 harg3 arg4 harg4 arg5 harg5 arg6 harg6 arg7 harg7 arg8 harg8 arg9 harg9 arg10 harg10 x0 x1 x2 x3 d⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10) K := by
    intro E K
    simp only [cc0_conv_bwd_eq_skeleton]; unfold cc0_conv_bwd_skel
    simp only [k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap
      · iexists _; isplitr; swap; · iexact H4
        ipureintro; rfl
      ipureintro; exact ⟨_, _, _, _, _, trips1, rfl⟩
    isplitl [H5]
    · iexists _; isplitr; swap
      · iexists _; isplitr; swap; · iexact H5
        ipureintro; rfl
      ipureintro; exact ⟨_, _, _, _, _, trips1, rfl⟩
    isplitl [H6]
    · iexists _; isplitr; swap
      · iexists _; isplitr; swap; · iexact H6
        ipureintro; rfl
      ipureintro; exact ⟨f4, f5, _, fs0, fs1, _, trips1, rfl⟩
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Conv

end
-- ==== Proof.Conv.Blocks.lean ====
/-
  What the body of the convolution's backward pass leaves in its three result blocks, by element, from its four input
  blocks.
-/
module

public import proofs.«01_k».proof.Proof.Conv.BodyRun

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

local notation "𝕄" => MT nD τ sig Unit (Elt Ideal) ℕ (UR sig nD τ) ℕ

/-! ## The result blocks of the input blocks -/

/-- The first half's gradient. -/
def daBlk (x1 : Vec Ideal S4224x128 .f32) (x2 : Vec Ideal S32x128 .f32) (x3 : Vec Ideal S4224x128 .f32) : Vec Ideal S4224x128 .f32 :=
  fun y => dhAt x2 (rowAt x3) (y 0).val (y 1) * sg (x1 y)

/-- The gate half's gradient. -/
def dgBlk (x0 x1 : Vec Ideal S4224x128 .f32) (x2 : Vec Ideal S32x128 .f32) (x3 : Vec Ideal S4224x128 .f32) : Vec Ideal S4224x128 .f32 :=
  fun y => dhAt x2 (rowAt x3) (y 0).val (y 1) * x0 y * sg (x1 y) * (1 - sg (x1 y))

/-- The taps' gradient; no tap is in the last row. -/
def dwBlk (x0 x1 x3 : Vec Ideal S4224x128 .f32) : Vec Ideal S32x128 .f32 :=
  fun y => if (y 0).val < 31 then ∑ s : Fin 8, ∑ j ∈ Finset.range 33, tapAt x3 (hAt x0 x1) j (8 * (y 0).val + s.val) (y 1) else 0

theorem pay71_zero (y : S32x128.Idx) : (k0_pay71 (F := Ideal)) y = 0 := by pointwise [k0_pay71]
theorem pay72_zero (y : S32x128.Idx) : (k0_pay72 (F := Ideal)) y = 0 := by pointwise [k0_pay72]
theorem pay73_zero (y : S256x128.Idx) : (k0_pay73 (F := Ideal)) y = 0 := by pointwise [k0_pay73]
theorem pay6_zero (y : S1x128.Idx) : (k0_pay6 (F := Ideal)) y = 0 := by pointwise [k0_pay6]
theorem pay77_apply (a : Vec Ideal S8x128 .f32) (l : Fin 128) : k0_pay77 a (ix2 0 l) = ∑ s : Fin 8, a (ix2 s l) := by
  pointwise [k0_pay77]

theorem idx_eq {n : ℕ} (y : (⟨2, ![n, 128]⟩ : Shape).Idx) : y = ix2 ⟨(y 0).val, (y 0).isLt⟩ (y 1) := by
  funext a; match a with | ⟨0, _⟩ => rfl | ⟨1, _⟩ => rfl

theorem rowAt_idx {n : ℕ} (x : (⟨2, ![n, 128]⟩ : Shape).Idx → EReal) (y : (⟨2, ![n, 128]⟩ : Shape).Idx) : rowAt x (y 0).val (y 1) = x y := by
  exact (rowAt_of_lt x (y 0).isLt (y 1)).trans (congrArg x (idx_eq y).symm)

section Blocks

variable (c : Dev nD) (i : grid0.Coords) (arg1 : Memref sig .tc .vmem S4224x128 .f32) (harg1 : arg1.IsWhole) (arg2 : Memref sig .tc .vmem S4224x128 .f32) (harg2 : arg2.IsWhole) (arg3 : Memref sig .tc .vmem S32x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S32x128 .f32) (harg7 : arg7.IsWhole) (arg8 : Memref sig .tc .vmem S4256x128 .f32) (harg8 : arg8.IsWhole) (arg9 : Memref sig .tc .vmem S4256x128 .f32) (harg9 : arg9.IsWhole) (arg10 : Memref sig .tc .vmem S256x128 .f32) (harg10 : arg10.IsWhole)
  (x0 : Vec Ideal S4224x128 .f32) (x1 : Vec Ideal S4224x128 .f32) (x2 : Vec Ideal S32x128 .f32) (x3 : Vec Ideal S4224x128 .f32)
  (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (n : ℕ) (hn : n = 33)
include hn

theorem read8 (r : ℕ) (hr : r < 4256) (l : Fin 128) : rowAt (arg8.view.read (Elt Ideal) (arg8.view.writes (Elt Ideal) f8 ((fillP c i arg1 harg1 arg2 harg2 arg3 harg3 arg4 harg4 arg5 harg5 arg6 harg6 arg7 harg7 arg8 harg8 arg9 harg9 arg10 harg10 (harg1.unread x0) (harg2.unread x1) (harg4.unread x3) n).1 ++ [⟨Rect.unit (s := S4256x128) ![0, 0] S32x128.size inb_S4256x128_S32x128_0_0, k0_pay71 (F := Ideal)⟩]))) r l = hAt x0 x1 r l := by
  subst hn
  refine (fill8_all c i arg1 harg1 arg2 harg2 arg3 harg3 arg4 harg4 arg5 harg5 arg6 harg6 arg7 harg7 arg8 harg8 arg9 harg9 arg10 harg10 (harg1.unread x0) (harg2.unread x1) (harg4.unread x3) f8 (k0_pay71 (F := Ideal)) pay71_zero _ r hr l).trans ?_
  rw [harg1.read_unread, harg2.read_unread]

theorem read9 (r : ℕ) (hr : r < 4256) (l : Fin 128) : rowAt (arg9.view.read (Elt Ideal) (arg9.view.writes (Elt Ideal) f9 ((fillP c i arg1 harg1 arg2 harg2 arg3 harg3 arg4 harg4 arg5 harg5 arg6 harg6 arg7 harg7 arg8 harg8 arg9 harg9 arg10 harg10 (harg1.unread x0) (harg2.unread x1) (harg4.unread x3) n).2 ++ [⟨Rect.unit (s := S4256x128) ![4224, 0] S32x128.size inb_S4256x128_S32x128_4224_0, k0_pay72 (F := Ideal)⟩]))) r l = rowAt x3 r l := by
  subst hn
  refine (fill9_all c i arg1 harg1 arg2 harg2 arg3 harg3 arg4 harg4 arg5 harg5 arg6 harg6 arg7 harg7 arg8 harg8 arg9 harg9 arg10 harg10 (harg1.unread x0) (harg2.unread x1) (harg4.unread x3) f9 (k0_pay72 (F := Ideal)) pay72_zero _ r hr l).trans ?_
  rw [harg4.read_unread]

theorem dh_eq (r : ℕ) (hr : r < 4224) (l : Fin 128) :
    dhAt (arg3.view.read (Elt Ideal) (harg3.unread x2)) (rowAt (arg9.view.read (Elt Ideal) (arg9.view.writes (Elt Ideal) f9 ((fillP c i arg1 harg1 arg2 harg2 arg3 harg3 arg4 harg4 arg5 harg5 arg6 harg6 arg7 harg7 arg8 harg8 arg9 harg9 arg10 harg10 (harg1.unread x0) (harg2.unread x1) (harg4.unread x3) n).2 ++ [⟨Rect.unit (s := S4256x128) ![4224, 0] S32x128.size inb_S4256x128_S32x128_4224_0, k0_pay72 (F := Ideal)⟩])))) r l = dhAt x2 (rowAt x3) r l := by
  rw [harg3.read_unread]
  exact Finset.sum_congr rfl fun κ _ => congrArg₂ (· * ·) rfl (read9 c i arg1 harg1 arg2 harg2 arg3 harg3 arg4 harg4 arg5 harg5 arg6 harg6 arg7 harg7 arg8 harg8 arg9 harg9 arg10 harg10 x0 x1 x3 f9 n hn _ (by omega) l)

theorem read5 : arg5.view.read (Elt Ideal) (arg5.view.writes (Elt Ideal) f5 (mainP c i arg1 harg1 arg2 harg2 arg3 harg3 arg4 harg4 arg5 harg5 arg6 harg6 arg7 harg7 arg8 harg8 arg9 harg9 arg10 harg10 (harg1.unread x0) (harg2.unread x1) (harg3.unread x2) (harg4.unread x3) (arg8.view.writes (Elt Ideal) f8 ((fillP c i arg1 harg1 arg2 harg2 arg3 harg3 arg4 harg4 arg5 harg5 arg6 harg6 arg7 harg7 arg8 harg8 arg9 harg9 arg10 harg10 (harg1.unread x0) (harg2.unread x1) (harg4.unread x3) n).1 ++ [⟨Rect.unit (s := S4256x128) ![0, 0] S32x128.size inb_S4256x128_S32x128_0_0, k0_pay71 (F := Ideal)⟩])) (arg9.view.writes (Elt Ideal) f9 ((fillP c i arg1 harg1 arg2 harg2 arg3 harg3 arg4 harg4 arg5 harg5 arg6 harg6 arg7 harg7 arg8 harg8 arg9 harg9 arg10 harg10 (harg1.unread x0) (harg2.unread x1) (harg4.unread x3) n).2 ++ [⟨Rect.unit (s := S4256x128) ![4224, 0] S32x128.size inb_S4256x128_S32x128_4224_0, k0_pay72 (F := Ideal)⟩])) f5 f6 (arg10.view.writes (Elt Ideal) arg10.view.junk [⟨Rect.unit (s := S256x128) ![0, 0] S256x128.size inb_S256x128_S256x128_0_0, k0_pay73 (F := Ideal)⟩]) n).1) = daBlk x1 x2 x3 := by
  funext y
  have hy := (y 0).isLt
  refine (rowAt_idx (n := 4224) _ y).symm.trans ?_
  have h := dh_eq c i arg1 harg1 arg2 harg2 arg3 harg3 arg4 harg4 arg5 harg5 arg6 harg6 arg7 harg7 arg8 harg8 arg9 harg9 arg10 harg10 x0 x1 x2 x3 f9 n hn (y 0).val hy (y 1)
  subst hn
  refine (main5 c i arg1 harg1 arg2 harg2 arg3 harg3 arg4 harg4 arg5 harg5 arg6 harg6 arg7 harg7 arg8 harg8 arg9 harg9 arg10 harg10 (harg1.unread x0) (harg2.unread x1) (harg3.unread x2) (harg4.unread x3) _ _ f5 f6 _ (y 1) 33 (le_refl _) (y 0).val hy).trans ?_
  rw [h, harg2.read_unread]
  exact congrArg (fun z => _ * sg z) (rowAt_idx (n := 4224) x1 y)

theorem read6 : arg6.view.read (Elt Ideal) (arg6.view.writes (Elt Ideal) f6 (mainP c i arg1 harg1 arg2 harg2 arg3 harg3 arg4 harg4 arg5 harg5 arg6 harg6 arg7 harg7 arg8 harg8 arg9 harg9 arg10 harg10 (harg1.unread x0) (harg2.unread x1) (harg3.unread x2) (harg4.unread x3) (arg8.view.writes (Elt Ideal) f8 ((fillP c i arg1 harg1 arg2 harg2 arg3 harg3 arg4 harg4 arg5 harg5 arg6 harg6 arg7 harg7 arg8 harg8 arg9 harg9 arg10 harg10 (harg1.unread x0) (harg2.unread x1) (harg4.unread x3) n).1 ++ [⟨Rect.unit (s := S4256x128) ![0, 0] S32x128.size inb_S4256x128_S32x128_0_0, k0_pay71 (F := Ideal)⟩])) (arg9.view.writes (Elt Ideal) f9 ((fillP c i arg1 harg1 arg2 harg2 arg3 harg3 arg4 harg4 arg5 harg5 arg6 harg6 arg7 harg7 arg8 harg8 arg9 harg9 arg10 harg10 (harg1.unread x0) (harg2.unread x1) (harg4.unread x3) n).2 ++ [⟨Rect.unit (s := S4256x128) ![4224, 0] S32x128.size inb_S4256x128_S32x128_4224_0, k0_pay72 (F := Ideal)⟩])) f5 f6 (arg10.view.writes (Elt Ideal) arg10.view.junk [⟨Rect.unit (s := S256x128) ![0, 0] S256x128.size inb_S256x128_S256x128_0_0, k0_pay73 (F := Ideal)⟩]) n).2.1) = dgBlk x0 x1 x2 x3 := by
  funext y
  have hy := (y 0).isLt
  refine (rowAt_idx (n := 4224) _ y).symm.trans ?_
  have h := dh_eq c i arg1 harg1 arg2 harg2 arg3 harg3 arg4 harg4 arg5 harg5 arg6 harg6 arg7 harg7 arg8 harg8 arg9 harg9 arg10 harg10 x0 x1 x2 x3 f9 n hn (y 0).val hy (y 1)
  subst hn
  refine (main6 c i arg1 harg1 arg2 harg2 arg3 harg3 arg4 harg4 arg5 harg5 arg6 harg6 arg7 harg7 arg8 harg8 arg9 harg9 arg10 harg10 (harg1.unread x0) (harg2.unread x1) (harg3.unread x2) (harg4.unread x3) _ _ f5 f6 _ (y 1) 33 (le_refl _) (y 0).val hy).trans ?_
  rw [h, harg1.read_unread, harg2.read_unread]
  exact congrArg₂ (fun a b => _ * a * sg b * (1 - sg b)) (rowAt_idx (n := 4224) x0 y) (rowAt_idx (n := 4224) x1 y)

theorem read10 (r : ℕ) (hr : r < 248) (l : Fin 128) :
    rowAt (arg10.view.read (Elt Ideal) (arg10.view.writes (Elt Ideal) arg10.view.junk ((mainP c i arg1 harg1 arg2 harg2 arg3 harg3 arg4 harg4 arg5 harg5 arg6 harg6 arg7 harg7 arg8 harg8 arg9 harg9 arg10 harg10 (harg1.unread x0) (harg2.unread x1) (harg3.unread x2) (harg4.unread x3) (arg8.view.writes (Elt Ideal) f8 ((fillP c i arg1 harg1 arg2 harg2 arg3 harg3 arg4 harg4 arg5 harg5 arg6 harg6 arg7 harg7 arg8 harg8 arg9 harg9 arg10 harg10 (harg1.unread x0) (harg2.unread x1) (harg4.unread x3) n).1 ++ [⟨Rect.unit (s := S4256x128) ![0, 0] S32x128.size inb_S4256x128_S32x128_0_0, k0_pay71 (F := Ideal)⟩])) (arg9.view.writes (Elt Ideal) f9 ((fillP c i arg1 harg1 arg2 harg2 arg3 harg3 arg4 harg4 arg5 harg5 arg6 harg6 arg7 harg7 arg8 harg8 arg9 harg9 arg10 harg10 (harg1.unread x0) (harg2.unread x1) (harg4.unread x3) n).2 ++ [⟨Rect.unit (s := S4256x128) ![4224, 0] S32x128.size inb_S4256x128_S32x128_4224_0, k0_pay72 (F := Ideal)⟩])) f5 f6 (arg10.view.writes (Elt Ideal) arg10.view.junk [⟨Rect.unit (s := S256x128) ![0, 0] S256x128.size inb_S256x128_S256x128_0_0, k0_pay73 (F := Ideal)⟩]) n).2.2 ++ [⟨Rect.unit (s := S256x128) ![0, 0] S256x128.size inb_S256x128_S256x128_0_0, k0_pay73 (F := Ideal)⟩]))) r l
      = ∑ j ∈ Finset.range 33, tapAt x3 (hAt x0 x1) j r l := by
  have h8 := fun r hr l => read8 c i arg1 harg1 arg2 harg2 arg3 harg3 arg4 harg4 arg5 harg5 arg6 harg6 arg7 harg7 arg8 harg8 arg9 harg9 arg10 harg10 x0 x1 x3 f8 n hn r hr l
  rw [View.writes_append]
  subst hn
  refine (main10 c i arg1 harg1 arg2 harg2 arg3 harg3 arg4 harg4 arg5 harg5 arg6 harg6 arg7 harg7 arg8 harg8 arg9 harg9 arg10 harg10 (harg1.unread x0) (harg2.unread x1) (harg3.unread x2) (harg4.unread x3) _ _ f5 f6 _ l 33 (le_refl _) r hr).trans ?_
  have e : rowAt (arg10.view.read (Elt Ideal) (arg10.view.writes (Elt Ideal) arg10.view.junk [⟨Rect.unit (s := S256x128) ![0, 0] S256x128.size inb_S256x128_S256x128_0_0, k0_pay73 (F := Ideal)⟩])) r l = 0 := by
    refine (rowAt_cons (n := 256) (w := 256) arg10 _ inb_S256x128_S256x128_0_0 (k0_pay73 (F := Ideal)) [] 0 rfl r (by omega) l).trans ?_
    rw [dif_pos (by omega)]
    exact pay73_zero _
  rw [e, zero_add]
  refine Finset.sum_congr rfl fun j hj => ?_
  have hj' := Finset.mem_range.1 hj
  rw [harg4.read_unread]
  refine Finset.sum_congr rfl fun u _ => congrArg₂ (· * ·) rfl (h8 _ ?_ l)
  have := u.isLt
  omega

theorem read7 : arg7.view.read (Elt Ideal) (arg7.view.writes (Elt Ideal) f7
      (⟨Rect.unit (s := S32x128) ![31, 0] S1x128.size row31_inb, k0_pay6 (F := Ideal)⟩
        :: View.tilePieces (s := S32x128) (e := .f32) (Val := Elt Ideal) ![1, 128] (fun κ : Fin 31 => ![κ.val, 0]) row_inb
          (fun κ => k0_pay77 (arg10.view.readCov ((mainP c i arg1 harg1 arg2 harg2 arg3 harg3 arg4 harg4 arg5 harg5 arg6 harg6 arg7 harg7 arg8 harg8 arg9 harg9 arg10 harg10 (harg1.unread x0) (harg2.unread x1) (harg3.unread x2) (harg4.unread x3) (arg8.view.writes (Elt Ideal) f8 ((fillP c i arg1 harg1 arg2 harg2 arg3 harg3 arg4 harg4 arg5 harg5 arg6 harg6 arg7 harg7 arg8 harg8 arg9 harg9 arg10 harg10 (harg1.unread x0) (harg2.unread x1) (harg4.unread x3) n).1 ++ [⟨Rect.unit (s := S4256x128) ![0, 0] S32x128.size inb_S4256x128_S32x128_0_0, k0_pay71 (F := Ideal)⟩])) (arg9.view.writes (Elt Ideal) f9 ((fillP c i arg1 harg1 arg2 harg2 arg3 harg3 arg4 harg4 arg5 harg5 arg6 harg6 arg7 harg7 arg8 harg8 arg9 harg9 arg10 harg10 (harg1.unread x0) (harg2.unread x1) (harg4.unread x3) n).2 ++ [⟨Rect.unit (s := S4256x128) ![4224, 0] S32x128.size inb_S4256x128_S32x128_4224_0, k0_pay72 (F := Ideal)⟩])) f5 f6 (arg10.view.writes (Elt Ideal) arg10.view.junk [⟨Rect.unit (s := S256x128) ![0, 0] S256x128.size inb_S256x128_S256x128_0_0, k0_pay73 (F := Ideal)⟩]) n).2.2 ++ [⟨Rect.unit (s := S256x128) ![0, 0] S256x128.size inb_S256x128_S256x128_0_0, k0_pay73 (F := Ideal)⟩]) (Rect.unit (s := S256x128) ![8 * κ.val, 0] S8x128.size (acc_inb κ)).toLoadRect)) 31 (le_refl 31)))
      = dwBlk x0 x1 x3 := by
  funext y
  have hy : (y 0).val < 32 := (y 0).isLt
  refine (rowAt_idx (n := 32) _ y).symm.trans ?_
  refine (rowAt_cons (n := 32) (w := 1) arg7 f7 row31_inb (k0_pay6 (F := Ideal)) _ 31 rfl (y 0).val hy (y 1)).trans ?_
  unfold dwBlk
  split
  · rename_i h
    rw [if_neg (by omega)]
    exact pay6_zero _
  · rename_i h
    have hy' : (y 0).val < 31 := by omega
    rw [if_pos hy']
    refine (rowAt_of_lt (n := 32) _ hy (y 1)).trans ?_
    refine (View.read_tilePieces arg7.view _ ![1, 128] (fun κ : Fin 31 => ![κ.val, 0]) row_inb _ 31 (le_refl 31)
      (ix2 ⟨(y 0).val, hy⟩ (y 1)) ⟨(y 0).val, hy'⟩ hy' (ix2 0 (y 1)) ?_ (0 : Fin 2) ?_).trans ?_
    · intro a
      match a with
      | ⟨0, _⟩ => rfl
      | ⟨1, _⟩ => show (y 1).val = 0 + (y 1).val; omega
    · intro κ hκ
      have hκ' : κ.val ≠ (y 0).val := fun h => hκ (Fin.ext h)
      show (y 0).val < κ.val ∨ κ.val + 1 ≤ (y 0).val
      omega
    · refine (pay77_apply _ (y 1)).trans ?_
      refine Finset.sum_congr rfl fun s _ => ?_
      refine (load_rows (n := 256) (w := 8) arg10 _ _ (8 * (y 0).val) rfl s (y 1)).trans ?_
      exact read10 c i arg1 harg1 arg2 harg2 arg3 harg3 arg4 harg4 arg5 harg5 arg6 harg6 arg7 harg7 arg8 harg8 arg9 harg9 arg10 harg10 x0 x1 x2 x3 f5 f6 f8 f9 n hn _ (by have := s.isLt; omega) (y 1)

omit hn

theorem out5 {d} (h : Out5 c i arg1 harg1 arg2 harg2 arg3 harg3 arg4 harg4 arg5 harg5 arg6 harg6 arg7 harg7 arg8 harg8 arg9 harg9 arg10 harg10 x0 x1 x2 x3 d) : d = daBlk x1 x2 x3 := by
  obtain ⟨f5, f6, f8, f9, n, hn, h⟩ := h
  exact h.symm.trans (read5 c i arg1 harg1 arg2 harg2 arg3 harg3 arg4 harg4 arg5 harg5 arg6 harg6 arg7 harg7 arg8 harg8 arg9 harg9 arg10 harg10 x0 x1 x2 x3 f5 f6 f8 f9 n hn)

theorem out6 {d} (h : Out6 c i arg1 harg1 arg2 harg2 arg3 harg3 arg4 harg4 arg5 harg5 arg6 harg6 arg7 harg7 arg8 harg8 arg9 harg9 arg10 harg10 x0 x1 x2 x3 d) : d = dgBlk x0 x1 x2 x3 := by
  obtain ⟨f5, f6, f8, f9, n, hn, h⟩ := h
  exact h.symm.trans (read6 c i arg1 harg1 arg2 harg2 arg3 harg3 arg4 harg4 arg5 harg5 arg6 harg6 arg7 harg7 arg8 harg8 arg9 harg9 arg10 harg10 x0 x1 x2 x3 f5 f6 f8 f9 n hn)

theorem out7 {d} (h : Out7 c i arg1 harg1 arg2 harg2 arg3 harg3 arg4 harg4 arg5 harg5 arg6 harg6 arg7 harg7 arg8 harg8 arg9 harg9 arg10 harg10 x0 x1 x2 x3 d) : d = dwBlk x0 x1 x3 := by
  obtain ⟨f5, f6, f7, f8, f9, n, hn, h⟩ := h
  exact h.symm.trans (read7 c i arg1 harg1 arg2 harg2 arg3 harg3 arg4 harg4 arg5 harg5 arg6 harg6 arg7 harg7 arg8 harg8 arg9 harg9 arg10 harg10 x0 x1 x2 x3 f5 f6 f7 f8 f9 n hn)

end Blocks

end Cert.Conv

end
-- ==== Proof.Conv.Run.lean ====
/-
  The runs of the convolution's backward pass: over any float values, with nothing said of the results (the frame), and
  over ideal ones with every point's three result blocks named.
-/
module

public import proofs.«01_k».proof.Proof.Conv.Blocks
public import Idealize.ShloMosaic.Lib.Claim

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The body's operands -/

/-- Each window's staging buffer at a point, and that it is whole. -/
abbrev ms0_0 (t : Fin cfg0.N) : Memref sig .tc .vmem S4224x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4224x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4224x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4224x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4224x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)

/-- The scratch buffers. -/
abbrev scM0_0 : Memref sig .tc .vmem S4256x128 .f32 := Memref.whole cc0_scratch0
abbrev scM0_1 : Memref sig .tc .vmem S4256x128 .f32 := Memref.whole cc0_scratch1
abbrev scM0_2 : Memref sig .tc .vmem S256x128 .f32 := Memref.whole cc0_scratch2

/-! ## Nothing said of the results -/

namespace Any

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 7 → Bool := fun w => w.val == 4 || w.val == 5 || w.val == 6

/-- The scratch buffers at some contents, and the generator. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The arrays at launch; every input's buffer keeps its block; nothing is said of the results'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: its run applied at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, ⟨%d4, -, H4⟩, ⟨%d5, -, H5⟩, ⟨%d6, -, H6⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

/-- The body as the program's table spells it. -/
theorem defs₀_row (t : Fin cfg0.N) :
    defs₀ (F := F) .tc cfg0.body (cfg0.bodyArgs t (cfg0.slots t)) = bodyAt0 t := by
  unfold defs₀; rw [Defs.onTc_tc]

/-- The obligation of the pipeline's rule, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: every execution ends, the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 1 rfl).trans (A_eq m c 1), (Pipeline.RDat.FramePost.arr_in h.1 c 2 rfl).trans (A_eq m c 2), (Pipeline.RDat.FramePost.arr_in h.1 c 3 rfl).trans (A_eq m c 3)⟩, h.2⟩) (run_main m ρ)

end Any

/-! ## The results named -/

namespace Named

local notation "𝕄" => MT nD τ sig Unit (Elt Ideal) ℕ (UR sig nD τ) ℕ

variable (m : (ℓ : Loc nD τ sig) → Buf (Elt Ideal) ℓ) (ρ : Dev nD → PrngReg)

/-- The scratch buffers at some contents, and the generator. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The arrays at launch; every input's buffer keeps its block; each result's holds its block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => daBlk (iblk m c 1 t) (iblk m c 2 t) (iblk m c 3 t)
    | ⟨5, _⟩ => dgBlk (iblk m c 0 t) (iblk m c 1 t) (iblk m c 2 t) (iblk m c 3 t)
    | ⟨6, _⟩ => dwBlk (iblk m c 0 t) (iblk m c 1 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = daBlk (iblk m c 1 t) (iblk m c 2 t) (iblk m c 3 t) := by dsimp only [dats]
theorem after0_5 (c : Dev nD) (t : Fin cfg0.N) : (dats m 0 c).after 5 t = dgBlk (iblk m c 0 t) (iblk m c 1 t) (iblk m c 2 t) (iblk m c 3 t) := by dsimp only [dats]
theorem after0_6 (c : Dev nD) (t : Fin cfg0.N) : (dats m 0 c).after 6 t = dwBlk (iblk m c 0 t) (iblk m c 1 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: its run applied at the point's blocks. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, ⟨%d4, %h4, H4⟩, ⟨%d5, %h5, H5⟩, ⟨%d6, %h6, H6⟩, HS0, HS1, HS2⟩
  obtain rfl := out5 c (grid0.coords t) _ _ _ _ _ _ _ _ _ _ _ _ _ _ _ _ _ _ _ _ (iblk m c 0 t) (iblk m c 1 t) (iblk m c 2 t) (iblk m c 3 t) h4
  obtain rfl := out6 c (grid0.coords t) _ _ _ _ _ _ _ _ _ _ _ _ _ _ _ _ _ _ _ _ (iblk m c 0 t) (iblk m c 1 t) (iblk m c 2 t) (iblk m c 3 t) h5
  obtain rfl := out7 c (grid0.coords t) _ _ _ _ _ _ _ _ _ _ _ _ _ _ _ _ _ _ _ _ (iblk m c 0 t) (iblk m c 1 t) (iblk m c 2 t) (iblk m c 3 t) h6
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body as the program's table spells it. -/
theorem defs₀_row (t : Fin cfg0.N) :
    defs₀ (F := Ideal) .tc cfg0.body (cfg0.bodyArgs t (cfg0.slots t)) = bodyAt0 t := by
  unfold defs₀; rw [Defs.onTc_tc]

/-- The obligation of the pipeline's rule, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every execution ends with the arrays at what the points leave. -/
theorem run_main : θ_run defs (onTc (τ := τ) (main (F := Ideal))) (s₀ m ρ) (Pipeline.FramePost cfgs (dats m) 0 (V m)) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

end Named

end Cert.Conv

end
-- ==== Proof.Conv.Cols.lean ====
/-
  The three results of the convolution's backward pass on the whole arrays, column by column: what both programs compute.
-/
module

public import proofs.«01_k».proof.Proof.Conv.Blocks

@[expose] public section

set_option maxRecDepth 16384

noncomputable section

namespace Cert.Conv

open Idealize.ShloMosaic Idealize.SL.Sem
open scoped BigOperators

/-- An entry of an array, by row and column, and zero outside. -/
def colAt {n w : ℕ} (x : (⟨2, ![n, w]⟩ : Shape).Idx → EReal) (r q : ℕ) : EReal :=
  if h : r < n ∧ q < w then x (ix2 ⟨r, h.1⟩ ⟨q, h.2⟩) else 0

theorem colAt_of_lt {n w : ℕ} (x : (⟨2, ![n, w]⟩ : Shape).Idx → EReal) {r q : ℕ} (hr : r < n) (hq : q < w) :
    colAt x r q = x (ix2 ⟨r, hr⟩ ⟨q, hq⟩) := dif_pos ⟨hr, hq⟩

/-- The gate of column `q`: the array's second half. -/
def gateAt (ag : (⟨2, ![4224, 1024]⟩ : Shape).Idx → EReal) (r q : ℕ) : EReal := sg (colAt ag r (512 + q))

/-- The gated input below 30 rows of zeros. -/
def hpAt (ag : (⟨2, ![4224, 1024]⟩ : Shape).Idx → EReal) (r q : ℕ) : EReal :=
  if r < 30 then 0 else colAt ag (r - 30) q * gateAt ag (r - 30) q

/-- The gradient of the gated input: each tap's weight against the gradient that many rows on. -/
def dhCol (cw : (⟨2, ![32, 512]⟩ : Shape).Idx → EReal) (dz : (⟨2, ![4224, 512]⟩ : Shape).Idx → EReal) (r q : ℕ) : EReal :=
  ∑ κ : Fin 31, colAt cw κ q * colAt dz (r + (30 - κ)) q

def daAll (ag : (⟨2, ![4224, 1024]⟩ : Shape).Idx → EReal) (cw : (⟨2, ![32, 512]⟩ : Shape).Idx → EReal)
    (dz : (⟨2, ![4224, 512]⟩ : Shape).Idx → EReal) : (⟨2, ![4224, 512]⟩ : Shape).Idx → EReal :=
  fun y => dhCol cw dz (y 0).val (y 1).val * gateAt ag (y 0).val (y 1).val

def dgAll (ag : (⟨2, ![4224, 1024]⟩ : Shape).Idx → EReal) (cw : (⟨2, ![32, 512]⟩ : Shape).Idx → EReal)
    (dz : (⟨2, ![4224, 512]⟩ : Shape).Idx → EReal) : (⟨2, ![4224, 512]⟩ : Shape).Idx → EReal :=
  fun y => dhCol cw dz (y 0).val (y 1).val * colAt ag (y 0).val (y 1).val * gateAt ag (y 0).val (y 1).val
    * (1 - gateAt ag (y 0).val (y 1).val)

def dwAll (ag : (⟨2, ![4224, 1024]⟩ : Shape).Idx → EReal) (dz : (⟨2, ![4224, 512]⟩ : Shape).Idx → EReal) :
    (⟨2, ![32, 512]⟩ : Shape).Idx → EReal :=
  fun y => if (y 0).val < 31 then ∑ r ∈ Finset.range 4224, colAt dz r (y 1).val * hpAt ag (r + (y 0).val) (y 1).val else 0

/-- A sum over `a` groups of `b` is the sum over all of them. -/
theorem sum_groups (f : ℕ → EReal) (a b : ℕ) :
    ∑ i ∈ Finset.range a, ∑ k ∈ Finset.range b, f (b * i + k) = ∑ r ∈ Finset.range (b * a), f r := by
  induction a with
  | zero => rfl
  | succ a ih => rw [Finset.sum_range_succ, ih, Nat.mul_succ, Finset.sum_range_add]

/-- The accumulator's rows of one tap together are the sum over all rows. -/
theorem sum_taps (f : ℕ → EReal) :
    ∑ s : Fin 8, ∑ j ∈ Finset.range 33, ∑ u : Fin 16, f (128 * j + (u.val * 8 + s.val)) = ∑ r ∈ Finset.range 4224, f r := by
  rw [Finset.sum_comm, ← sum_groups f 33 128]
  refine Finset.sum_congr rfl fun j _ => ?_
  rw [Finset.sum_comm, ← sum_groups (fun k => f (128 * j + k)) 16 8, ← Fin.sum_univ_eq_sum_range (fun i => ∑ k ∈ Finset.range 8, f (128 * j + (8 * i + k)))]
  refine Finset.sum_congr rfl fun u _ => ?_
  rw [← Fin.sum_univ_eq_sum_range (fun k => f (128 * j + (8 * u.val + k)))]
  exact Finset.sum_congr rfl fun s _ => congrArg f (by omega)

end Cert.Conv

end
-- ==== Proof.Conv.Final.lean ====
/-
  The three result arrays of the convolution's backward pass after its run: the blocks of the grid's four points, side by
  side, are the whole arrays' results.
-/
module

public import proofs.«01_k».proof.Proof.Conv.Run
public import proofs.«01_k».proof.Proof.Conv.Cols
public import Idealize.ShloMosaic.Lib.Pipeline.ValueKit.Point

@[expose] public section

set_option maxRecDepth 16384

noncomputable section

namespace Cert.Conv.Named

open Idealize.ShloMosaic Idealize.ShloMosaic.TcCoe Idealize.ShloMosaic.Tactic Idealize.SL.Sem
open Idealize.ShloMosaic.Pipeline (Dat Cfg Window BodyObligation cellOf)
open Cert.KernelIdeal Cert.KernelIdeal.Gen Cert.Conv
open scoped BigOperators

variable (m : (ℓ : Loc nD τ sig) → Buf (Elt Ideal) ℓ)

/-- The grid's four points take 128 columns each; the gate's block is 512 columns on. -/
theorem idx : ∀ t : Fin cfg0.N, win0_0.index t = ![0, t.val] ∧ win0_1.index t = ![0, t.val + 4] ∧ win0_2.index t = ![0, t.val]
    ∧ win0_3.index t = ![0, t.val] ∧ win0_4.index t = ![0, t.val] ∧ win0_5.index t = ![0, t.val] ∧ win0_6.index t = ![0, t.val] ∧ t.val < 4 :=
  (by decide +kernel : ∀ t : Fin grid0.N, _)

abbrev argAg (c : Dev nD) : FVec Ideal S4224x1024 .f32 := m ((c : Thread nD τ).loc main_arg0)
abbrev argCw (c : Dev nD) : FVec Ideal S32x512 .f32 := m ((c : Thread nD τ).loc main_arg1)
abbrev argDz (c : Dev nD) : FVec Ideal S4224x512 .f32 := m ((c : Thread nD τ).loc main_arg2)

theorem blk0 (c : Dev nD) (t : Fin cfg0.N) (r : ℕ) (l : Fin 128) :
    rowAt (n := 4224) (iblk m c 0 t) r l = colAt (argAg m c) r (128 * t.val + l.val) := by
  have ht := (idx t).2.2.2.2.2.2.2
  unfold rowAt colAt
  by_cases h : r < 4224
  · rw [dif_pos h, dif_pos ⟨h, by omega⟩]
    blk_point [iblk, V, idx t]
  · rw [dif_neg h, dif_neg (fun h' => h h'.1)]

theorem blk1 (c : Dev nD) (t : Fin cfg0.N) (r : ℕ) (l : Fin 128) :
    rowAt (n := 4224) (iblk m c 1 t) r l = colAt (argAg m c) r (512 + (128 * t.val + l.val)) := by
  have ht := (idx t).2.2.2.2.2.2.2
  unfold rowAt colAt
  by_cases h : r < 4224
  · rw [dif_pos h, dif_pos ⟨h, by omega⟩]
    blk_point [iblk, V, idx t]
  · rw [dif_neg h, dif_neg (fun h' => h h'.1)]

theorem blk2 (c : Dev nD) (t : Fin cfg0.N) (r : ℕ) (l : Fin 128) :
    rowAt (n := 32) (iblk m c 2 t) r l = colAt (argCw m c) r (128 * t.val + l.val) := by
  have ht := (idx t).2.2.2.2.2.2.2
  unfold rowAt colAt
  by_cases h : r < 32
  · rw [dif_pos h, dif_pos ⟨h, by omega⟩]
    blk_point [iblk, V, idx t]
  · rw [dif_neg h, dif_neg (fun h' => h h'.1)]

theorem blk3 (c : Dev nD) (t : Fin cfg0.N) (r : ℕ) (l : Fin 128) :
    rowAt (n := 4224) (iblk m c 3 t) r l = colAt (argDz m c) r (128 * t.val + l.val) := by
  have ht := (idx t).2.2.2.2.2.2.2
  unfold rowAt colAt
  by_cases h : r < 4224
  · rw [dif_pos h, dif_pos ⟨h, by omega⟩]
    blk_point [iblk, V, idx t]
  · rw [dif_neg h, dif_neg (fun h' => h h'.1)]

theorem dh_blk (c : Dev nD) (t : Fin cfg0.N) (r : ℕ) (l : Fin 128) :
    dhAt (iblk m c 2 t) (rowAt (iblk m c 3 t)) r l = dhCol (argCw m c) (argDz m c) r (128 * t.val + l.val) :=
  Finset.sum_congr rfl fun κ _ => congrArg₂ (· * ·) (blk2 m c t κ.val l) (blk3 m c t _ l)

theorem h_blk (c : Dev nD) (t : Fin cfg0.N) (r : ℕ) (l : Fin 128) :
    hAt (iblk m c 0 t) (iblk m c 1 t) (r + 2) l = hpAt (argAg m c) r (128 * t.val + l.val) := by
  unfold hAt hpAt gateAt
  rw [blk0 m c t, blk1 m c t, show r + 2 - 32 = r - 30 from by omega]
  by_cases h : r < 30
  · rw [if_pos h, if_pos (by omega)]
  · rw [if_neg h, if_neg (by omega)]

/-- One point's blocks, at an element. -/
theorem da_point (c : Dev nD) (t : Fin cfg0.N) (y : S4224x128.Idx) (z : S4224x512.Idx) (h0 : (z 0).val = (y 0).val)
    (h1 : (z 1).val = 128 * t.val + (y 1).val) :
    daBlk (iblk m c 1 t) (iblk m c 2 t) (iblk m c 3 t) y = daAll (argAg m c) (argCw m c) (argDz m c) z := by
  unfold daBlk daAll gateAt
  rw [h0, h1, ← blk1 m c t _ (y 1)]
  exact congrArg₂ (· * ·) (dh_blk m c t _ _) (congrArg sg (rowAt_idx (n := 4224) (iblk m c 1 t) y).symm)

theorem dg_point (c : Dev nD) (t : Fin cfg0.N) (y : S4224x128.Idx) (z : S4224x512.Idx) (h0 : (z 0).val = (y 0).val)
    (h1 : (z 1).val = 128 * t.val + (y 1).val) :
    dgBlk (iblk m c 0 t) (iblk m c 1 t) (iblk m c 2 t) (iblk m c 3 t) y = dgAll (argAg m c) (argCw m c) (argDz m c) z := by
  unfold dgBlk dgAll gateAt
  rw [h0, h1, ← blk1 m c t _ (y 1), ← blk0 m c t _ (y 1)]
  have e1 := congrArg sg (rowAt_idx (n := 4224) (iblk m c 1 t) y)
  have e0 := rowAt_idx (n := 4224) (iblk m c 0 t) y
  exact congrArg₂ (· * ·) (congrArg₂ (· * ·) (congrArg₂ (· * ·) (dh_blk m c t _ _) e0.symm) e1.symm) (congrArg (1 - ·) e1.symm)

theorem dw_point (c : Dev nD) (t : Fin cfg0.N) (y : S32x128.Idx) (z : S32x512.Idx) (h0 : (z 0).val = (y 0).val)
    (h1 : (z 1).val = 128 * t.val + (y 1).val) :
    dwBlk (iblk m c 0 t) (iblk m c 1 t) (iblk m c 3 t) y = dwAll (argAg m c) (argDz m c) z := by
  unfold dwBlk dwAll
  rw [h0, h1]
  by_cases h : (y 0).val < 31
  · rw [if_pos h, if_pos h]
    refine Eq.trans ?_ (sum_taps fun r => colAt (argDz m c) r (128 * t.val + (y 1).val) * hpAt (argAg m c) (r + (y 0).val) (128 * t.val + (y 1).val))
    refine Finset.sum_congr rfl fun s _ => Finset.sum_congr rfl fun j _ => Finset.sum_congr rfl fun u _ => ?_
    have hs : (8 * (y 0).val + s.val) % 8 = s.val := by have := s.isLt; omega
    have hd : (8 * (y 0).val + s.val) / 8 = (y 0).val := by have := s.isLt; omega
    rw [hs, hd]
    exact congrArg₂ (· * ·) (blk3 m c t _ (y 1)) (h_blk m c t _ (y 1))
  · rw [if_neg h, if_neg h]

theorem final4 (c : Dev nD) : (dats m 0 c).arrAt 4 (cfgs 0).N = daAll (argAg m c) (argCw m c) (argDz m c) := by
  refine (dats m 0 c).arrAt_eq_of_covers 4 _ (by decide +kernel) fun t _ y => ?_
  blk_simp
  rw [after0_4]
  refine da_point m c t y _ ?_ ?_ <;> blk_simp [idx t] <;> omega

theorem final5 (c : Dev nD) : (dats m 0 c).arrAt 5 (cfgs 0).N = dgAll (argAg m c) (argCw m c) (argDz m c) := by
  refine (dats m 0 c).arrAt_eq_of_covers 5 _ (by decide +kernel) fun t _ y => ?_
  blk_simp
  rw [after0_5]
  refine dg_point m c t y _ ?_ ?_ <;> blk_simp [idx t] <;> omega

theorem final6 (c : Dev nD) : (dats m 0 c).arrAt 6 (cfgs 0).N = dwAll (argAg m c) (argDz m c) := by
  refine (dats m 0 c).arrAt_eq_of_covers 6 _ (by decide +kernel) fun t _ y => ?_
  blk_simp
  rw [after0_6]
  refine dw_point m c t y _ ?_ ?_ <;> blk_simp [idx t] <;> omega

end Cert.Conv.Named

end
-- ==== Proof.Conv.Ref.lean ====
/-
  What the reference's operations compute, by element: the three results are the same columns as the kernel's.
-/
module

public import proofs.«01_k».proof.Proof.Conv.Cols
public import proofs.«01_k».proof.Proof.Gen.ReferenceIdeal.Run

@[expose] public section

set_option maxRecDepth 16384

noncomputable section

namespace Cert.Conv.Ref

open Idealize.ShloMosaic Idealize.ShloMosaic.TcCoe Idealize.ShloMosaic.Tactic Idealize.SL.Sem
open Cert.ReferenceIdeal Cert.ReferenceIdeal.Value Cert.Conv
open scoped BigOperators

theorem sum31 (f : ℕ → EReal) :
    f 30 + f 29 + f 28 + f 27 + f 26 + f 25 + f 24 + f 23 + f 22 + f 21 + f 20 + f 19 + f 18 + f 17 + f 16 + f 15 + f 14
      + f 13 + f 12 + f 11 + f 10 + f 9 + f 8 + f 7 + f 6 + f 5 + f 4 + f 3 + f 2 + f 1 + f 0 = ∑ κ : Fin 31, f κ := by
  rw [Fin.sum_univ_eq_sum_range f 31]
  simp only [Finset.sum_range_succ', Finset.sum_range_zero, zero_add, Nat.reduceAdd]

/-- One tap's part of the input's gradient, read 30 rows below its start. -/
theorem tap_dh (W : FVec Ideal S32x512 .f32) (Z : FVec Ideal S4224x512 .f32) (o q : ℕ) (ho : o ≤ 30) (hs hb hp h0) (r : Fin 4224) (c : Fin 512) (h : r.val + 30 < 4254) :
    (pad S4254x512 ![o, 0] ![q, 0] ![0, 0] (mulf (broadcastInDim S4224x512 ![0, 1] hb (extractStridedSlice S1x512 ![o, 0] W hs)) Z)
      (constant S_ .f32 0x00000000#32) hp h0 : FVec Ideal S4254x512 .f32) (ix2 ⟨r.val + 30, h⟩ c) = colAt W o c * colAt Z (r.val + (30 - o)) c := by
  pointwise
  have hr := r.isLt
  rw [colAt_of_lt W (by omega : o < 32) c.isLt]
  by_cases hz : r.val + (30 - o) < 4224
  · rw [dif_pos ⟨by omega, by omega⟩, colAt_of_lt Z hz c.isLt]
    exact congrArg (_ * ·) (congrArg Z (congrArg₂ ix2 (Fin.ext (by show r.val + 30 - o = r.val + (30 - o); omega)) rfl))
  · rw [dif_neg (by omega)]
    unfold colAt
    rw [dif_neg (by omega), mul_zero]

/-- One tap's row of the weights' gradient. -/
theorem tap_dw (Z : FVec Ideal S4224x512 .f32) (H : FVec Ideal S4254x512 .f32) (o q : ℕ) (ho : o ≤ 30) (hs h0 hp h1) (κ : Fin 32) (c : Fin 512) :
    (pad S32x512 ![o, 0] ![q, 0] ![0, 0] (shapeCast S1x512 (Host.reduceAdd (mulf Z (extractStridedSlice S4224x512 ![o, 0] H hs)) (constant S_ .f32 0x00000000#32) Gen.reducesTo_S4224x512_S512_d0 h0) Gen.shapeCasts_S512_S1x512)
      (constant S_ .f32 0x00000000#32) hp h1 : FVec Ideal S32x512 .f32) (ix2 κ c)
      = if κ.val = o then ∑ r : Fin 4224, colAt Z r c * colAt H (r.val + o) c else 0 := by
  pointwise
  by_cases h : κ.val = o
  · rw [dif_pos (by omega), if_pos h]
    refine Finset.sum_congr rfl fun x _ => ?_
    rw [colAt_of_lt Z x.isLt c.isLt, colAt_of_lt H (by have := x.isLt; omega : x.val + o < 4254) c.isLt]
    exact congrArg (Z _ * ·) (congrArg H (congrArg₂ ix2 (Fin.ext (Nat.add_comm o x.val)) rfl))
  · rw [dif_neg (by omega), if_neg h]

variable (V0 : Valuation τ sig (Elt Ideal))

abbrev ag : FVec Ideal S4224x1024 .f32 := V0 (Proc.devRef .tc main_arg0)
abbrev cw : FVec Ideal S32x512 .f32 := V0 (Proc.devRef .tc main_arg1)
abbrev dz : FVec Ideal S4224x512 .f32 := V0 (Proc.devRef .tc main_arg2)
abbrev hpR : FVec Ideal S4254x512 .f32 := res_main_v13 V0

theorem gate_at (r : Fin 4224) (c : Fin 512) : (res_main_v7 V0 : FVec Ideal S4224x512 .f32) (ix2 r c) = gateAt (ag V0) r c := by
  unfold gateAt
  rw [colAt_of_lt _ r.isLt (by have := c.isLt; omega : 512 + c.val < 1024)]
  pointwise [res_main_v7, sg]
  simp only [zero_sub]

theorem hp_at (r : Fin 4254) (c : Fin 512) : colAt (hpR V0) r c = hpAt (ag V0) r c := by
  rw [colAt_of_lt _ r.isLt c.isLt]
  have hr := r.isLt
  unfold hpAt
  by_cases h : r.val < 30
  · rw [if_pos h]
    pointwise [hpR, res_main_v13]
    rw [dif_pos h]
  · rw [if_neg h]
    have hc := c.isLt
    rw [colAt_of_lt (ag V0) (by omega : r.val - 30 < 4224) (by omega : c.val < 1024)]
    pointwise [hpR, res_main_v13]
    rw [dif_neg h]
    refine congrArg₂ (· * ·) ?_ (gate_at V0 ⟨r.val - 30, by omega⟩ c)
    pointwise [res_main_v0]

theorem dz_self : (res_main_v171 V0 : FVec Ideal S4224x512 .f32) = dz V0 := by
  funext y; idx_vars y; pointwise [res_main_v171]

theorem dz_self' : (res_main_v172 V0 : FVec Ideal S4224x512 .f32) = dz V0 := by
  funext y; idx_vars y; pointwise [res_main_v172]

/-- The gradient of the gated input: the 31 taps' parts together. -/
theorem dh_at (r : Fin 4224) (c : Fin 512) : (res_main_v451 V0 : FVec Ideal S4224x512 .f32) (ix2 r c) = dhCol (cw V0) (dz V0) r c := by
  have h : r.val + 30 < 4254 := by omega
  have e : (res_main_v451 V0 : FVec Ideal S4224x512 .f32) (ix2 r c) = (res_main_v447 V0 : FVec Ideal S4254x512 .f32) (ix2 ⟨r.val + 30, h⟩ c) := by
    unfold res_main_v451; pointwise
    exact congrArg (res_main_v447 V0 : FVec Ideal S4254x512 .f32) (congrArg₂ ix2 (Fin.ext (Nat.add_comm 30 r.val)) rfl)
  refine e.trans (Eq.trans ?_ (sum31 fun κ => colAt (cw V0) κ c * colAt (dz V0) (r.val + (30 - κ)) c))
  unfold res_main_v447 res_main_v330
  simp only [addf_apply, dz_self, dz_self']
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (tap_dh (cw V0) (dz V0) 30 0 (by omega) _ _ _ _ r c h)
    (tap_dh (cw V0) (dz V0) 29 1 (by omega) _ _ _ _ r c h))
    (tap_dh (cw V0) (dz V0) 28 2 (by omega) _ _ _ _ r c h))
    (tap_dh (cw V0) (dz V0) 27 3 (by omega) _ _ _ _ r c h))
    (tap_dh (cw V0) (dz V0) 26 4 (by omega) _ _ _ _ r c h))
    (tap_dh (cw V0) (dz V0) 25 5 (by omega) _ _ _ _ r c h))
    (tap_dh (cw V0) (dz V0) 24 6 (by omega) _ _ _ _ r c h))
    (tap_dh (cw V0) (dz V0) 23 7 (by omega) _ _ _ _ r c h))
    (tap_dh (cw V0) (dz V0) 22 8 (by omega) _ _ _ _ r c h))
    (tap_dh (cw V0) (dz V0) 21 9 (by omega) _ _ _ _ r c h))
    (tap_dh (cw V0) (dz V0) 20 10 (by omega) _ _ _ _ r c h))
    (tap_dh (cw V0) (dz V0) 19 11 (by omega) _ _ _ _ r c h))
    (tap_dh (cw V0) (dz V0) 18 12 (by omega) _ _ _ _ r c h))
    (tap_dh (cw V0) (dz V0) 17 13 (by omega) _ _ _ _ r c h))
    (tap_dh (cw V0) (dz V0) 16 14 (by omega) _ _ _ _ r c h))
    (tap_dh (cw V0) (dz V0) 15 15 (by omega) _ _ _ _ r c h))
    (tap_dh (cw V0) (dz V0) 14 16 (by omega) _ _ _ _ r c h))
    (tap_dh (cw V0) (dz V0) 13 17 (by omega) _ _ _ _ r c h))
    (tap_dh (cw V0) (dz V0) 12 18 (by omega) _ _ _ _ r c h))
    (tap_dh (cw V0) (dz V0) 11 19 (by omega) _ _ _ _ r c h))
    (tap_dh (cw V0) (dz V0) 10 20 (by omega) _ _ _ _ r c h))
    (tap_dh (cw V0) (dz V0) 9 21 (by omega) _ _ _ _ r c h))
    (tap_dh (cw V0) (dz V0) 8 22 (by omega) _ _ _ _ r c h))
    (tap_dh (cw V0) (dz V0) 7 23 (by omega) _ _ _ _ r c h))
    (tap_dh (cw V0) (dz V0) 6 24 (by omega) _ _ _ _ r c h))
    (tap_dh (cw V0) (dz V0) 5 25 (by omega) _ _ _ _ r c h))
    (tap_dh (cw V0) (dz V0) 4 26 (by omega) _ _ _ _ r c h))
    (tap_dh (cw V0) (dz V0) 3 27 (by omega) _ _ _ _ r c h))
    (tap_dh (cw V0) (dz V0) 2 28 (by omega) _ _ _ _ r c h))
    (tap_dh (cw V0) (dz V0) 1 29 (by omega) _ _ _ _ r c h))
    (tap_dh (cw V0) (dz V0) 0 30 (by omega) _ _ _ _ r c h))

/-- The third result: each tap's weight gradient in its row, the last row without one. -/
theorem dw_at : (addf (res_main_v440 V0) (pad S32x512 ![0, 0] ![31, 0] ![0, 0] (shapeCast S1x512 (Host.reduceAdd (mulf (res_main_v171 V0) (res_main_v16 V0)) (constant S_ .f32 0x00000000#32) Gen.reducesTo_S4224x512_S512_d0 Gen.h_S_) Gen.shapeCasts_S512_S1x512)
      (constant S_ .f32 0x00000000#32) Gen.pads_S1x512_S32x512_0310_000 Gen.h_S_) : FVec Ideal S32x512 .f32) = dwAll (ag V0) (dz V0) := by
  funext y
  idx_vars y
  have e := sum31 fun o => if y0.val = o then ∑ r : Fin 4224, colAt (dz V0) r y1 * colAt (hpR V0) (r.val + o) y1 else 0
  refine Eq.trans ?_ (e.trans ?_)
  · unfold res_main_v440 res_main_v305
    simp only [addf_apply, dz_self, dz_self']
    exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (tap_dw (dz V0) (hpR V0) 30 1 (by omega) _ _ _ _ y0 y1)
    (tap_dw (dz V0) (hpR V0) 29 2 (by omega) _ _ _ _ y0 y1))
    (tap_dw (dz V0) (hpR V0) 28 3 (by omega) _ _ _ _ y0 y1))
    (tap_dw (dz V0) (hpR V0) 27 4 (by omega) _ _ _ _ y0 y1))
    (tap_dw (dz V0) (hpR V0) 26 5 (by omega) _ _ _ _ y0 y1))
    (tap_dw (dz V0) (hpR V0) 25 6 (by omega) _ _ _ _ y0 y1))
    (tap_dw (dz V0) (hpR V0) 24 7 (by omega) _ _ _ _ y0 y1))
    (tap_dw (dz V0) (hpR V0) 23 8 (by omega) _ _ _ _ y0 y1))
    (tap_dw (dz V0) (hpR V0) 22 9 (by omega) _ _ _ _ y0 y1))
    (tap_dw (dz V0) (hpR V0) 21 10 (by omega) _ _ _ _ y0 y1))
    (tap_dw (dz V0) (hpR V0) 20 11 (by omega) _ _ _ _ y0 y1))
    (tap_dw (dz V0) (hpR V0) 19 12 (by omega) _ _ _ _ y0 y1))
    (tap_dw (dz V0) (hpR V0) 18 13 (by omega) _ _ _ _ y0 y1))
    (tap_dw (dz V0) (hpR V0) 17 14 (by omega) _ _ _ _ y0 y1))
    (tap_dw (dz V0) (hpR V0) 16 15 (by omega) _ _ _ _ y0 y1))
    (tap_dw (dz V0) (hpR V0) 15 16 (by omega) _ _ _ _ y0 y1))
    (tap_dw (dz V0) (hpR V0) 14 17 (by omega) _ _ _ _ y0 y1))
    (tap_dw (dz V0) (hpR V0) 13 18 (by omega) _ _ _ _ y0 y1))
    (tap_dw (dz V0) (hpR V0) 12 19 (by omega) _ _ _ _ y0 y1))
    (tap_dw (dz V0) (hpR V0) 11 20 (by omega) _ _ _ _ y0 y1))
    (tap_dw (dz V0) (hpR V0) 10 21 (by omega) _ _ _ _ y0 y1))
    (tap_dw (dz V0) (hpR V0) 9 22 (by omega) _ _ _ _ y0 y1))
    (tap_dw (dz V0) (hpR V0) 8 23 (by omega) _ _ _ _ y0 y1))
    (tap_dw (dz V0) (hpR V0) 7 24 (by omega) _ _ _ _ y0 y1))
    (tap_dw (dz V0) (hpR V0) 6 25 (by omega) _ _ _ _ y0 y1))
    (tap_dw (dz V0) (hpR V0) 5 26 (by omega) _ _ _ _ y0 y1))
    (tap_dw (dz V0) (hpR V0) 4 27 (by omega) _ _ _ _ y0 y1))
    (tap_dw (dz V0) (hpR V0) 3 28 (by omega) _ _ _ _ y0 y1))
    (tap_dw (dz V0) (hpR V0) 2 29 (by omega) _ _ _ _ y0 y1))
    (tap_dw (dz V0) (hpR V0) 1 30 (by omega) _ _ _ _ y0 y1))
    (tap_dw (dz V0) (hpR V0) 0 31 (by omega) _ _ _ _ y0 y1))
  · show _ = if y0.val < 31 then ∑ r ∈ Finset.range 4224, colAt (dz V0) r y1.val * hpAt (ag V0) (r + y0.val) y1.val else 0
    by_cases h : y0.val < 31
    · rw [if_pos h, Finset.sum_eq_single_of_mem (⟨y0.val, h⟩ : Fin 31) (Finset.mem_univ _) (fun b _ hb => if_neg fun e => hb (Fin.ext e.symm)),
        if_pos rfl, ← Fin.sum_univ_eq_sum_range (fun r => colAt (dz V0) r y1.val * hpAt (ag V0) (r + y0.val) y1.val)]
      refine Finset.sum_congr rfl fun r _ => congrArg (_ * ·) ?_
      exact hp_at V0 ⟨r.val + y0.val, by have := r.isLt; omega⟩ y1
    · rw [if_neg h]
      exact Finset.sum_eq_zero fun b _ => if_neg (by have := b.isLt; omega)

/-- The first result. -/
theorem da_at : (extractStridedSlice S4224x512 ![0, 0] (res_main_v455 V0) Gen.slices_S4224x1024_S4224x512_0_0 : FVec Ideal S4224x512 .f32) = daAll (ag V0) (cw V0) (dz V0) := by
  funext y
  idx_vars y
  refine Eq.trans ?_ (congrArg₂ (· * ·) (dh_at V0 y0 y1) (gate_at V0 y0 y1))
  have hc := y1.isLt
  pointwise [res_main_v455]

/-- The second result. -/
theorem dg_at : (extractStridedSlice S4224x512 ![0, 512] (res_main_v455 V0) Gen.slices_S4224x1024_S4224x512_0_512 : FVec Ideal S4224x512 .f32) = dgAll (ag V0) (cw V0) (dz V0) := by
  funext y
  idx_vars y
  have hc := y1.isLt
  have ha : (res_main_v0 V0 : FVec Ideal S4224x512 .f32) (ix2 y0 y1) = colAt (ag V0) y0 y1 := by
    rw [colAt_of_lt _ y0.isLt (by omega : y1.val < 1024)]
    pointwise [res_main_v0]
  show _ = dhCol (cw V0) (dz V0) y0 y1 * colAt (ag V0) y0 y1 * gateAt (ag V0) y0 y1 * (1 - gateAt (ag V0) y0 y1)
  rw [← dh_at V0 y0 y1, ← gate_at V0 y0 y1, ← ha]
  pointwise [res_main_v455]
  rw [mul_comm (_ : EReal) ((res_main_v451 V0 : FVec Ideal S4224x512 .f32) (ix2 y0 y1)), mul_assoc, mul_assoc, mul_assoc]

end Cert.Conv.Ref

end
-- ==== Proof.Ffn.Norm.lean ====
/-
  The normalisation of one row by its root mean square, and the row's backward pass, over the extended reals. A row is a
  function on the 1024 columns. The reciprocal root `rinv` is a real number from 0 upward whatever the row holds, so it
  moves through sums and differences of extended reals; that is all the two forms of the backward pass differ by.
-/
module

public import Idealize.ShloMosaic.Lib.Pointwise
public import Mathlib.Data.EReal.Operations
public import Mathlib.Data.EReal.Inv

@[expose] public section

noncomputable section

namespace Cert.Ffn

open Idealize.ShloMosaic
open scoped BigOperators

/-- One row of an array, or one column of it. -/
abbrev Row (n : ℕ) := Fin n → EReal

/-- The two constants of the normalisation: a 1024th, and what is added to the mean square. -/
abbrev inv1024 : EReal := Ideal.ofBits .f32 0x3A800000#32
abbrev eps : EReal := Ideal.ofBits .f32 0x358637BD#32

theorem inv1024_eq : inv1024 = ((1 / 1024 : ℝ) : EReal) := by
  simp [inv1024, Ideal.ofBits, Ideal.ieee, -EReal.coe_mul]; norm_num

theorem f1024_eq : Ideal.ofBits .f32 0x44800000#32 = ((1024 : ℝ) : EReal) := by
  simp [Ideal.ofBits, Ideal.ieee, -EReal.coe_mul]; norm_num

theorem neg_half_eq : Ideal.ofBits .f32 0xBF000000#32 = -((1 / 2 : ℝ) : EReal) := by
  rw [← EReal.coe_neg]
  simp [Ideal.ofBits, Ideal.ieee, -EReal.coe_mul, -EReal.coe_neg]; norm_num

theorem two_eq : Ideal.ofBits .f32 0x40000000#32 = ((2 : ℝ) : EReal) := by
  simp [Ideal.ofBits, Ideal.ieee, -EReal.coe_mul]; norm_num

theorem eps_pos : ∃ e : ℝ, 0 < e ∧ eps = (e : EReal) := by
  refine ⟨_, ?_, by simp [eps, Ideal.ofBits, Ideal.ieee]; rfl⟩
  positivity

/-- The mean square of a row plus the small constant, and its reciprocal root. -/
def meanSq (u : Row 1024) : EReal := (∑ k, u k * u k) * inv1024 + eps
def rinv (u : Row 1024) : EReal := Ideal.rsqrt (meanSq u)

theorem div_1024 (x : EReal) : Ideal.div x (Ideal.ofBits .f32 0x44800000#32) = x * inv1024 := by
  rw [f1024_eq, inv1024_eq]
  exact Ideal.div_coe (by norm_num) x

theorem meanSq_cases (u : Row 1024) : meanSq u = ⊤ ∨ ∃ v : ℝ, 0 < v ∧ meanSq u = (v : EReal) := by
  obtain ⟨e, he, hE⟩ := eps_pos
  have hs : 0 ≤ ∑ k, u k * u k := Finset.sum_nonneg fun k _ => by
    rcases le_total 0 (u k) with h | h
    · exact mul_nonneg h h
    · rw [← neg_mul_neg]; exact mul_nonneg (EReal.neg_nonneg.2 h) (EReal.neg_nonneg.2 h)
  unfold meanSq
  rw [hE, inv1024_eq]
  generalize (∑ k, u k * u k) = s at hs
  induction s with
  | bot => simp at hs
  | top =>
    left
    rw [EReal.top_mul_coe_of_pos (by norm_num)]
    rfl
  | coe s =>
    right
    refine ⟨s * (1 / 1024) + e, ?_, by push_cast; rfl⟩
    have : 0 ≤ s := by exact_mod_cast hs
    positivity

/-- The reciprocal root is a real number from 0 upward. -/
theorem rinv_real (u : Row 1024) : ∃ r : ℝ, 0 ≤ r ∧ rinv u = (r : EReal) := by
  unfold rinv
  rcases meanSq_cases u with h | ⟨v, hv, h⟩ <;> rw [h]
  · exact ⟨0, le_refl 0, rfl⟩
  · refine ⟨(Real.sqrt v)⁻¹, by positivity, ?_⟩
    show (if v < 0 then (⊥ : EReal) else if v = 0 then ⊤ else ((Real.sqrt v)⁻¹ : ℝ)) = _
    rw [if_neg (not_lt.2 hv.le), if_neg hv.ne']

/-- Divided by the mean square it is its own cube. -/
theorem rinv_div (u : Row 1024) : Ideal.div (rinv u) (meanSq u) = rinv u * rinv u * rinv u := by
  unfold rinv
  rcases meanSq_cases u with h | ⟨v, hv, h⟩ <;> rw [h]
  · show Ideal.div 0 ⊤ = (0 : EReal) * 0 * 0
    simp [Ideal.div]
  · show Ideal.div (if v < 0 then (⊥ : EReal) else if v = 0 then ⊤ else ((Real.sqrt v)⁻¹ : ℝ)) _
      = (if v < 0 then (⊥ : EReal) else if v = 0 then ⊤ else ((Real.sqrt v)⁻¹ : ℝ))
        * (if v < 0 then (⊥ : EReal) else if v = 0 then ⊤ else ((Real.sqrt v)⁻¹ : ℝ))
        * (if v < 0 then (⊥ : EReal) else if v = 0 then ⊤ else ((Real.sqrt v)⁻¹ : ℝ))
    rw [if_neg (not_lt.2 hv.le), if_neg hv.ne', Ideal.div_coe hv.ne', ← EReal.coe_mul, ← EReal.coe_mul, ← EReal.coe_mul]
    congr 1
    have hs : Real.sqrt v * Real.sqrt v = v := Real.mul_self_sqrt hv.le
    have h0 : Real.sqrt v ≠ 0 := (Real.sqrt_pos.2 hv).ne'
    rw [mul_assoc, ← mul_inv, hs, one_div]

theorem rinv_mul_add (u : Row 1024) (a b : EReal) : rinv u * (a + b) = rinv u * a + rinv u * b := by
  obtain ⟨r, hr, h⟩ := rinv_real u
  rw [h]
  exact EReal.left_distrib_of_nonneg_of_ne_top (by exact_mod_cast hr) (EReal.coe_ne_top r) a b

theorem rinv_mul_sum {ι : Type} (u : Row 1024) (s : Finset ι) (f : ι → EReal) : rinv u * ∑ k ∈ s, f k = ∑ k ∈ s, rinv u * f k := by
  classical
  induction s using Finset.induction_on with
  | empty => simp
  | insert a s ha ih => rw [Finset.sum_insert ha, Finset.sum_insert ha, rinv_mul_add, ih]

/-- Half of it twice is the whole, negated. -/
theorem neg_half_add (w : EReal) : -(((1 / 2 : ℝ) : EReal) * w) + -(((1 / 2 : ℝ) : EReal) * w) = -w := by
  induction w with
  | bot => rw [EReal.coe_mul_bot_of_pos (by norm_num)]; rfl
  | top => rw [EReal.coe_mul_top_of_pos (by norm_num)]; rfl
  | coe w => norm_cast; ring

/-- A normalised and scaled row, and the gradient of the row normalised: `ct` comes past the normalisation, `e` is the
    gradient of the normalised row. -/
def normed (u g : Row 1024) : Row 1024 := fun k => u k * rinv u * g k
def dnorm (ct u e : Row 1024) : Row 1024 := fun l =>
  ct l + rinv u * (e l - u l * rinv u * ((∑ k, e k * (u k * rinv u)) * inv1024))

/-- The gradient as automatic differentiation writes it: the mean square's part comes twice, halved. -/
theorem dnorm_eq (ct u e : Row 1024) (l : Fin 1024) :
    ((ct l + e l * rinv u)
      + u l * Ideal.div ((∑ k, u k * e k) * (Ideal.ofBits .f32 0xBF000000#32 * Ideal.div (rinv u) (meanSq u))) (Ideal.ofBits .f32 0x44800000#32))
      + Ideal.div ((∑ k, u k * e k) * (Ideal.ofBits .f32 0xBF000000#32 * Ideal.div (rinv u) (meanSq u))) (Ideal.ofBits .f32 0x44800000#32) * u l
    = dnorm ct u e l := by
  unfold dnorm
  have hS : (∑ k, e k * (u k * rinv u)) = rinv u * ∑ k, u k * e k := by
    rw [rinv_mul_sum]
    refine Finset.sum_congr rfl fun k _ => ?_
    rw [← mul_assoc, mul_comm (rinv u), mul_comm (u k)]
  rw [hS, sub_eq_add_neg, rinv_mul_add, div_1024, rinv_div, neg_half_eq]
  generalize (∑ k, u k * e k) = S
  generalize rinv u = r
  have hZ : S * (-((1 / 2 : ℝ) : EReal) * (r * r * r)) * inv1024 * u l
      = -(((1 / 2 : ℝ) : EReal) * (r * (u l * r * (r * S * inv1024)))) := by
    rw [EReal.neg_mul, mul_comm S, EReal.neg_mul, EReal.neg_mul, EReal.neg_mul]
    congr 1
    ac_rfl
  rw [mul_comm (u l) (S * _ * inv1024), hZ, add_assoc, neg_half_add, add_assoc, mul_comm (e l)]
  congr 2
  rw [mul_comm r (-_), EReal.neg_mul]
  congr 1
  ac_rfl

/-- The squared ramp's gradient: twice the ramp times what comes, and nothing below 0. -/
theorem ramp_sq (p a : EReal) : (if 0 < p then a * (Ideal.ofBits .f32 0x40000000#32 * max p 0) else 0)
    = Ideal.ofBits .f32 0x40000000#32 * max p 0 * a := by
  split_ifs with h
  · exact mul_comm _ _
  · rw [max_eq_right (not_lt.1 h), mul_zero, zero_mul]

/-! ## Arrays as rows -/

/-- A matrix by its rows. -/
abbrev rows {n m : ℕ} {φ : FTy} (X : FVec Ideal ⟨2, ![n, m]⟩ φ) : Fin n → Row m := fun r k => X (ix2 r k)

/-- The first product of a row, the squared ramp, the block's result, and the two gradients on the way back. -/
def pRow {n : ℕ} (u g : Row 1024) (w : Fin 1024 → Row n) : Row n := fun j => ∑ k, normed u g k * w k j
def actRow {n : ℕ} (p : Row n) : Row n := fun j => max (p j) 0 * max (p j) 0
def outRow {n : ℕ} (u : Row 1024) (p : Row n) (w : Fin n → Row 1024) : Row 1024 := fun l => u l + ∑ j, actRow p j * w j l
def dpRow {n : ℕ} (ct : Row 1024) (p : Row n) (w : Fin n → Row 1024) : Row n := fun j =>
  Ideal.ofBits .f32 0x40000000#32 * max (p j) 0 * ∑ l, ct l * w j l
def dhRow {n : ℕ} (dp : Row n) (w : Fin 1024 → Row n) : Row 1024 := fun k => ∑ j, dp j * w k j
def dxRow (ct u g dh : Row 1024) : Row 1024 := dnorm ct u fun k => dh k * g k
def dgRow (u dh : Row 1024) : Row 1024 := fun k => dh k * (u k * rinv u)

end Cert.Ffn

end
-- ==== Proof.Ffn.Ref.lean ====
/-
  The feed-forward block's reference, operation by operation over whole arrays, and each array at an element: a row's
  result, or a sum over all rows.
-/
module

public import proofs.«01_k».proof.Proof.Ffn.Norm
public import proofs.«01_k».proof.Proof.Gen.Reference2Ideal.Run

@[expose] public section

set_option maxRecDepth 16384

noncomputable section

namespace Cert.Ffn.Ref

open Idealize.ShloMosaic Idealize.ShloMosaic.TcCoe Idealize.SL.Sem
open Cert.Reference2Ideal Cert.Reference2Ideal.Gen Cert.Ffn
open scoped BigOperators

abbrev zeros : FVec Ideal S4224x4096 .f32 := broadcastInDim S4224x4096 ![] bcast_S_S4224x4096 (constant (F := Ideal) S_ .f32 0x00000000#32)

def ms (x : FVec Ideal S4224x1024 .f32) : FVec Ideal S4224x1 .f32 :=
  addf (Host.divf (broadcastInDim S4224x1 ![0] bcast_S4224_S4224x1_0 (Host.reduceAdd (mulf x x) (constant S_ .f32 0x00000000#32) reducesTo_S4224x1024_S4224_d1 h_S_))
    (broadcastInDim S4224x1 ![] bcast_S_S4224x1 (constant S_ .f32 0x44800000#32))) (broadcastInDim S4224x1 ![] bcast_S_S4224x1 (constant S_ .f32 0x358637BD#32))
def xr (x : FVec Ideal S4224x1024 .f32) : FVec Ideal S4224x1024 .f32 :=
  mulf x (broadcastInDim S4224x1024 ![0, 1] bcast_S4224x1_S4224x1024_0_1 (Host.rsqrt (ms x)))
def hn (x : FVec Ideal S4224x1024 .f32) (g : FVec Ideal S1x1024 .f32) : FVec Ideal S4224x1024 .f32 :=
  mulf (xr x) (broadcastInDim S4224x1024 ![0, 1] bcast_S1x1024_S4224x1024_0_1 g)
def p (x : FVec Ideal S4224x1024 .f32) (g : FVec Ideal S1x1024 .f32) (w1 : FVec Ideal S1024x4096 .f32) : FVec Ideal S4224x4096 .f32 :=
  Host.dotGeneral dot_S4224x1024_S1024x4096_S4224x4096_1_0_0_1_n_n none (hn x g) w1
def act (q : FVec Ideal S4224x4096 .f32) : FVec Ideal S4224x4096 .f32 := mulf (maximumf q zeros) (maximumf q zeros)
def x2 (x : FVec Ideal S4224x1024 .f32) (q : FVec Ideal S4224x4096 .f32) (w2 : FVec Ideal S4096x1024 .f32) : FVec Ideal S4224x1024 .f32 :=
  addf x (Host.dotGeneral dot_S4224x4096_S4096x1024_S4224x1024_1_0_0_1_n_n none (act q) w2)
def dp (ct : FVec Ideal S4224x1024 .f32) (q : FVec Ideal S4224x4096 .f32) (w2 : FVec Ideal S4096x1024 .f32) : FVec Ideal S4224x4096 .f32 :=
  select (cmpf .ogt q zeros)
    (mulf (Host.dotGeneral dot_S4224x1024_S4096x1024_S4224x4096_1_1_0_0_n_n none (shapeCast S4224x1024 ct shapeCasts_S4224x1024_S4224x1024) w2)
      (mulf (broadcastInDim S4224x4096 ![] bcast_S_S4224x4096 (constant S_ .f32 0x40000000#32)) (maximumf q zeros))) zeros
def dh (d : FVec Ideal S4224x4096 .f32) (w1 : FVec Ideal S1024x4096 .f32) : FVec Ideal S4224x1024 .f32 :=
  Host.dotGeneral dot_S4224x4096_S1024x4096_S4224x1024_1_1_0_0_n_n none d w1
def dg (x : FVec Ideal S4224x1024 .f32) (e : FVec Ideal S4224x1024 .f32) : FVec Ideal S1024 .f32 :=
  shapeCast S1024 (shapeCast S1x1024 (Host.reduceAdd (mulf (xr x) e) (constant S_ .f32 0x00000000#32) reducesTo_S4224x1024_S1024_d0 h_S_) shapeCasts_S1024_S1x1024)
    shapeCasts_S1x1024_S1024
def eg (e : FVec Ideal S4224x1024 .f32) (g : FVec Ideal S1x1024 .f32) : FVec Ideal S4224x1024 .f32 :=
  mulf e (broadcastInDim S4224x1024 ![0, 1] bcast_S1x1024_S4224x1024_0_1 g)
def back (x e : FVec Ideal S4224x1024 .f32) : FVec Ideal S4224x1024 .f32 :=
  broadcastInDim S4224x1024 ![0] bcast_S4224_S4224x1024_0 (Host.reduceAdd
    (Host.divf (mulf (shapeCast S4224x1 (Host.reduceAdd (mulf x e) (constant S_ .f32 0x00000000#32) reducesTo_S4224x1024_S4224_d1 h_S_) shapeCasts_S4224_S4224x1)
      (mulf (broadcastInDim S4224x1 ![] bcast_S_S4224x1 (constant S_ .f32 0xBF000000#32)) (Host.divf (Host.rsqrt (ms x)) (ms x))))
      (broadcastInDim S4224x1 ![] bcast_S_S4224x1 (constant S_ .f32 0x44800000#32)))
    (constant S_ .f32 0x00000000#32) reducesTo_S4224x1_S4224_d1 h_S_)
def dx (ct x e : FVec Ideal S4224x1024 .f32) : FVec Ideal S4224x1024 .f32 :=
  addf (addf (addf ct (mulf e (broadcastInDim S4224x1024 ![0, 1] bcast_S4224x1_S4224x1024_0_1 (Host.rsqrt (ms x))))) (mulf x (back x e))) (mulf (back x e) x)
def dw1 (d : FVec Ideal S4224x4096 .f32) (h : FVec Ideal S4224x1024 .f32) : FVec Ideal S4x1024x1024 .f32 :=
  transpose S4x1024x1024 [1, 0, 2] (shapeCast S1024x4x1024 (transpose S1024x4096 [1, 0]
    (Host.dotGeneral dot_S4224x4096_S4224x1024_S4096x1024_0_0_1_1_n_n none d h) transposes_S4096x1024_S1024x4096_1_0) shapeCasts_S1024x4096_S1024x4x1024)
    transposes_S1024x4x1024_S4x1024x1024_1_0_2
def dw2 (ct : FVec Ideal S4224x1024 .f32) (a : FVec Ideal S4224x4096 .f32) : FVec Ideal S4096x1024 .f32 :=
  transpose S4096x1024 [1, 0] (Host.dotGeneral dot_S4224x1024_S4224x4096_S1024x4096_0_0_1_1_n_n none
    (shapeCast S4224x1024 ct shapeCasts_S4224x1024_S4224x1024) a) transposes_S1024x4096_S4096x1024_1_0

/-! ## At an element -/

theorem ms_at (x : FVec Ideal S4224x1024 .f32) (r : Fin 4224) (o : Fin 1) : ms x (ix2 r o) = meanSq (rows x r) := by
  pointwise [ms, meanSq, rows, div_1024, zero_add]

theorem xr_at (x : FVec Ideal S4224x1024 .f32) (r : Fin 4224) (k : Fin 1024) : xr x (ix2 r k) = x (ix2 r k) * rinv (rows x r) := by
  pointwise [xr, ms_at, rinv]

theorem hn_at (x : FVec Ideal S4224x1024 .f32) (g : FVec Ideal S1x1024 .f32) (r : Fin 4224) (k : Fin 1024) :
    hn x g (ix2 r k) = normed (rows x r) (rows g 0) k := by
  pointwise [hn, xr_at, normed, rows]

theorem p_at (x : FVec Ideal S4224x1024 .f32) (g : FVec Ideal S1x1024 .f32) (w1 : FVec Ideal S1024x4096 .f32) (r : Fin 4224) (j : Fin 4096) :
    p x g w1 (ix2 r j) = pRow (rows x r) (rows g 0) (rows w1) j := by
  pointwise [p, hn_at, pRow]

theorem act_at (q : FVec Ideal S4224x4096 .f32) (r : Fin 4224) (j : Fin 4096) : act q (ix2 r j) = actRow (rows q r) j := by
  pointwise [act, actRow, rows]

theorem x2_at (x : FVec Ideal S4224x1024 .f32) (q : FVec Ideal S4224x4096 .f32) (w2 : FVec Ideal S4096x1024 .f32) (r : Fin 4224) (l : Fin 1024) :
    x2 x q w2 (ix2 r l) = outRow (rows x r) (rows q r) (rows w2) l := by
  pointwise [x2, act_at, outRow]

theorem dp_at (ct : FVec Ideal S4224x1024 .f32) (q : FVec Ideal S4224x4096 .f32) (w2 : FVec Ideal S4096x1024 .f32) (r : Fin 4224) (j : Fin 4096) :
    dp ct q w2 (ix2 r j) = dpRow (rows ct r) (rows q r) (rows w2) j := by
  refine Eq.trans ?_ (ramp_sq (q (ix2 r j)) (∑ l, ct (ix2 r l) * w2 (ix2 j l)))
  pointwise [dp]

theorem dh_at (d : FVec Ideal S4224x4096 .f32) (w1 : FVec Ideal S1024x4096 .f32) (r : Fin 4224) (k : Fin 1024) :
    dh d w1 (ix2 r k) = dhRow (rows d r) (rows w1) k := by
  pointwise [dh, dhRow, rows]

theorem dg_at (x e : FVec Ideal S4224x1024 .f32) (l : Fin 1024) : dg x e (ix1 l) = ∑ r : Fin 4224, dgRow (rows x r) (rows e r) l := by
  pointwise [dg, xr_at, dgRow, rows]
  exact Finset.sum_congr rfl fun r _ => mul_comm _ _

theorem eg_at (e : FVec Ideal S4224x1024 .f32) (g : FVec Ideal S1x1024 .f32) (r : Fin 4224) (l : Fin 1024) : eg e g (ix2 r l) = e (ix2 r l) * g (ix2 0 l) := by
  pointwise [eg]

theorem dx_at (ct x e : FVec Ideal S4224x1024 .f32) (r : Fin 4224) (l : Fin 1024) :
    dx ct x e (ix2 r l) = dnorm (rows ct r) (rows x r) (rows e r) l := by
  refine Eq.trans ?_ (dnorm_eq (rows ct r) (rows x r) (rows e r) l)
  pointwise [dx, back, ms_at, rinv, rows]
  simp only [Finset.univ_unique, Finset.sum_singleton]

theorem dw1_at (d : FVec Ideal S4224x4096 .f32) (h : FVec Ideal S4224x1024 .f32) (a : Fin 4) (k l : Fin 1024) :
    dw1 d h (ix3 a k l) = ∑ r : Fin 4224, h (ix2 r k) * d (ix2 r ⟨a.val * 1024 + l.val, by omega⟩) := by
  pointwise [dw1]
  exact Finset.sum_congr rfl fun r _ => mul_comm _ _

theorem dw2_at (ct : FVec Ideal S4224x1024 .f32) (a : FVec Ideal S4224x4096 .f32) (j : Fin 4096) (l : Fin 1024) :
    dw2 ct a (ix2 j l) = ∑ r : Fin 4224, a (ix2 r j) * ct (ix2 r l) := by
  pointwise [dw2]
  exact Finset.sum_congr rfl fun r _ => mul_comm _ _

end Cert.Ffn.Ref

end
-- ==== Proof.Ffn.Fwd.lean ====
/-
  The feed-forward block's forward call: its grid's 22 points take 192 rows each, so its two result arrays are the rows'
  results.
-/
module

public import proofs.«01_k».proof.Proof.Ffn.Norm
public import proofs.«01_k».proof.Proof.Gen.Kernel2Ideal.Frame
public import Idealize.ShloMosaic.Lib.Pipeline.ValueKit
public import Idealize.ShloMosaic.Lib.Pipeline.ValueKit.Point

@[expose] public section

set_option maxRecDepth 16384

noncomputable section

namespace Cert.Ffn.Kern

open Idealize.ShloMosaic Idealize.ShloMosaic.TcCoe Idealize.ShloMosaic.Tactic Idealize.SL.Sem
open Idealize.ShloMosaic.Pipeline (Dat Cfg Window)
open Cert.Kernel2Ideal Cert.Kernel2Ideal.Gen Cert.Ffn
open scoped BigOperators

theorem pay_p (x : FVec Ideal S192x1024 .f32) (g : FVec Ideal S1x1024 .f32) (w : FVec Ideal S1024x4096 .bf16) (i : Fin 192) (j : Fin 4096) :
    k0_pay1 (F := Ideal) x g w (ix2 i j) = pRow (rows x i) (rows g 0) (rows w) j := by
  pointwise [k0_pay1, pRow, normed, rinv, meanSq, rows]

theorem pay_x2 (x : FVec Ideal S192x1024 .f32) (g : FVec Ideal S1x1024 .f32) (w : FVec Ideal S1024x4096 .bf16) (w2 : FVec Ideal S4096x1024 .bf16)
    (i : Fin 192) (l : Fin 1024) :
    k0_pay2 (F := Ideal) x g w w2 (ix2 i l) = outRow (rows x i) (pRow (rows x i) (rows g 0) (rows w)) (rows w2) l := by
  pointwise [k0_pay2, pay_p, outRow, actRow]

theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ t.val < 22 :=
  (by decide +kernel : ∀ t : Fin grid0.N, _)

variable (V : (c : Dev nD) → (b : Ref sig .tc) → Buf (Elt Ideal) ((c : Thread nD τ).loc b))

/-- The forward call's two arrays, of what the region finds. -/
def pAll (x : FVec Ideal S4224x1024 .f32) (g : FVec Ideal S1x1024 .f32) (w : FVec Ideal S1024x4096 .bf16) : FVec Ideal S4224x4096 .f32 :=
  fun z => pRow (rows x (z 0)) (rows g 0) (rows w) (z 1)
def x2All (x : FVec Ideal S4224x1024 .f32) (g : FVec Ideal S1x1024 .f32) (w : FVec Ideal S1024x4096 .bf16) (w2 : FVec Ideal S4096x1024 .bf16) :
    FVec Ideal S4224x1024 .f32 :=
  fun z => outRow (rows x (z 0)) (pRow (rows x (z 0)) (rows g 0) (rows w)) (rows w2) (z 1)

theorem p_point (c : Dev nD) (t : Fin cfg0.N) (y : S192x4096.Idx) (z : S4224x4096.Idx) (h0 : (z 0).val = 192 * t.val + (y 0).val)
    (h1 : (z 1).val = (y 1).val) :
    k0_pay1 (F := Ideal) (iblk0 V c 0 t) (iblk0 V c 1 t) (iblk0 V c 2 t) y = pAll (V c main_arg0) (V c main_arg1) (V c main_v0) z := by
  have ht := (idx0 t).2.2.2.2.2.2
  rw [eq_ix2 y]
  refine (pay_p _ _ _ (y 0) (y 1)).trans ?_
  unfold pAll pRow normed rinv meanSq rows
  blk_point [iblk0, idx0 t]

theorem final0_5 (c : Dev nD) : (dat0 V c).arrAt 5 cfg0.N = pAll (V c main_arg0) (V c main_arg1) (V c main_v0) := by
  refine (dat0 V c).arrAt_eq_of_covers 5 _ (by decide +kernel) fun t _ y => ?_
  blk_simp
  rw [after0_5]
  frame_out
  refine p_point V c t y _ ?_ ?_ <;> blk_simp [idx0 t] <;> omega

theorem x2_point (c : Dev nD) (t : Fin cfg0.N) (y : S192x1024.Idx) (z : S4224x1024.Idx) (h0 : (z 0).val = 192 * t.val + (y 0).val)
    (h1 : (z 1).val = (y 1).val) :
    k0_pay2 (F := Ideal) (iblk0 V c 0 t) (iblk0 V c 1 t) (iblk0 V c 2 t) (iblk0 V c 3 t) y
      = x2All (V c main_arg0) (V c main_arg1) (V c main_v0) (V c main_v1) z := by
  have ht := (idx0 t).2.2.2.2.2.2
  rw [eq_ix2 y]
  refine (pay_x2 _ _ _ _ (y 0) (y 1)).trans ?_
  unfold x2All outRow actRow pRow normed rinv meanSq rows
  blk_point [iblk0, idx0 t]

theorem final0_4 (c : Dev nD) : (dat0 V c).arrAt 4 cfg0.N = x2All (V c main_arg0) (V c main_arg1) (V c main_v0) (V c main_v1) := by
  refine (dat0 V c).arrAt_eq_of_covers 4 _ (by decide +kernel) fun t _ y => ?_
  blk_simp
  rw [after0_4]
  frame_out
  refine x2_point V c t y _ ?_ ?_ <;> blk_simp [idx0 t] <;> omega

end Cert.Ffn.Kern

end
-- ==== Proof.Ffn.Bwd.lean ====
/-
  The feed-forward block's backward call: its grid's 22 points take 192 rows each. Four of its five result arrays are the
  rows' results; the fifth gathers the scale's gradient over all points, eight rows side by side.
-/
module

public import proofs.«01_k».proof.Proof.Ffn.Norm
public import proofs.«01_k».proof.Proof.Gen.Kernel2Ideal.Frame
public import Idealize.ShloMosaic.Lib.Pipeline.ValueKit
public import Idealize.ShloMosaic.Lib.Pipeline.ValueKit.Point

@[expose] public section

set_option maxRecDepth 16384

noncomputable section

namespace Cert.Ffn.Kern

open Idealize.ShloMosaic Idealize.ShloMosaic.TcCoe Idealize.ShloMosaic.Tactic Idealize.SL.Sem
open Idealize.ShloMosaic.Pipeline (Dat Cfg Window)
open Cert.Kernel2Ideal Cert.Kernel2Ideal.Gen Cert.Ffn
open scoped BigOperators

/-- A matrix by its columns. -/
abbrev cols {n m : ℕ} {φ : FTy} (X : FVec Ideal ⟨2, ![n, m]⟩ φ) : Fin m → Row n := fun r k => X (ix2 k r)

theorem pay_h (x : FVec Ideal S192x1024 .f32) (g : FVec Ideal S1x1024 .f32) (i : Fin 192) (k : Fin 1024) :
    k1_pay7 (F := Ideal) x g (ix2 i k) = normed (rows x i) (rows g 0) k := by
  pointwise [k1_pay7, k1_pay6, normed, rinv, meanSq, rows]

theorem pay_act (p : FVec Ideal S192x4096 .f32) (i : Fin 192) (j : Fin 4096) :
    k1_pay9 (F := Ideal) p (ix2 i j) = actRow (rows p i) j := by
  pointwise [k1_pay9, k1_pay8, actRow, rows]

theorem pay_dp (p : FVec Ideal S192x4096 .f32) (ct : FVec Ideal S192x1024 .f32) (w2 : FVec Ideal S1024x4096 .bf16) (i : Fin 192) (j : Fin 4096) :
    k1_pay10 (F := Ideal) p ct w2 (ix2 i j) = dpRow (rows ct i) (rows p i) (cols w2) j := by
  pointwise [k1_pay10, k1_pay8, dpRow, rows, cols]

theorem pay_dx (x ct : FVec Ideal S192x1024 .f32) (dp : FVec Ideal S192x4096 .bf16) (w1 : FVec Ideal S4096x1024 .bf16) (g : FVec Ideal S1x1024 .f32)
    (i : Fin 192) (l : Fin 1024) :
    k1_pay3 (F := Ideal) x (k1_pay6 x) ct dp w1 g (ix2 i l) = dxRow (rows ct i) (rows x i) (rows g 0) (dhRow (rows dp i) (cols w1)) l := by
  pointwise [k1_pay3, k1_pay2, k1_pay1, k1_pay6, dxRow, dnorm, dhRow, rinv, meanSq, rows, cols]

theorem pay_zero (j : S8x1024.Idx) : k1_pay4 (F := Ideal) j = 0 := by
  pointwise [k1_pay4]

theorem pay_dg (x : FVec Ideal S192x1024 .f32) (dp : FVec Ideal S192x4096 .bf16) (w1 : FVec Ideal S4096x1024 .bf16) (acc : FVec Ideal S8x1024 .f32)
    (s : Fin 8) (l : Fin 1024) :
    k1_pay5 (F := Ideal) x (k1_pay6 x) dp w1 acc (ix2 s l) = acc (ix2 s l)
      + ∑ q : Fin 24, dgRow (rows x ⟨q.val * 8 + s.val, by omega⟩) (dhRow (rows dp ⟨q.val * 8 + s.val, by omega⟩) (cols w1)) l := by
  pointwise [k1_pay5, k1_pay2, k1_pay1, k1_pay6, dgRow, dhRow, rinv, meanSq, rows, cols]

theorem idx1 : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![0, 0] ∧ win1_6.index t = ![t.val, 0]
    ∧ win1_7.index t = ![t.val, 0] ∧ win1_8.index t = ![t.val, 0] ∧ win1_9.index t = ![t.val, 0] ∧ win1_10.index t = ![0, 0] ∧ t.val < 22 :=
  (by decide +kernel : ∀ t : Fin grid1.N, _)

variable (V : (c : Dev nD) → (b : Ref sig .tc) → Buf (Elt Ideal) ((c : Thread nD τ).loc b))

/-- The backward call's arrays, of what the region finds. -/
def hAll (x : FVec Ideal S4224x1024 .f32) (g : FVec Ideal S1x1024 .f32) : FVec Ideal S4224x1024 .bf16 :=
  fun z => normed (rows x (z 0)) (rows g 0) (z 1)
def actAll (p : FVec Ideal S4224x4096 .f32) : FVec Ideal S4224x4096 .bf16 := fun z => actRow (rows p (z 0)) (z 1)
def dpAll (ct : FVec Ideal S4224x1024 .f32) (p : FVec Ideal S4224x4096 .f32) (w2 : FVec Ideal S1024x4096 .bf16) : FVec Ideal S4224x4096 .bf16 :=
  fun z => dpRow (rows ct (z 0)) (rows p (z 0)) (cols w2) (z 1)
def dxAll (ct x : FVec Ideal S4224x1024 .f32) (p : FVec Ideal S4224x4096 .f32) (g : FVec Ideal S1x1024 .f32) (w1 : FVec Ideal S4096x1024 .bf16)
    (w2 : FVec Ideal S1024x4096 .bf16) : FVec Ideal S4224x1024 .f32 :=
  fun z => dxRow (rows ct (z 0)) (rows x (z 0)) (rows g 0) (dhRow (dpRow (rows ct (z 0)) (rows p (z 0)) (cols w2)) (cols w1)) (z 1)

theorem h_point (c : Dev nD) (t : Fin cfg1.N) (y : S192x1024.Idx) (z : S4224x1024.Idx) (h0 : (z 0).val = 192 * t.val + (y 0).val)
    (h1 : (z 1).val = (y 1).val) :
    k1_pay7 (F := Ideal) (iblk1 V c 1 t) (iblk1 V c 3 t) y = hAll (V c main_arg0) (V c main_arg1) z := by
  have ht := (idx1 t).2.2.2.2.2.2.2.2.2.2.2
  rw [eq_ix2 y]
  refine (pay_h _ _ (y 0) (y 1)).trans ?_
  unfold hAll normed rinv meanSq rows
  blk_point [iblk1, idx1 t]

theorem act_point (c : Dev nD) (t : Fin cfg1.N) (y : S192x4096.Idx) (z : S4224x4096.Idx) (h0 : (z 0).val = 192 * t.val + (y 0).val)
    (h1 : (z 1).val = (y 1).val) :
    k1_pay9 (F := Ideal) (iblk1 V c 2 t) y = actAll (V c main_v2_1) z := by
  have ht := (idx1 t).2.2.2.2.2.2.2.2.2.2.2
  rw [eq_ix2 y]
  refine (pay_act _ (y 0) (y 1)).trans ?_
  unfold actAll actRow rows
  blk_point [iblk1, idx1 t]

theorem dp_point (c : Dev nD) (t : Fin cfg1.N) (y : S192x4096.Idx) (z : S4224x4096.Idx) (h0 : (z 0).val = 192 * t.val + (y 0).val)
    (h1 : (z 1).val = (y 1).val) :
    k1_pay10 (F := Ideal) (iblk1 V c 2 t) (iblk1 V c 0 t) (iblk1 V c 5 t) y = dpAll (V c main_arg4) (V c main_v2_1) (V c main_v4) z := by
  have ht := (idx1 t).2.2.2.2.2.2.2.2.2.2.2
  rw [eq_ix2 y]
  refine (pay_dp _ _ _ (y 0) (y 1)).trans ?_
  unfold dpAll dpRow rows cols
  blk_point [iblk1, idx1 t]

/-! ## The blocks' rows are the arrays' -/

theorem ct_rows (c : Dev nD) (t : Fin cfg1.N) (i : Fin 192) (r : Fin 4224) (hr : r.val = 192 * t.val + i.val) :
    rows (show FVec Ideal S192x1024 .f32 from iblk1 V c 0 t) i = rows (show FVec Ideal S4224x1024 .f32 from V c main_arg4) r := by
  have ht := (idx1 t).2.2.2.2.2.2.2.2.2.2.2
  funext k
  unfold rows
  blk_point [iblk1, idx1 t]

theorem x_rows (c : Dev nD) (t : Fin cfg1.N) (i : Fin 192) (r : Fin 4224) (hr : r.val = 192 * t.val + i.val) :
    rows (show FVec Ideal S192x1024 .f32 from iblk1 V c 1 t) i = rows (show FVec Ideal S4224x1024 .f32 from V c main_arg0) r := by
  have ht := (idx1 t).2.2.2.2.2.2.2.2.2.2.2
  funext k
  unfold rows
  blk_point [iblk1, idx1 t]

theorem g_row (c : Dev nD) (t : Fin cfg1.N) :
    rows (show FVec Ideal S1x1024 .f32 from iblk1 V c 3 t) 0 = rows (show FVec Ideal S1x1024 .f32 from V c main_arg1) 0 := by
  funext k
  unfold rows
  blk_point [iblk1, idx1 t]

theorem w1_cols (c : Dev nD) (t : Fin cfg1.N) :
    cols (show FVec Ideal S4096x1024 .bf16 from iblk1 V c 4 t) = cols (show FVec Ideal S4096x1024 .bf16 from V c main_v3) := by
  funext k j
  unfold cols
  blk_point [iblk1, idx1 t]

/-- The gradient past the ramp is one row's, so a block's rows of it are the array's. -/
theorem dp_rows (c : Dev nD) (t : Fin cfg1.N) (i : Fin 192) (r : Fin 4224) (hr : r.val = 192 * t.val + i.val) :
    rows (k1_pay10 (F := Ideal) (iblk1 V c 2 t) (iblk1 V c 0 t) (iblk1 V c 5 t)) i = rows (dpAll (V c main_arg4) (V c main_v2_1) (V c main_v4)) r :=
  funext fun j => dp_point V c t (ix2 i j) (ix2 r j) hr rfl

theorem dxRow_congr {ct ct' u u' g g' : Row 1024} {d d' : Row 4096} {w w' : Fin 1024 → Row 4096} {l l' : Fin 1024} (h1 : ct = ct') (h2 : u = u')
    (h3 : g = g') (h4 : d = d') (h5 : w = w') (h6 : l = l') : dxRow ct u g (dhRow d w) l = dxRow ct' u' g' (dhRow d' w') l' := by
  subst h1 h2 h3 h4 h5 h6; rfl

theorem dgRow_congr {u u' : Row 1024} {d d' : Row 4096} {w w' : Fin 1024 → Row 4096} {l l' : Fin 1024} (h2 : u = u')
    (h4 : d = d') (h5 : w = w') (h6 : l = l') : dgRow u (dhRow d w) l = dgRow u' (dhRow d' w') l' := by
  subst h2 h4 h5 h6; rfl

theorem dx_point (c : Dev nD) (t : Fin cfg1.N) (y : S192x1024.Idx) (z : S4224x1024.Idx) (h0 : (z 0).val = 192 * t.val + (y 0).val)
    (h1 : (z 1).val = (y 1).val) :
    k1_pay3 (F := Ideal) (iblk1 V c 1 t) (k1_pay6 (iblk1 V c 1 t)) (iblk1 V c 0 t)
        (k1_pay10 (iblk1 V c 2 t) (iblk1 V c 0 t) (iblk1 V c 5 t)) (iblk1 V c 4 t) (iblk1 V c 3 t) y
      = dxAll (V c main_arg4) (V c main_arg0) (V c main_v2_1) (V c main_arg1) (V c main_v3) (V c main_v4) z := by
  rw [eq_ix2 y]
  exact (pay_dx _ _ _ _ _ (y 0) (y 1)).trans (dxRow_congr (ct_rows V c t (y 0) (z 0) h0) (x_rows V c t (y 0) (z 0) h0) (g_row V c t)
    (dp_rows V c t (y 0) (z 0) h0) (w1_cols V c t) (Fin.ext h1.symm))

theorem final1_7 (c : Dev nD) : (dat1 V c).arrAt 7 cfg1.N = hAll (V c main_arg0) (V c main_arg1) := by
  refine (dat1 V c).arrAt_eq_of_covers 7 _ (by decide +kernel) fun t _ y => ?_
  blk_simp
  rw [after1_7]
  by_cases h : t.val % 22 = 0
  · rw [outsAt1_A V c t h]; frame_out
    refine h_point V c t y _ ?_ ?_ <;> blk_simp [idx1 t] <;> omega
  · rw [outsAt1_B V c t h]; frame_out
    refine h_point V c t y _ ?_ ?_ <;> blk_simp [idx1 t] <;> omega

theorem final1_8 (c : Dev nD) : (dat1 V c).arrAt 8 cfg1.N = actAll (V c main_v2_1) := by
  refine (dat1 V c).arrAt_eq_of_covers 8 _ (by decide +kernel) fun t _ y => ?_
  blk_simp
  rw [after1_8]
  by_cases h : t.val % 22 = 0
  · rw [outsAt1_A V c t h]; frame_out
    refine act_point V c t y _ ?_ ?_ <;> blk_simp [idx1 t] <;> omega
  · rw [outsAt1_B V c t h]; frame_out
    refine act_point V c t y _ ?_ ?_ <;> blk_simp [idx1 t] <;> omega

theorem final1_9 (c : Dev nD) : (dat1 V c).arrAt 9 cfg1.N = dpAll (V c main_arg4) (V c main_v2_1) (V c main_v4) := by
  refine (dat1 V c).arrAt_eq_of_covers 9 _ (by decide +kernel) fun t _ y => ?_
  blk_simp
  rw [after1_9]
  by_cases h : t.val % 22 = 0
  · rw [outsAt1_A V c t h]; frame_out
    refine dp_point V c t y _ ?_ ?_ <;> blk_simp [idx1 t] <;> omega
  · rw [outsAt1_B V c t h]; frame_out
    refine dp_point V c t y _ ?_ ?_ <;> blk_simp [idx1 t] <;> omega

theorem final1_6 (c : Dev nD) : (dat1 V c).arrAt 6 cfg1.N = dxAll (V c main_arg4) (V c main_arg0) (V c main_v2_1) (V c main_arg1) (V c main_v3) (V c main_v4) := by
  refine (dat1 V c).arrAt_eq_of_covers 6 _ (by decide +kernel) fun t _ y => ?_
  blk_simp
  rw [after1_6]
  by_cases h : t.val % 22 = 0
  · rw [outsAt1_A V c t h]; frame_out
    refine dx_point V c t y _ ?_ ?_ <;> blk_simp [idx1 t] <;> omega
  · rw [outsAt1_B V c t h]; frame_out
    refine dx_point V c t y _ ?_ ?_ <;> blk_simp [idx1 t] <;> omega

end Cert.Ffn.Kern

end
-- ==== Proof.Ffn.Dg.lean ====
/-
  The scale's gradient in the feed-forward block's backward call: gathered over the grid's points in one block of eight rows.
-/
module

public import proofs.«01_k».proof.Proof.Ffn.Bwd
public import proofs.«01_k».proof.Proof.Gen.Kernel2Ideal.Frame
public import Idealize.ShloMosaic.Lib.Pipeline.ValueKit
public import Idealize.ShloMosaic.Lib.Pipeline.ValueKit.Point

@[expose] public section

set_option maxRecDepth 16384

noncomputable section

namespace Cert.Ffn.Kern

open Idealize.ShloMosaic Idealize.ShloMosaic.TcCoe Idealize.ShloMosaic.Tactic Idealize.SL.Sem
open Idealize.ShloMosaic.Pipeline (Dat Cfg Window)
open Cert.Kernel2Ideal Cert.Kernel2Ideal.Gen Cert.Ffn
open scoped BigOperators

variable (V : (c : Dev nD) → (b : Ref sig .tc) → Buf (Elt Ideal) ((c : Thread nD τ).loc b))

/-- One row's scale gradient, of what the region finds. -/
def dgAt (ct x : FVec Ideal S4224x1024 .f32) (p : FVec Ideal S4224x4096 .f32) (w1 : FVec Ideal S4096x1024 .bf16) (w2 : FVec Ideal S1024x4096 .bf16)
    (r : Fin 4224) (l : Fin 1024) : EReal := dgRow (rows x r) (dhRow (rows (dpAll ct p w2) r) (cols w1)) l

/-- The scale's gradient gathered eight rows side by side: over the points, and over the eights of one point. -/
def dg8All (ct x : FVec Ideal S4224x1024 .f32) (p : FVec Ideal S4224x4096 .f32) (w1 : FVec Ideal S4096x1024 .bf16) (w2 : FVec Ideal S1024x4096 .bf16) :
    FVec Ideal S8x1024 .f32 := fun z => ∑ t : Fin 22, ∑ q : Fin 24,
  dgAt ct x p w1 w2 ⟨t.val * 192 + (q.val * 8 + (z 0).val), by have : (z 0).val < 8 := (z 0).isLt; have := t.isLt; have := q.isLt; omega⟩ (z 1)

/-- What one point adds. -/
def dgPart (c : Dev nD) (t : Fin cfg1.N) : FVec Ideal S8x1024 .f32 := fun y => ∑ q : Fin 24,
  dgAt (V c main_arg4) (V c main_arg0) (V c main_v2_1) (V c main_v3) (V c main_v4)
    ⟨t.val * 192 + (q.val * 8 + (y 0).val), by
      have : (y 0).val < 8 := (y 0).isLt; have := (idx1 t).2.2.2.2.2.2.2.2.2.2.2; have := q.isLt; omega⟩ (y 1)

theorem dg_step (c : Dev nD) (t : Fin cfg1.N) (acc : FVec Ideal S8x1024 .f32) (y : S8x1024.Idx) :
    k1_pay5 (F := Ideal) (iblk1 V c 1 t) (k1_pay6 (iblk1 V c 1 t)) (k1_pay10 (iblk1 V c 2 t) (iblk1 V c 0 t) (iblk1 V c 5 t)) (iblk1 V c 4 t) acc y
      = acc y + dgPart V c t y := by
  have h8 : (y 0).val < 8 := (y 0).isLt
  have ht := (idx1 t).2.2.2.2.2.2.2.2.2.2.2
  rw [eq_ix2 y]
  refine (pay_dg _ _ _ _ (y 0) (y 1)).trans (congrArg _ ?_)
  refine Finset.sum_congr rfl fun q _ => ?_
  have hq := q.isLt
  exact dgRow_congr (x_rows V c t _ ⟨t.val * 192 + (q.val * 8 + (y 0).val), by omega⟩ (congrArg (· + _) (Nat.mul_comm _ _)))
    (dp_rows V c t _ _ (congrArg (· + _) (Nat.mul_comm _ _))) (w1_cols V c t) rfl

theorem dg_first (c : Dev nD) (t : Fin cfg1.N) (h : t.val % 22 = 0) (j : S8x1024.Idx) :
    (outsAt1 V c t.val t.isLt).2.2.2.2 j = 0 + dgPart V c t j := by
  rw [outsAt1_A V c t h]
  frame_out
  exact (dg_step V c t _ j).trans (congrArg (· + dgPart V c t j) (pay_zero j))

theorem dg_next (c : Dev nD) (t : Fin cfg1.N) (h : ¬t.val % 22 = 0) (j : S8x1024.Idx) :
    (outsAt1 V c t.val t.isLt).2.2.2.2 j
      = (outsAt1 V c (t.val - 1) (Nat.lt_of_le_of_lt (Nat.sub_le _ _) t.isLt)).2.2.2.2 j + dgPart V c t j := by
  rw [outsAt1_B V c t h]
  frame_out
  exact dg_step V c t _ j

theorem final1_10 (c : Dev nD) : (dat1 V c).arrAt 10 cfg1.N
    = dg8All (V c main_arg4) (V c main_arg0) (V c main_v2_1) (V c main_v3) (V c main_v4) := by
  refine (dat1 V c).arrAt_eq_of_covers 10 _ (by decide +kernel) fun t hf y => ?_
  have hm : t.val % 22 = 22 - 1 := (flush1_10 t).mp hf
  have ht := (idx1 t).2.2.2.2.2.2.2.2.2.2.2
  blk_simp
  rw [after1_10]
  refine (Pipeline.eq_sum_fin_of_reset_step_apply_of_flush (fun n h => (outsAt1 V c n h).2.2.2.2) 22 (fun _ => 0) (dgPart V c)
    (dg_first V c) (dg_next V c) t hm _).trans ?_
  rw [zero_add]
  unfold dg8All dgPart
  refine Fin.sum_fin_congr fun s => Fin.sum_fin_congr fun q => ?_
  refine congrArg₂ (dgAt _ _ _ _ _) (Fin.ext ?_) (Fin.ext ?_)
  · show (22 * (t.val / 22) + s.val) * 192 + _ = s.val * 192 + _
    blk_simp [idx1 t]
    omega
  · blk_simp [idx1 t]

end Cert.Ffn.Kern

end
-- ==== Proof.Ffn.Wgrad.lean ====
/-
  The two weight gradients of the feed-forward block: each a product over all 4224 rows, added up over the row blocks of the grid.
-/
module

public import proofs.«01_k».proof.Proof.Ffn.Norm
public import proofs.«01_k».proof.Proof.Gen.Kernel2Ideal.Frame
public import Idealize.ShloMosaic.Lib.Pipeline.ValueKit
public import Idealize.ShloMosaic.Lib.Pipeline.ValueKit.Point

@[expose] public section

set_option maxRecDepth 16384

noncomputable section

namespace Cert.Ffn.Kern

open Idealize.ShloMosaic Idealize.ShloMosaic.TcCoe Idealize.ShloMosaic.Tactic Idealize.SL.Sem
open Idealize.ShloMosaic.Pipeline (Dat Cfg Window)
open Cert.Kernel2Ideal Cert.Kernel2Ideal.Gen Cert.Ffn
open scoped BigOperators

variable (V : (c : Dev nD) → (b : Ref sig .tc) → Buf (Elt Ideal) ((c : Thread nD τ).loc b))

/-- The first weight's gradient in the version's layout, and the second's: sums over the rows. -/
def wg1All (h : FVec Ideal S4224x1024 .bf16) (d : FVec Ideal S4224x4096 .bf16) : FVec Ideal S4x1024x1024 .f32 := fun z =>
  ∑ r : Fin 4224, h (ix2 r (z 1)) * d (ix2 r ⟨(z 0).val * 1024 + (z 2).val, by
    have : (z 0).val < 4 := (z 0).isLt; have : (z 2).val < 1024 := (z 2).isLt; omega⟩)
def wg2All (a : FVec Ideal S4224x4096 .bf16) (ct : FVec Ideal S4224x1024 .f32) : FVec Ideal S4096x1024 .f32 := fun z =>
  ∑ r : Fin 4224, a (ix2 r (z 0)) * ct (ix2 r (z 1))

/-! ## The first weight -/

theorem wg1_zero (j : S1x1024x1024.Idx) : k2_pay1 (F := Ideal) j = 0 := by
  idx_vars j
  pointwise [k2_pay1]

theorem wg1_pay (acc : FVec Ideal S1x1024x1024 .f32) (h d : FVec Ideal S2112x1024 .bf16) (a : Fin 1) (k l : Fin 1024) :
    k2_pay2 (F := Ideal) acc h d (ix3 a k l) = acc (ix3 a k l) + ∑ r : Fin 2112, h (ix2 r k) * d (ix2 r l) := by
  rw [Subsingleton.elim a 0]
  pointwise [k2_pay2]

theorem idx2 : ∀ t : Fin cfg2.N, win2_0.index t = ![t.val % 2, 0] ∧ win2_1.index t = ![t.val % 2, t.val / 2]
    ∧ win2_2.index t = ![t.val / 2, 0, 0] ∧ t.val < 8 :=
  (by decide +kernel : ∀ t : Fin grid2.N, _)

def wg1Part (c : Dev nD) (t : Fin cfg2.N) : FVec Ideal S1x1024x1024 .f32 := fun y =>
  ∑ r : Fin 2112, (show FVec Ideal S2112x1024 .bf16 from iblk2 V c 0 t) (ix2 r (y 1)) * (show FVec Ideal S2112x1024 .bf16 from iblk2 V c 1 t) (ix2 r (y 2))

theorem wg1_first (c : Dev nD) (t : Fin cfg2.N) (h : t.val % 2 = 0) (j : S1x1024x1024.Idx) :
    outsAt2 V c t.val t.isLt j = 0 + wg1Part V c t j := by
  rw [outsAt2_A V c t h]
  frame_out
  rw [eq_ix3 j]
  exact (wg1_pay _ _ _ (j 0) (j 1) (j 2)).trans (congrArg (· + wg1Part V c t j) (wg1_zero _))

theorem wg1_next (c : Dev nD) (t : Fin cfg2.N) (h : ¬t.val % 2 = 0) (j : S1x1024x1024.Idx) :
    outsAt2 V c t.val t.isLt j = outsAt2 V c (t.val - 1) (Nat.lt_of_le_of_lt (Nat.sub_le _ _) t.isLt) j + wg1Part V c t j := by
  rw [outsAt2_B V c t h]
  frame_out
  rw [eq_ix3 j]
  exact wg1_pay _ _ _ (j 0) (j 1) (j 2)

theorem final2_2 (c : Dev nD) : (dat2 V c).arrAt 2 cfg2.N = wg1All (V c main_v5_1) (V c main_v5_3) := by
  refine (dat2 V c).arrAt_eq_of_covers 2 _ (by decide +kernel) fun t hf y => ?_
  have hm : t.val % 2 = 2 - 1 := (flush2_2 t).mp hf
  have ht := (idx2 t).2.2.2
  blk_simp
  rw [after2_2]
  refine (Pipeline.eq_sum_fin_of_reset_step_apply_of_flush (fun n h => outsAt2 V c n h) 2 (fun _ => 0) (wg1Part V c)
    (wg1_first V c) (wg1_next V c) t hm _).trans ?_
  rw [zero_add]
  unfold wg1All wg1Part
  refine Fin.sum_mul_add_congr fun s k hl => ?_
  blk_point [iblk2, idx2 t, idx2 ⟨_, Pipeline.run_point_lt_of_flush t hm s⟩]

/-! ## The second weight -/

theorem wg2_zero (j : S4096x512.Idx) : k3_pay1 (F := Ideal) j = 0 := by
  pointwise [k3_pay1]

theorem wg2_pay (acc : FVec Ideal S4096x512 .f32) (a : FVec Ideal S384x4096 .bf16) (ct : FVec Ideal S384x512 .f32) (k : Fin 4096) (l : Fin 512) :
    k3_pay2 (F := Ideal) acc a ct (ix2 k l) = acc (ix2 k l) + ∑ r : Fin 384, a (ix2 r k) * ct (ix2 r l) := by
  pointwise [k3_pay2]

theorem idx3 : ∀ t : Fin cfg3.N, win3_0.index t = ![t.val % 11, 0] ∧ win3_1.index t = ![t.val % 11, t.val / 11]
    ∧ win3_2.index t = ![0, t.val / 11] ∧ t.val < 22 :=
  (by decide +kernel : ∀ t : Fin grid3.N, _)

def wg2Part (c : Dev nD) (t : Fin cfg3.N) : FVec Ideal S4096x512 .f32 := fun y =>
  ∑ r : Fin 384, (show FVec Ideal S384x4096 .bf16 from iblk3 V c 0 t) (ix2 r (y 0)) * (show FVec Ideal S384x512 .f32 from iblk3 V c 1 t) (ix2 r (y 1))

theorem wg2_first (c : Dev nD) (t : Fin cfg3.N) (h : t.val % 11 = 0) (j : S4096x512.Idx) :
    outsAt3 V c t.val t.isLt j = 0 + wg2Part V c t j := by
  rw [outsAt3_A V c t h]
  frame_out
  rw [eq_ix2 j]
  exact (wg2_pay _ _ _ (j 0) (j 1)).trans (congrArg (· + wg2Part V c t j) (wg2_zero _))

theorem wg2_next (c : Dev nD) (t : Fin cfg3.N) (h : ¬t.val % 11 = 0) (j : S4096x512.Idx) :
    outsAt3 V c t.val t.isLt j = outsAt3 V c (t.val - 1) (Nat.lt_of_le_of_lt (Nat.sub_le _ _) t.isLt) j + wg2Part V c t j := by
  rw [outsAt3_B V c t h]
  frame_out
  rw [eq_ix2 j]
  exact wg2_pay _ _ _ (j 0) (j 1)

theorem final3_2 (c : Dev nD) : (dat3 V c).arrAt 2 cfg3.N = wg2All (V c main_v5_2) (V c main_arg4) := by
  refine (dat3 V c).arrAt_eq_of_covers 2 _ (by decide +kernel) fun t hf y => ?_
  have hm : t.val % 11 = 11 - 1 := (flush3_2 t).mp hf
  have ht := (idx3 t).2.2.2
  blk_simp
  rw [after3_2]
  refine (Pipeline.eq_sum_fin_of_reset_step_apply_of_flush (fun n h => outsAt3 V c n h) 11 (fun _ => 0) (wg2Part V c)
    (wg2_first V c) (wg2_next V c) t hm _).trans ?_
  rw [zero_add]
  unfold wg2All wg2Part
  refine Fin.sum_mul_add_congr fun s k hl => ?_
  blk_point [iblk3, idx3 t, idx3 ⟨_, Pipeline.run_point_lt_of_flush t hm s⟩]

end Cert.Ffn.Kern

end
-- ==== Proof.Ffn.Match.lean ====
/-
  The feed-forward block's kernel and reference agree: each of the five results, in the kernel's closed form, is the
  reference's array of the same arguments.
-/
module

public import proofs.«01_k».proof.Proof.Ffn.Ref
public import proofs.«01_k».proof.Proof.Ffn.Fwd
public import proofs.«01_k».proof.Proof.Ffn.Dg
public import proofs.«01_k».proof.Proof.Ffn.Wgrad

@[expose] public section

set_option maxRecDepth 16384

noncomputable section

namespace Cert.Ffn.Match

open Idealize.ShloMosaic Idealize.ShloMosaic.TcCoe Idealize.SL.Sem
open Cert.Kernel2Ideal Cert.Kernel2Ideal.Gen Cert.Ffn Cert.Ffn.Kern
open scoped BigOperators

variable (x : FVec Ideal S4224x1024 .f32) (g : FVec Ideal S1x1024 .f32) (w1 : FVec Ideal S1024x4096 .f32) (w2 : FVec Ideal S4096x1024 .f32)
  (ct : FVec Ideal S4224x1024 .f32) (q : FVec Ideal S4224x4096 .f32)

abbrev w1k : FVec Ideal S1024x4096 .bf16 := truncf .bf16 w1 bitsLt_bf16_f32
abbrev w2k : FVec Ideal S4096x1024 .bf16 := truncf .bf16 w2 bitsLt_bf16_f32
abbrev w1t : FVec Ideal S4096x1024 .bf16 := transpose S4096x1024 [1, 0] (w1k w1) transposes_S1024x4096_S4096x1024_1_0
abbrev w2t : FVec Ideal S1024x4096 .bf16 := transpose S1024x4096 [1, 0] (w2k w2) transposes_S4096x1024_S1024x4096_1_0

theorem w1k_rows : rows (w1k w1) = rows w1 := rfl
theorem w2k_rows : rows (w2k w2) = rows w2 := rfl
theorem w1t_cols : cols (w1t w1) = rows w1 := funext fun k => funext fun j => by pointwise [cols, rows, w1t, w1k]
theorem w2t_cols : cols (w2t w2) = rows w2 := funext fun k => funext fun j => by pointwise [cols, rows, w2t, w2k]

theorem p_eq : pAll x g (w1k w1) = Ref.p x g w1 := funext fun z => by
  rw [eq_ix2 z]
  exact (Ref.p_at x g w1 (z 0) (z 1)).symm

theorem x2_eq : x2All x g (w1k w1) (w2k w2) = Ref.x2 x (Ref.p x g w1) w2 := funext fun z => by
  rw [eq_ix2 z]
  exact ((Ref.x2_at x (Ref.p x g w1) w2 (z 0) (z 1)).trans
    (congrArg (outRow (rows x (z 0)) · (rows w2) (z 1)) (funext fun j => Ref.p_at x g w1 (z 0) j))).symm

theorem dp_eq (r : Fin 4224) (j : Fin 4096) : dpAll ct q (w2t w2) (ix2 r j) = Ref.dp ct q w2 (ix2 r j) :=
  (congrArg (dpRow (rows ct r) (rows q r) · j) (w2t_cols w2)).trans (Ref.dp_at ct q w2 r j).symm

theorem dh_eq (r : Fin 4224) : dhRow (rows (dpAll ct q (w2t w2)) r) (cols (w1t w1)) = rows (Ref.dh (Ref.dp ct q w2) w1) r := by
  rw [w1t_cols]
  exact funext fun k => ((Ref.dh_at (Ref.dp ct q w2) w1 r k).trans
    (congrArg (dhRow · (rows w1) k) (funext fun j => (dp_eq w2 ct q r j).symm))).symm

theorem dx_eq : dxAll ct x q g (w1t w1) (w2t w2) = Ref.dx ct x (Ref.eg (Ref.dh (Ref.dp ct q w2) w1) g) := funext fun z => by
  rw [eq_ix2 z]
  refine Eq.trans ?_ (Ref.dx_at ct x _ (z 0) (z 1)).symm
  refine congrArg (fun e => dnorm (rows ct (z 0)) (rows x (z 0)) e (z 1)) (a₁ := fun k => dhRow (rows (dpAll ct q (w2t w2)) (z 0)) (cols (w1t w1)) k * g (ix2 0 k)) (funext fun k => ?_)
  exact (congrArg (fun e : Row 1024 => e k * g (ix2 0 k)) (dh_eq w1 w2 ct q (z 0))).trans (Ref.eg_at _ g (z 0) k).symm

theorem dg8_sum (f : Fin 4224 → EReal) :
    ∑ s : Fin 8, ∑ t : Fin 22, ∑ e : Fin 24, f ⟨t.val * 192 + (e.val * 8 + s.val), by
      have := s.isLt; have := t.isLt; have := e.isLt; omega⟩ = ∑ r, f r := by
  rw [Finset.sum_comm]
  refine Eq.trans (Finset.sum_congr rfl fun t _ => Finset.sum_comm) ?_
  refine Eq.trans (Finset.sum_congr rfl fun t _ => Fin.sum_mul_add_congr (L := 192) (S := 24) (n := 8) (f := fun k : Fin 192 => f ⟨t.val * 192 + k.val, by
    have := t.isLt; have := k.isLt; omega⟩) fun e s hl => rfl) ?_
  exact Fin.sum_mul_add_congr (L := 4224) (S := 22) (n := 192) fun t k hl => rfl

theorem dg_eq : Host.reduceAdd (dg8All ct x q (w1t w1) (w2t w2)) (constant S_ .f32 0x00000000#32) reducesTo_S8x1024_S1024_d0 h_S_
    = Ref.dg x (Ref.dh (Ref.dp ct q w2) w1) := funext fun z => by
  rw [eq_ix1 z]
  refine Eq.trans ?_ (Ref.dg_at x _ (z 0)).symm
  refine Eq.trans ?_ (dg8_sum fun r => dgRow (rows x r) (rows (Ref.dh (Ref.dp ct q w2) w1) r) (z 0))
  generalize z 0 = l
  have hl : ∀ (s : Fin 8) (l : Fin 1024), dg8All ct x q (w1t w1) (w2t w2) (ix2 s l)
      = ∑ t : Fin 22, ∑ e : Fin 24, dgRow (rows x ⟨t.val * 192 + (e.val * 8 + s.val), by
      have := s.isLt; have := t.isLt; have := e.isLt; omega⟩) (rows (Ref.dh (Ref.dp ct q w2) w1) ⟨t.val * 192 + (e.val * 8 + s.val), by
      have := s.isLt; have := t.isLt; have := e.isLt; omega⟩) l := fun s l =>
    Finset.sum_congr rfl fun t _ => Finset.sum_congr rfl fun e _ => congrArg (dgRow (rows x _) · l) (dh_eq w1 w2 ct q _)
  generalize dg8All ct x q (w1t w1) (w2t w2) = D at hl
  refine Eq.trans (b := ∑ s : Fin 8, D (ix2 s l)) ?_ (Finset.sum_congr rfl fun s _ => hl s l)
  pointwise []

theorem dw1_eq : wg1All (hAll x g) (dpAll ct q (w2t w2)) = Ref.dw1 (Ref.dp ct q w2) (Ref.hn x g) := funext fun z => by
  rw [eq_ix3 z]
  refine Eq.trans ?_ (Ref.dw1_at (Ref.dp ct q w2) (Ref.hn x g) (z 0) (z 1) (z 2)).symm
  exact Finset.sum_congr rfl fun r _ => congr (congrArg HMul.hMul (Ref.hn_at x g r (z 1)).symm) (dp_eq w2 ct q r _)

theorem dw2_eq : wg2All (actAll q) ct = Ref.dw2 ct (Ref.act q) := funext fun z => by
  rw [eq_ix2 z]
  refine Eq.trans ?_ (Ref.dw2_at ct (Ref.act q) (z 0) (z 1)).symm
  exact Finset.sum_congr rfl fun r _ => congrArg (· * ct (ix2 r (z 1))) (Ref.act_at q r (z 0)).symm

/-! ## The reference's results, of equal arguments -/

variable {x g w1 w2 ct} {x' : FVec Ideal S4224x1024 .f32} {g' : FVec Ideal S1x1024 .f32} {w1' : FVec Ideal S1024x4096 .f32}
  {w2' : FVec Ideal S4096x1024 .f32} {ct' : FVec Ideal S4224x1024 .f32}

theorem x2_fin (h0 : x' = x) (h1 : g' = g) (h2 : w1' = w1) (h3 : w2' = w2) :
    Ref.x2 x' (Ref.p x' g' w1') w2' = x2All x g (w1k w1) (w2k w2) := by
  subst h0 h1 h2 h3
  exact (x2_eq ..).symm
theorem dx_fin (h0 : x' = x) (h1 : g' = g) (h2 : w1' = w1) (h3 : w2' = w2) (h4 : ct' = ct) :
    Ref.dx ct' x' (Ref.eg (Ref.dh (Ref.dp ct' (Ref.p x' g' w1') w2') w1') g') = dxAll ct x (pAll x g (w1k w1)) g (w1t w1) (w2t w2) := by
  subst h0 h1 h2 h3 h4
  rw [dx_eq, p_eq]
theorem dg_fin (h0 : x' = x) (h1 : g' = g) (h2 : w1' = w1) (h3 : w2' = w2) (h4 : ct' = ct) :
    Ref.dg x' (Ref.dh (Ref.dp ct' (Ref.p x' g' w1') w2') w1')
      = Host.reduceAdd (dg8All ct x (pAll x g (w1k w1)) (w1t w1) (w2t w2)) (constant S_ .f32 0x00000000#32) reducesTo_S8x1024_S1024_d0 h_S_ := by
  subst h0 h1 h2 h3 h4
  rw [dg_eq, p_eq]
theorem dw1_fin (h0 : x' = x) (h1 : g' = g) (h2 : w1' = w1) (h3 : w2' = w2) (h4 : ct' = ct) :
    Ref.dw1 (Ref.dp ct' (Ref.p x' g' w1') w2') (Ref.hn x' g') = wg1All (hAll x g) (dpAll ct (pAll x g (w1k w1)) (w2t w2)) := by
  subst h0 h1 h2 h3 h4
  rw [dw1_eq, p_eq]
theorem dw2_fin (h0 : x' = x) (h1 : g' = g) (h2 : w1' = w1) (h4 : ct' = ct) :
    Ref.dw2 ct' (Ref.act (Ref.p x' g' w1')) = wg2All (actAll (pAll x g (w1k w1))) ct := by
  subst h0 h1 h2 h4
  rw [dw2_eq, p_eq]

end Cert.Ffn.Match

end
-- ==== Proof.Ffn.Run.lean ====
/-
  The feed-forward block's run: every buffer ends at the contents its four calls and the host lines between them leave,
  and the five results are read off those contents.
-/
module

public import proofs.«01_k».proof.Proof.Ffn.Fwd
public import proofs.«01_k».proof.Proof.Ffn.Dg
public import proofs.«01_k».proof.Proof.Ffn.Wgrad
public import proofs.«01_k».proof.Proof.Gen.Kernel2Ideal.Frame
public import Idealize.ShloMosaic.Lib.Pipeline.ValueKit
public import Idealize.ShloMosaic.Lib.Pipeline.ValueKit.Point

@[expose] public section

set_option maxRecDepth 16384

noncomputable section

namespace Cert.Ffn.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel2Ideal Cert.Kernel2Ideal.Gen Cert.Ffn
open scoped BigOperators

local notation "𝕄" => MT nD τ sig Unit (Elt Ideal) ℕ (UR sig nD τ) ℕ

variable (m : (ℓ : Loc nD τ sig) → Buf (Elt Ideal) ℓ) (ρ : Dev nD → PrngReg)

/-- The run: every buffer ends at the last boundary's contents. -/
theorem run_all : θ_run defs (onTc (τ := τ) (main (F := Ideal))) ⟨m, fun _ => 0, ρ⟩ (fun r => (∀ c : Dev nD,
      ∀ b ∈ Pipeline.ucRefs τ sig, r.2.mem (((c : Thread nD τ)).1, b) = W7 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

abbrev argX (c : Dev nD) : FVec Ideal S4224x1024 .f32 := m ((c : Thread nD τ).loc main_arg0)
abbrev argG (c : Dev nD) : FVec Ideal S1x1024 .f32 := m ((c : Thread nD τ).loc main_arg1)
abbrev argW1 (c : Dev nD) : FVec Ideal S1024x4096 .f32 := m ((c : Thread nD τ).loc main_arg2)
abbrev argW2 (c : Dev nD) : FVec Ideal S4096x1024 .f32 := m ((c : Thread nD τ).loc main_arg3)
abbrev argCt (c : Dev nD) : FVec Ideal S4224x1024 .f32 := m ((c : Thread nD τ).loc main_arg4)

/-! ## What the calls find -/

theorem V1_w1 (c : Dev nD) : V1 m ρ c main_v0 = truncf .bf16 (argW1 m c) bitsLt_bf16_f32 := by
  show StableHlo.after hostOps0 (W0 m ρ c) (Proc.devRef .tc main_v0) = _
  after_results_simp <;> rfl

theorem V1_w2 (c : Dev nD) : V1 m ρ c main_v1 = truncf .bf16 (argW2 m c) bitsLt_bf16_f32 := by
  show StableHlo.after hostOps0 (W0 m ρ c) (Proc.devRef .tc main_v1) = _
  after_results_simp <;> rfl

abbrev P (c : Dev nD) : FVec Ideal S4224x4096 .f32 := pAll (argX m c) (argG m c) (truncf .bf16 (argW1 m c) bitsLt_bf16_f32)

theorem V1_x (c : Dev nD) : V1 m ρ c main_arg0 = argX m c := W1_args m ρ c main_arg0 (by decide)
theorem V1_g (c : Dev nD) : V1 m ρ c main_arg1 = argG m c := W1_args m ρ c main_arg1 (by decide)

theorem V2_p (c : Dev nD) : W2 m ρ c (Proc.devRef .tc main_v2_1) = P m c := by
  refine (W2_arr m ρ c 5).trans ((final0_5 (V1 m ρ) c).trans ?_)
  rw [V1_x, V1_g, V1_w1]

theorem V2_x2 (c : Dev nD) : W2 m ρ c (Proc.devRef .tc main_v2_0)
    = x2All (argX m c) (argG m c) (truncf .bf16 (argW1 m c) bitsLt_bf16_f32) (truncf .bf16 (argW2 m c) bitsLt_bf16_f32) := by
  refine (W2_arr m ρ c 4).trans ((final0_4 (V1 m ρ) c).trans ?_)
  rw [V1_x, V1_g, V1_w1, V1_w2]

theorem V3_w1 (c : Dev nD) : V3 m ρ c main_v3 = transpose S4096x1024 [1, 0] (truncf .bf16 (argW1 m c) bitsLt_bf16_f32) transposes_S1024x4096_S4096x1024_1_0 := by
  refine Eq.trans (b := transpose S4096x1024 [1, 0] (W2 m ρ c (Proc.devRef .tc main_v0)) transposes_S1024x4096_S4096x1024_1_0) ?_ ?_
  · show StableHlo.after hostOps1 (W2 m ρ c) (Proc.devRef .tc main_v3) = _
    after_results_simp <;> rfl
  · exact congrArg (transpose S4096x1024 [1, 0] · transposes_S1024x4096_S4096x1024_1_0) ((W2_of m ρ c main_v0 (by decide)).trans (V1_w1 m ρ c))

theorem V3_w2 (c : Dev nD) : V3 m ρ c main_v4 = transpose S1024x4096 [1, 0] (truncf .bf16 (argW2 m c) bitsLt_bf16_f32) transposes_S4096x1024_S1024x4096_1_0 := by
  refine Eq.trans (b := transpose S1024x4096 [1, 0] (W2 m ρ c (Proc.devRef .tc main_v1)) transposes_S4096x1024_S1024x4096_1_0) ?_ ?_
  · show StableHlo.after hostOps1 (W2 m ρ c) (Proc.devRef .tc main_v4) = _
    after_results_simp <;> rfl
  · exact congrArg (transpose S1024x4096 [1, 0] · transposes_S4096x1024_S1024x4096_1_0) ((W2_of m ρ c main_v1 (by decide)).trans (V1_w2 m ρ c))

theorem V3_x (c : Dev nD) : V3 m ρ c main_arg0 = argX m c := W3_args m ρ c main_arg0 (by decide)
theorem V3_g (c : Dev nD) : V3 m ρ c main_arg1 = argG m c := W3_args m ρ c main_arg1 (by decide)
theorem V3_ct (c : Dev nD) : V3 m ρ c main_arg4 = argCt m c := W3_args m ρ c main_arg4 (by decide)
theorem V3_p (c : Dev nD) : V3 m ρ c main_v2_1 = P m c := (W3_of m ρ c main_v2_1 (by decide)).trans (V2_p m ρ c)

abbrev W1T (c : Dev nD) : FVec Ideal S4096x1024 .bf16 := transpose S4096x1024 [1, 0] (truncf .bf16 (argW1 m c) bitsLt_bf16_f32) transposes_S1024x4096_S4096x1024_1_0
abbrev W2T (c : Dev nD) : FVec Ideal S1024x4096 .bf16 := transpose S1024x4096 [1, 0] (truncf .bf16 (argW2 m c) bitsLt_bf16_f32) transposes_S4096x1024_S1024x4096_1_0

theorem V4_dx (c : Dev nD) : W4 m ρ c (Proc.devRef .tc main_v5_0) = dxAll (argCt m c) (argX m c) (P m c) (argG m c) (W1T m c) (W2T m c) := by
  refine (W4_arr m ρ c 6).trans ((final1_6 (V3 m ρ) c).trans ?_)
  rw [V3_x, V3_g, V3_ct, V3_p, V3_w1, V3_w2]
theorem V4_h (c : Dev nD) : W4 m ρ c (Proc.devRef .tc main_v5_1) = hAll (argX m c) (argG m c) := by
  refine (W4_arr m ρ c 7).trans ((final1_7 (V3 m ρ) c).trans ?_)
  rw [V3_x, V3_g]
theorem V4_act (c : Dev nD) : W4 m ρ c (Proc.devRef .tc main_v5_2) = actAll (P m c) := by
  refine (W4_arr m ρ c 8).trans ((final1_8 (V3 m ρ) c).trans ?_)
  rw [V3_p]
theorem V4_dp (c : Dev nD) : W4 m ρ c (Proc.devRef .tc main_v5_3) = dpAll (argCt m c) (P m c) (W2T m c) := by
  refine (W4_arr m ρ c 9).trans ((final1_9 (V3 m ρ) c).trans ?_)
  rw [V3_ct, V3_p, V3_w2]
theorem V4_dg (c : Dev nD) : W4 m ρ c (Proc.devRef .tc main_v5_4) = dg8All (argCt m c) (argX m c) (P m c) (W1T m c) (W2T m c) := by
  refine (W4_arr m ρ c 10).trans ((final1_10 (V3 m ρ) c).trans ?_)
  rw [V3_x, V3_ct, V3_p, V3_w1, V3_w2]

/-! ## The results -/

theorem res_x2 (c : Dev nD) : W7 m ρ c (Proc.devRef .tc main_v2_0)
    = x2All (argX m c) (argG m c) (truncf .bf16 (argW1 m c) bitsLt_bf16_f32) (truncf .bf16 (argW2 m c) bitsLt_bf16_f32) :=
  (W7_of m ρ c main_v2_0 (by decide)).trans ((W6_of m ρ c main_v2_0 (by decide)).trans ((W5_of m ρ c main_v2_0 (by decide)).trans
    ((W4_of m ρ c main_v2_0 (by decide)).trans ((W3_of m ρ c main_v2_0 (by decide)).trans (V2_x2 m ρ c)))))

theorem res_dx (c : Dev nD) : W7 m ρ c (Proc.devRef .tc main_v5_0) = dxAll (argCt m c) (argX m c) (P m c) (argG m c) (W1T m c) (W2T m c) :=
  (W7_of m ρ c main_v5_0 (by decide)).trans ((W6_of m ρ c main_v5_0 (by decide)).trans ((W5_of m ρ c main_v5_0 (by decide)).trans (V4_dx m ρ c)))

theorem res_dg (c : Dev nD) : W7 m ρ c (Proc.devRef .tc main_v6)
    = Host.reduceAdd (dg8All (argCt m c) (argX m c) (P m c) (W1T m c) (W2T m c)) (constant S_ .f32 0x00000000#32) reducesTo_S8x1024_S1024_d0 h_S_ := by
  refine (W7_of m ρ c main_v6 (by decide)).trans ((W6_of m ρ c main_v6 (by decide)).trans ?_)
  rw [← V4_dg m ρ c]
  show StableHlo.after hostOps2 (W4 m ρ c) (Proc.devRef .tc main_v6) = _
  after_results_simp <;> rfl

theorem res_dw1 (c : Dev nD) : W7 m ρ c (Proc.devRef .tc main_v7) = wg1All (hAll (argX m c) (argG m c)) (dpAll (argCt m c) (P m c) (W2T m c)) := by
  refine (W7_of m ρ c main_v7 (by decide)).trans ((W6_arr m ρ c 2).trans ((final2_2 (V5 m ρ) c).trans ?_))
  rw [show V5 m ρ c main_v5_1 = hAll (argX m c) (argG m c) from (W5_of m ρ c main_v5_1 (by decide)).trans (V4_h m ρ c),
    show V5 m ρ c main_v5_3 = dpAll (argCt m c) (P m c) (W2T m c) from (W5_of m ρ c main_v5_3 (by decide)).trans (V4_dp m ρ c)]

theorem res_dw2 (c : Dev nD) : W7 m ρ c (Proc.devRef .tc main_v8) = wg2All (actAll (P m c)) (argCt m c) := by
  refine (W7_arr m ρ c 2).trans ((final3_2 (V6 m ρ) c).trans ?_)
  rw [show V6 m ρ c main_v5_2 = actAll (P m c) from (W6_of m ρ c main_v5_2 (by decide)).trans ((W5_of m ρ c main_v5_2 (by decide)).trans (V4_act m ρ c)),
    show V6 m ρ c main_arg4 = argCt m c from W6_args m ρ c main_arg4 (by decide)]

/-- The run with its results named and the arguments unchanged. -/
theorem run_main : θ_run defs (onTc (τ := τ) (main (F := Ideal))) ⟨m, fun _ => 0, ρ⟩ (fun r => ∀ c : Dev nD,
      r.2.mem ((c : Thread nD τ).loc main_v2_0)
          = x2All (argX m c) (argG m c) (truncf .bf16 (argW1 m c) bitsLt_bf16_f32) (truncf .bf16 (argW2 m c) bitsLt_bf16_f32)
      ∧ r.2.mem ((c : Thread nD τ).loc main_v5_0) = dxAll (argCt m c) (argX m c) (P m c) (argG m c) (W1T m c) (W2T m c)
      ∧ r.2.mem ((c : Thread nD τ).loc main_v6)
          = Host.reduceAdd (dg8All (argCt m c) (argX m c) (P m c) (W1T m c) (W2T m c)) (constant S_ .f32 0x00000000#32) reducesTo_S8x1024_S1024_d0 h_S_
      ∧ r.2.mem ((c : Thread nD τ).loc main_v7) = wg1All (hAll (argX m c) (argG m c)) (dpAll (argCt m c) (P m c) (W2T m c))
      ∧ r.2.mem ((c : Thread nD τ).loc main_v8) = wg2All (actAll (P m c)) (argCt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨(h.1 c _ (mem_uc main_v2_0 (by decide))).trans (res_x2 m ρ c),
     (h.1 c _ (mem_uc main_v5_0 (by decide))).trans (res_dx m ρ c),
     (h.1 c _ (mem_uc main_v6 (by decide))).trans (res_dg m ρ c),
     (h.1 c _ (mem_uc main_v7 (by decide))).trans (res_dw1 m ρ c),
     (h.1 c _ (mem_uc main_v8 (by decide))).trans (res_dw2 m ρ c),
     (h.1 c _ (mem_uc main_arg0 (by decide))).trans (W7_main_arg0 m ρ c),
     (h.1 c _ (mem_uc main_arg1 (by decide))).trans (W7_main_arg1 m ρ c),
     (h.1 c _ (mem_uc main_arg2 (by decide))).trans (W7_main_arg2 m ρ c),
     (h.1 c _ (mem_uc main_arg3 (by decide))).trans (W7_main_arg3 m ρ c),
     (h.1 c _ (mem_uc main_arg4 (by decide))).trans (W7_main_arg4 m ρ c)⟩) (run_all m ρ)

end Cert.Ffn.Kern

end
-- ==== Proof.Ffn.Final.lean ====
/-
  The feed-forward block's claims: the frames of kernel and reference, and the value claim.
-/
module

public import proofs.«01_k».proof.Defs
public import proofs.«01_k».proof.Proof.Gen.Kernel2.Frame
public import proofs.«01_k».proof.Proof.Ffn.Match
public import proofs.«01_k».proof.Proof.Ffn.Run
public import Idealize.ShloMosaic.Adequacy
public import Idealize.ShloMosaic.Init

@[expose] public section

noncomputable section

namespace Cert.Ffn.Final

open Idealize.ShloMosaic Idealize.SL.Sem

theorem frame_kernel : Cert.quiescent_Kernel2 := fun m ρ _ => Cert.Kernel2.Gen.frame (F := Bits) m ρ

theorem frame_kernelIdeal : Cert.quiescent_Kernel2Ideal := fun m ρ _ => Cert.Kernel2Ideal.Gen.frame (F := Ideal) m ρ

theorem frame_referenceIdeal : Cert.quiescent_Reference2Ideal := fun m ρ _ =>
  (θ_run Cert.Reference2Ideal.defs _ _).mono (fun r h => ⟨fun c => (h c).2.2.2.2.2, sem_eq_zero_of_no_sems rfl r.2⟩)
    (Cert.Reference2Ideal.Value.run m ρ)

theorem algebraic : Cert.algebraic_Kernel2Ideal_Reference2Ideal := by
  intro m g m' g' _ hagree
  refine ⟨_, _, _, _, _, Cert.Ffn.Kern.run_main m g, ?_⟩
  refine θ_run_mono (Cert.Reference2Ideal.Value.run m' g') ?_
  intro r hr c
  obtain ⟨h0, h1, h2, h3, h4⟩ := hagree c
  obtain ⟨k0, k1, k2, k3, k4, ka⟩ := hr c
  exact ⟨k0.trans (Cert.Ffn.Match.x2_fin h0 h1 h2 h3), k1.trans (Cert.Ffn.Match.dx_fin h0 h1 h2 h3 h4),
    k2.trans (Cert.Ffn.Match.dg_fin h0 h1 h2 h3 h4), k3.trans (Cert.Ffn.Match.dw1_fin h0 h1 h2 h3 h4),
    k4.trans (Cert.Ffn.Match.dw2_fin h0 h1 h2 h4), ka⟩

end Cert.Ffn.Final

end
-- ==== Proof.Inp.Ref.lean ====
/-
  The input projection's reference, operation by operation over whole arrays, and each array at an element: a row's
  result, or a sum over all rows. The normalisation's lines are the feed-forward block's.
-/
module

public import proofs.«01_k».proof.Proof.Ffn.Ref
public import proofs.«01_k».proof.Proof.Gen.Reference3Ideal.Run

@[expose] public section

set_option maxRecDepth 16384

noncomputable section

namespace Cert.Inp.Ref

open Idealize.ShloMosaic Idealize.ShloMosaic.TcCoe Idealize.SL.Sem
open Cert.Reference3Ideal Cert.Reference3Ideal.Gen Cert.Ffn
open scoped BigOperators

def u (x : FVec Ideal S4224x1024 .f32) (g : FVec Ideal S1x1024 .f32) (w : FVec Ideal S1024x6656 .f32) : FVec Ideal S4224x6656 .f32 :=
  Host.dotGeneral dot_S4224x1024_S1024x6656_S4224x6656_1_0_0_1_n_n none (Ffn.Ref.hn x g) w
def dh (du : FVec Ideal S4224x6656 .bf16) (w : FVec Ideal S1024x6656 .f32) : FVec Ideal S4224x1024 .f32 :=
  Host.dotGeneral dot_S4224x6656_S1024x6656_S4224x1024_1_1_0_0_n_n none (extf .f32 du bitsLt_bf16_f32) w
def mask : IVec S4224x1024 1 :=
  broadcastInDim S4224x1024 ![0, 1] bcast_S4224x1_S4224x1024_0_1 (andi
    (cmpi .sge (broadcastInDim S4224x1 ![0] bcast_S4224_S4224x1_0 (iotaInDim S4224 32 0)) (broadcastInDim S4224x1 ![] bcast_S_S4224x1 (constantI S_ 32 48#32)))
    (cmpi .slt (broadcastInDim S4224x1 ![0] bcast_S4224_S4224x1_0 (iotaInDim S4224 32 0)) (broadcastInDim S4224x1 ![] bcast_S_S4224x1 (constantI S_ 32 4160#32))))
def grad (ct x e : FVec Ideal S4224x1024 .f32) : FVec Ideal S4224x1024 .f32 :=
  addf ct (addf (addf (mulf e (broadcastInDim S4224x1024 ![0, 1] bcast_S4224x1_S4224x1024_0_1 (Host.rsqrt (Ffn.Ref.ms x)))) (mulf x (Ffn.Ref.back x e)))
    (mulf (Ffn.Ref.back x e) x))
def dx (ct x e : FVec Ideal S4224x1024 .f32) : FVec Ideal S4224x1024 .f32 :=
  select mask (grad ct x e) (broadcastInDim S4224x1024 ![] bcast_S_S4224x1024 (id (constant S_ .f32 0x00000000#32)))
def dw (du : FVec Ideal S4224x6656 .bf16) (h : FVec Ideal S4224x1024 .f32) : FVec Ideal S1024x6656 .f32 :=
  transpose S1024x6656 [1, 0] (Host.dotGeneral dot_S4224x6656_S4224x1024_S6656x1024_0_0_1_1_n_n none (extf .f32 du bitsLt_bf16_f32) h)
    transposes_S6656x1024_S1024x6656_1_0

/-! ## At an element -/

theorem u_at (x : FVec Ideal S4224x1024 .f32) (g : FVec Ideal S1x1024 .f32) (w : FVec Ideal S1024x6656 .f32) (r : Fin 4224) (j : Fin 6656) :
    u x g w (ix2 r j) = pRow (rows x r) (rows g 0) (rows w) j := by
  pointwise [u, Ffn.Ref.hn_at, pRow]

theorem dh_at (du : FVec Ideal S4224x6656 .bf16) (w : FVec Ideal S1024x6656 .f32) (r : Fin 4224) (k : Fin 1024) :
    dh du w (ix2 r k) = dhRow (rows du r) (rows w) k := by
  pointwise [dh, dhRow, rows]

theorem grad_at (ct x e : FVec Ideal S4224x1024 .f32) (r : Fin 4224) (l : Fin 1024) :
    grad ct x e (ix2 r l) = dnorm (rows ct r) (rows x r) (rows e r) l := by
  refine Eq.trans ?_ (Ffn.Ref.dx_at ct x e r l)
  show _ + ((_ + _) + _) = ((_ + _) + _) + _
  rw [add_assoc, add_assoc, add_assoc]

theorem kept_word : ∀ r : Fin 4224,
    IntOp.andi (IntOp.cmpi CmpIPredicate.sge (BitVec.ofNat 32 r.val) 48#32) (IntOp.cmpi CmpIPredicate.slt (BitVec.ofNat 32 r.val) 4160#32)
      = if 48 ≤ r.val ∧ r.val < 4160 then 1#1 else 0#1 := by
  decide +kernel

theorem mask_at (r : Fin 4224) (l : Fin 1024) : mask (ix2 r l) = if 48 ≤ r.val ∧ r.val < 4160 then 1#1 else 0#1 := by
  pointwise [mask]
  exact kept_word r

theorem dx_at (ct x e : FVec Ideal S4224x1024 .f32) (r : Fin 4224) (l : Fin 1024) :
    dx ct x e (ix2 r l) = if 48 ≤ r.val ∧ r.val < 4160 then dnorm (rows ct r) (rows x r) (rows e r) l else 0 := by
  refine (congr (congrArg₂ Scalar.select (mask_at r l) (grad_at ct x e r l)) (Ideal.ofBits_zero_f32)).trans ?_
  split_ifs <;> rfl

theorem dw_at (du : FVec Ideal S4224x6656 .bf16) (h : FVec Ideal S4224x1024 .f32) (k : Fin 1024) (j : Fin 6656) :
    dw du h (ix2 k j) = ∑ r : Fin 4224, h (ix2 r k) * du (ix2 r j) := by
  pointwise [dw]
  exact Finset.sum_congr rfl fun r _ => mul_comm _ _

/-! ## The groups of columns -/

theorem slice0_at (v : FVec Ideal S4224x6656 .f32) (r : Fin 4224) (j : Fin 3072) :
    extractStridedSlice S4224x3072 ![0, 0] v slices_S4224x6656_S4224x3072_0_0 (ix2 r j) = v (ix2 r ⟨0 + j.val, by omega⟩) := by
  pointwise []

theorem slice1_at (v : FVec Ideal S4224x6656 .f32) (r : Fin 4224) (j : Fin 1024) :
    extractStridedSlice S4224x1024 ![0, 3072] v slices_S4224x6656_S4224x1024_0_3072 (ix2 r j) = v (ix2 r ⟨3072 + j.val, by omega⟩) := by
  pointwise []

theorem slice2_at (v : FVec Ideal S4224x6656 .f32) (r : Fin 4224) (j : Fin 2048) :
    extractStridedSlice S4224x2048 ![0, 4096] v slices_S4224x6656_S4224x2048_0_4096 (ix2 r j) = v (ix2 r ⟨4096 + j.val, by omega⟩) := by
  pointwise []

theorem slice3_at (v : FVec Ideal S4224x6656 .f32) (r : Fin 4224) (j : Fin 256) :
    extractStridedSlice S4224x256 ![0, 6144] v slices_S4224x6656_S4224x256_0_6144 (ix2 r j) = v (ix2 r ⟨6144 + j.val, by omega⟩) := by
  pointwise []

theorem slice4_at (v : FVec Ideal S4224x6656 .f32) (r : Fin 4224) (j : Fin 128) :
    extractStridedSlice S4224x128 ![0, 6400] v slices_S4224x6656_S4224x128_0_6400 (ix2 r j) = v (ix2 r ⟨6400 + j.val, by omega⟩) := by
  pointwise []

theorem slice5_at (v : FVec Ideal S4224x6656 .f32) (r : Fin 4224) (j : Fin 128) :
    extractStridedSlice S4224x128 ![0, 6528] v slices_S4224x6656_S4224x128_0_6528 (ix2 r j) = v (ix2 r ⟨6528 + j.val, by omega⟩) := by
  pointwise []

end Cert.Inp.Ref

end
-- ==== Proof.Inp.Fwd.lean ====
/-
  The input projection's forward call: the norm, and the product with the weights in six groups of columns.
-/
module

public import proofs.«01_k».proof.Proof.Ffn.Norm
public import proofs.«01_k».proof.Proof.Gen.Kernel3Ideal.Frame
public import Idealize.ShloMosaic.Lib.Pipeline.ValueKit
public import Idealize.ShloMosaic.Lib.Pipeline.ValueKit.Point

@[expose] public section

set_option maxRecDepth 16384

noncomputable section

namespace Cert.Inp.Kern

open Idealize.ShloMosaic Idealize.ShloMosaic.TcCoe Idealize.ShloMosaic.Tactic Idealize.SL.Sem
open Idealize.ShloMosaic.Pipeline (Dat Cfg Window)
open Cert.Kernel3Ideal Cert.Kernel3Ideal.Gen Cert.Ffn
open scoped BigOperators

theorem pay_h (x : FVec Ideal S192x1024 .f32) (g : FVec Ideal S1x1024 .f32) (i : Fin 192) (k : Fin 1024) :
    k0_pay4 (F := Ideal) x g (ix2 i k) = normed (rows x i) (rows g 0) k := by
  pointwise [k0_pay4, normed, rinv, meanSq, rows]

theorem pay_u3 (x : FVec Ideal S192x1024 .f32) (g : FVec Ideal S1x1024 .f32) (w : FVec Ideal S1024x3072 .bf16) (i : Fin 192) (j : Fin 3072) :
    k0_pay5 (F := Ideal) x g w (ix2 i j) = pRow (rows x i) (rows g 0) (rows w) j := by
  pointwise [k0_pay5, pay_h, pRow, rows]

theorem pay_u4 (x : FVec Ideal S192x1024 .f32) (g : FVec Ideal S1x1024 .f32) (w : FVec Ideal S1024x1024 .bf16) (i : Fin 192) (j : Fin 1024) :
    k0_pay6 (F := Ideal) x g w (ix2 i j) = pRow (rows x i) (rows g 0) (rows w) j := by
  pointwise [k0_pay6, pay_h, pRow, rows]

theorem pay_u5 (x : FVec Ideal S192x1024 .f32) (g : FVec Ideal S1x1024 .f32) (w : FVec Ideal S1024x2048 .bf16) (i : Fin 192) (j : Fin 2048) :
    k0_pay7 (F := Ideal) x g w (ix2 i j) = pRow (rows x i) (rows g 0) (rows w) j := by
  pointwise [k0_pay7, pay_h, pRow, rows]

theorem pay_u6 (x : FVec Ideal S192x1024 .f32) (g : FVec Ideal S1x1024 .f32) (w : FVec Ideal S1024x256 .bf16) (i : Fin 192) (j : Fin 256) :
    k0_pay1 (F := Ideal) (k0_pay4 x g) w (ix2 i j) = pRow (rows x i) (rows g 0) (rows w) j := by
  pointwise [k0_pay1, pay_h, pRow, rows]

theorem pay_u7 (x : FVec Ideal S192x1024 .f32) (g : FVec Ideal S1x1024 .f32) (w : FVec Ideal S1024x128 .bf16) (i : Fin 192) (j : Fin 128) :
    k0_pay2 (F := Ideal) (k0_pay4 x g) w (ix2 i j) = pRow (rows x i) (rows g 0) (rows w) j := by
  pointwise [k0_pay2, pay_h, pRow, rows]

theorem pay_u8 (x : FVec Ideal S192x1024 .f32) (g : FVec Ideal S1x1024 .f32) (w : FVec Ideal S1024x128 .bf16) (i : Fin 192) (j : Fin 128) :
    k0_pay3 (F := Ideal) (k0_pay4 x g) w (ix2 i j) = pRow (rows x i) (rows g 0) (rows w) j := by
  pointwise [k0_pay3, pay_h, pRow, rows]

theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ t.val < 22 :=
  (by decide +kernel : ∀ t : Fin grid0.N, _)

variable (V : (c : Dev nD) → (b : Ref sig .tc) → Buf (Elt Ideal) ((c : Thread nD τ).loc b))

/-- The normed rows, and a group of `n` columns of their product with the weights, from column `off`. -/
def hAll (x : FVec Ideal S4224x1024 .f32) (g : FVec Ideal S1x1024 .f32) : FVec Ideal S4224x1024 .bf16 :=
  fun z => normed (rows x (z 0)) (rows g 0) (z 1)
def uCols (n off : ℕ) (hn : off + n ≤ 6656) (x : FVec Ideal S4224x1024 .f32) (g : FVec Ideal S1x1024 .f32) (w : FVec Ideal S1024x6656 .bf16) :
    FVec Ideal ⟨2, ![4224, n]⟩ .f32 := fun z => pRow (rows x (z 0)) (rows g 0) (rows w) ⟨off + (z 1).val, by
  have : (z 1).val < n := (z 1).isLt; omega⟩

theorem h_point (c : Dev nD) (t : Fin cfg0.N) (y : S192x1024.Idx) (z : S4224x1024.Idx) (h0 : (z 0).val = 192 * t.val + (y 0).val)
    (h1 : (z 1).val = (y 1).val) :
    k0_pay4 (F := Ideal) (iblk0 V c 0 t) (iblk0 V c 1 t) y = hAll (V c main_arg0) (V c main_arg1) z := by
  have ht := (idx0 t).2.2.2.2.2.2.2.2.2.2
  rw [eq_ix2 y]
  refine (pay_h _ _ (y 0) (y 1)).trans ?_
  unfold hAll normed rinv meanSq rows
  blk_point [iblk0, idx0 t]

theorem final0_9 (c : Dev nD) : (dat0 V c).arrAt 9 cfg0.N = hAll (V c main_arg0) (V c main_arg1) := by
  refine (dat0 V c).arrAt_eq_of_covers 9 _ (by decide +kernel) fun t _ y => ?_
  blk_simp
  rw [after0_9]
  frame_out
  refine h_point V c t y _ ?_ ?_ <;> blk_simp [idx0 t] <;> omega

/-! ## The groups of columns -/

theorem x_rows (c : Dev nD) (t : Fin cfg0.N) (i : Fin 192) (r : Fin 4224) (hr : r.val = 192 * t.val + i.val) :
    rows (show FVec Ideal S192x1024 .f32 from iblk0 V c 0 t) i = rows (show FVec Ideal S4224x1024 .f32 from V c main_arg0) r := by
  have ht := (idx0 t).2.2.2.2.2.2.2.2.2.2
  funext k
  unfold rows
  blk_point [iblk0, idx0 t]

theorem g_row (c : Dev nD) (t : Fin cfg0.N) :
    rows (show FVec Ideal S1x1024 .f32 from iblk0 V c 1 t) 0 = rows (show FVec Ideal S1x1024 .f32 from V c main_arg1) 0 := by
  funext k
  unfold rows
  blk_point [iblk0, idx0 t]

theorem w_all (c : Dev nD) (t : Fin cfg0.N) (k : Fin 1024) (j : Fin 6656) :
    (show FVec Ideal S1024x6656 .bf16 from iblk0 V c 2 t) (ix2 k j) = (show FVec Ideal S1024x6656 .bf16 from V c main_v0) (ix2 k j) := by
  blk_point [iblk0, idx0 t]

/-- A group's block of the weights, read from the whole. -/
theorem ld_cols (n off : ℕ) (hn : off + n ≤ 6656) (inb : ∀ a, (![0, off] : Fin 2 → ℕ) a + (![1024, n] : Fin 2 → ℕ) a ≤ S1024x6656.size a)
    (W : FVec Ideal S1024x6656 .bf16) (k : Fin 1024) (j : Fin n) :
    (View.ld (Val := Elt Ideal) (e' := .bf16) W (Rect.unit (s := S1024x6656) ![0, off] ![1024, n] inb) : FVec Ideal ⟨2, ![1024, n]⟩ .bf16) (ix2 k j) = W (ix2 k ⟨off + j.val, by omega⟩) := by
  refine View.ld_unit_apply_of _ _ _ inb (ix2 k j) (ix2 k ⟨off + j.val, by omega⟩) fun a => ?_
  fin_cases a
  · show k.val = 0 + k.val
    omega
  · rfl

theorem u_point (n off : ℕ) (hn : off + n ≤ 6656) (c : Dev nD) (t : Fin cfg0.N) (w : FVec Ideal ⟨2, ![1024, n]⟩ .bf16)
    (hw : ∀ k (j : Fin n), w (ix2 k j) = (show FVec Ideal S1024x6656 .bf16 from V c main_v0) (ix2 k ⟨off + j.val, by omega⟩))
    (i : Fin 192) (j : Fin n) (z : (⟨2, ![4224, n]⟩ : Shape).Idx) (h0 : (z 0).val = 192 * t.val + i.val) (h1 : (z 1).val = j.val) :
    pRow (rows (show FVec Ideal S192x1024 .f32 from iblk0 V c 0 t) i) (rows (show FVec Ideal S1x1024 .f32 from iblk0 V c 1 t) 0) (rows w) j
      = uCols n off hn (V c main_arg0) (V c main_arg1) (V c main_v0) z := by
  rw [x_rows V c t i (z 0) h0, g_row V c t]
  refine Finset.sum_congr rfl fun k _ => congrArg _ ((hw k j).trans (congrArg (fun q => (show FVec Ideal S1024x6656 .bf16 from V c main_v0) (ix2 k q)) (Fin.ext ?_)))
  exact congrArg (off + ·) h1.symm

theorem u3_point (c : Dev nD) (t : Fin cfg0.N) (y : S192x3072.Idx) (z : S4224x3072.Idx) (h0 : (z 0).val = 192 * t.val + (y 0).val)
    (h1 : (z 1).val = (y 1).val) :
    k0_pay5 (F := Ideal) (iblk0 V c 0 t) (iblk0 V c 1 t) (View.ld (iblk0 V c 2 t) r0_2) y
      = uCols 3072 0 (by decide) (V c main_arg0) (V c main_arg1) (V c main_v0) z := by
  rw [eq_ix2 y]
  exact (pay_u3 _ _ _ (y 0) (y 1)).trans (u_point V 3072 0 (by decide) c t _ (fun k j => (ld_cols 3072 0 (by decide) _ _ k j).trans (w_all V c t k _)) (y 0) (y 1) z h0 h1)

theorem final0_3 (c : Dev nD) : (dat0 V c).arrAt 3 cfg0.N = uCols 3072 0 (by decide) (V c main_arg0) (V c main_arg1) (V c main_v0) := by
  refine (dat0 V c).arrAt_eq_of_covers 3 _ (by decide +kernel) fun t _ y => ?_
  blk_simp
  rw [after0_3]
  frame_out
  refine u3_point V c t y _ ?_ ?_ <;> blk_simp [idx0 t] <;> omega

theorem u4_point (c : Dev nD) (t : Fin cfg0.N) (y : S192x1024.Idx) (z : S4224x1024.Idx) (h0 : (z 0).val = 192 * t.val + (y 0).val)
    (h1 : (z 1).val = (y 1).val) :
    k0_pay6 (F := Ideal) (iblk0 V c 0 t) (iblk0 V c 1 t) (View.ld (iblk0 V c 2 t) r0_4) y
      = uCols 1024 3072 (by decide) (V c main_arg0) (V c main_arg1) (V c main_v0) z := by
  rw [eq_ix2 y]
  exact (pay_u4 _ _ _ (y 0) (y 1)).trans (u_point V 1024 3072 (by decide) c t _ (fun k j => (ld_cols 1024 3072 (by decide) _ _ k j).trans (w_all V c t k _)) (y 0) (y 1) z h0 h1)

theorem final0_4 (c : Dev nD) : (dat0 V c).arrAt 4 cfg0.N = uCols 1024 3072 (by decide) (V c main_arg0) (V c main_arg1) (V c main_v0) := by
  refine (dat0 V c).arrAt_eq_of_covers 4 _ (by decide +kernel) fun t _ y => ?_
  blk_simp
  rw [after0_4]
  frame_out
  refine u4_point V c t y _ ?_ ?_ <;> blk_simp [idx0 t] <;> omega

theorem u5_point (c : Dev nD) (t : Fin cfg0.N) (y : S192x2048.Idx) (z : S4224x2048.Idx) (h0 : (z 0).val = 192 * t.val + (y 0).val)
    (h1 : (z 1).val = (y 1).val) :
    k0_pay7 (F := Ideal) (iblk0 V c 0 t) (iblk0 V c 1 t) (View.ld (iblk0 V c 2 t) r0_5) y
      = uCols 2048 4096 (by decide) (V c main_arg0) (V c main_arg1) (V c main_v0) z := by
  rw [eq_ix2 y]
  exact (pay_u5 _ _ _ (y 0) (y 1)).trans (u_point V 2048 4096 (by decide) c t _ (fun k j => (ld_cols 2048 4096 (by decide) _ _ k j).trans (w_all V c t k _)) (y 0) (y 1) z h0 h1)

theorem final0_5 (c : Dev nD) : (dat0 V c).arrAt 5 cfg0.N = uCols 2048 4096 (by decide) (V c main_arg0) (V c main_arg1) (V c main_v0) := by
  refine (dat0 V c).arrAt_eq_of_covers 5 _ (by decide +kernel) fun t _ y => ?_
  blk_simp
  rw [after0_5]
  frame_out
  refine u5_point V c t y _ ?_ ?_ <;> blk_simp [idx0 t] <;> omega

theorem u6_point (c : Dev nD) (t : Fin cfg0.N) (y : S192x256.Idx) (z : S4224x256.Idx) (h0 : (z 0).val = 192 * t.val + (y 0).val)
    (h1 : (z 1).val = (y 1).val) :
    k0_pay1 (F := Ideal) (k0_pay4 (iblk0 V c 0 t) (iblk0 V c 1 t)) (View.ld (iblk0 V c 2 t) r0_7) y
      = uCols 256 6144 (by decide) (V c main_arg0) (V c main_arg1) (V c main_v0) z := by
  rw [eq_ix2 y]
  exact (pay_u6 _ _ _ (y 0) (y 1)).trans (u_point V 256 6144 (by decide) c t _ (fun k j => (ld_cols 256 6144 (by decide) _ _ k j).trans (w_all V c t k _)) (y 0) (y 1) z h0 h1)

theorem final0_6 (c : Dev nD) : (dat0 V c).arrAt 6 cfg0.N = uCols 256 6144 (by decide) (V c main_arg0) (V c main_arg1) (V c main_v0) := by
  refine (dat0 V c).arrAt_eq_of_covers 6 _ (by decide +kernel) fun t _ y => ?_
  blk_simp
  rw [after0_6]
  unfold out0_6 k0_pay8
  frame_out
  refine u6_point V c t y _ ?_ ?_ <;> blk_simp [idx0 t] <;> omega

theorem u7_point (c : Dev nD) (t : Fin cfg0.N) (y : S192x128.Idx) (z : S4224x128.Idx) (h0 : (z 0).val = 192 * t.val + (y 0).val)
    (h1 : (z 1).val = (y 1).val) :
    k0_pay2 (F := Ideal) (k0_pay4 (iblk0 V c 0 t) (iblk0 V c 1 t)) (View.ld (iblk0 V c 2 t) r0_9) y
      = uCols 128 6400 (by decide) (V c main_arg0) (V c main_arg1) (V c main_v0) z := by
  rw [eq_ix2 y]
  exact (pay_u7 _ _ _ (y 0) (y 1)).trans (u_point V 128 6400 (by decide) c t _ (fun k j => (ld_cols 128 6400 (by decide) _ _ k j).trans (w_all V c t k _)) (y 0) (y 1) z h0 h1)

theorem final0_7 (c : Dev nD) : (dat0 V c).arrAt 7 cfg0.N = uCols 128 6400 (by decide) (V c main_arg0) (V c main_arg1) (V c main_v0) := by
  refine (dat0 V c).arrAt_eq_of_covers 7 _ (by decide +kernel) fun t _ y => ?_
  blk_simp
  rw [after0_7]
  unfold out0_7 k0_pay8
  frame_out
  refine u7_point V c t y _ ?_ ?_ <;> blk_simp [idx0 t] <;> omega

theorem u8_point (c : Dev nD) (t : Fin cfg0.N) (y : S192x128.Idx) (z : S4224x128.Idx) (h0 : (z 0).val = 192 * t.val + (y 0).val)
    (h1 : (z 1).val = (y 1).val) :
    k0_pay3 (F := Ideal) (k0_pay4 (iblk0 V c 0 t) (iblk0 V c 1 t)) (View.ld (iblk0 V c 2 t) r0_11) y
      = uCols 128 6528 (by decide) (V c main_arg0) (V c main_arg1) (V c main_v0) z := by
  rw [eq_ix2 y]
  exact (pay_u8 _ _ _ (y 0) (y 1)).trans (u_point V 128 6528 (by decide) c t _ (fun k j => (ld_cols 128 6528 (by decide) _ _ k j).trans (w_all V c t k _)) (y 0) (y 1) z h0 h1)

theorem final0_8 (c : Dev nD) : (dat0 V c).arrAt 8 cfg0.N = uCols 128 6528 (by decide) (V c main_arg0) (V c main_arg1) (V c main_v0) := by
  refine (dat0 V c).arrAt_eq_of_covers 8 _ (by decide +kernel) fun t _ y => ?_
  blk_simp
  rw [after0_8]
  unfold out0_8 k0_pay8
  frame_out
  refine u8_point V c t y _ ?_ ?_ <;> blk_simp [idx0 t] <;> omega

end Cert.Inp.Kern

end
-- ==== Proof.Inp.Bwd.lean ====
/-
  The input projection's backward call: its grid's 11 points take 384 rows each. The first result array is the rows' gradient,
  kept on the rows 48 to 4159 and zero elsewhere; the second gathers the scale's gradient over all points, eight rows side by
  side.
-/
module

public import proofs.«01_k».proof.Proof.Inp.Fwd
public import proofs.«01_k».proof.Proof.Gen.Kernel3Ideal.Frame
public import Idealize.ShloMosaic.Lib.Pipeline.ValueKit
public import Idealize.ShloMosaic.Lib.Pipeline.ValueKit.Point

@[expose] public section

set_option maxRecDepth 16384

noncomputable section

namespace Cert.Inp.Kern

open Idealize.ShloMosaic Idealize.ShloMosaic.TcCoe Idealize.ShloMosaic.Tactic Idealize.SL.Sem
open Idealize.ShloMosaic.Pipeline (Dat Cfg Window)
open Cert.Kernel3Ideal Cert.Kernel3Ideal.Gen Cert.Ffn
open scoped BigOperators

/-- A matrix by its columns. -/
abbrev cols {n m : ℕ} {φ : FTy} (X : FVec Ideal ⟨2, ![n, m]⟩ φ) : Fin m → Row n := fun r k => X (ix2 k r)

/-- The rows whose gradient is kept. -/
abbrev kept (r : ℕ) : Prop := 48 ≤ r ∧ r < 4160

/-- The kept rows as the grid's points count them. -/
theorem kept_word : ∀ (a : Fin 11) (r : Fin 384),
    BitVec.setWidth 32 (IntOp.andi
        (IntOp.cmpi CmpIPredicate.sge (IntOp.addi (Scalar.muli (BitVec.ofNat 32 a.val) 384#32) (BitVec.ofNat 32 r.val)) 48#32)
        (IntOp.cmpi CmpIPredicate.slt (IntOp.addi (Scalar.muli (BitVec.ofNat 32 a.val) 384#32) (BitVec.ofNat 32 r.val)) 4160#32))
      = if kept (384 * a.val + r.val) then 1#32 else 0#32 := by
  decide +kernel

theorem word_one : FloatOps.sitofp (F := Ideal) FTy.f32 1#32 = 1 := by
  show (((1#32).toInt : ℝ) : EReal) = 1
  norm_num

theorem word_zero : FloatOps.sitofp (F := Ideal) FTy.f32 0#32 = 0 := by
  show (((0#32).toInt : ℝ) : EReal) = 0
  norm_num

theorem pay_mask (i : grid1.Coords) (r : Fin 384) :
    k1_pay9 (F := Ideal) i (ix2 r 0) = if kept (384 * (i 0).val + r.val) then 1 else 0 := by
  pointwise [k1_pay9]
  refine (congrArg (FloatOps.sitofp (F := Ideal) FTy.f32) (kept_word (i 0) r)).trans ?_
  split_ifs
  · exact word_one
  · exact word_zero

theorem pay_norm (du : FVec Ideal S384x6656 .bf16) (w : FVec Ideal S6656x1024 .bf16) (x : FVec Ideal S384x1024 .f32) (g : FVec Ideal S1x1024 .f32)
    (k9 : FVec Ideal S384x1 .f32) (ct : FVec Ideal S384x1024 .f32) (i : Fin 384) (l : Fin 1024) :
    k1_pay1 (F := Ideal) (k1_pay7 du w x g) k9 ct (ix2 i l)
      = k9 (ix2 i 0) * dxRow (rows ct i) (rows x i) (rows g 0) (dhRow (rows du i) (cols w)) l := by
  pointwise [k1_pay1, k1_pay7, k1_pay6, k1_pay5, k1_pay4, dxRow, dnorm, dhRow, rinv, meanSq, rows, cols]

theorem pay_zero (j : S8x1024.Idx) : k1_pay2 (F := Ideal) j = 0 := by
  pointwise [k1_pay2]

theorem pay_dg (du : FVec Ideal S384x6656 .bf16) (w : FVec Ideal S6656x1024 .bf16) (x : FVec Ideal S384x1024 .f32) (acc : FVec Ideal S8x1024 .f32)
    (s : Fin 8) (l : Fin 1024) :
    k1_pay3 (F := Ideal) (k1_pay8 du w x) acc (ix2 s l) = acc (ix2 s l)
      + ∑ q : Fin 48, dgRow (rows x ⟨q.val * 8 + s.val, by omega⟩) (dhRow (rows du ⟨q.val * 8 + s.val, by omega⟩) (cols w)) l := by
  pointwise [k1_pay3, k1_pay8, k1_pay6, k1_pay5, k1_pay4, dgRow, dhRow, rinv, meanSq, rows, cols]

theorem idx1 : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![t.val, 0] ∧ win1_6.index t = ![0, 0] ∧ t.val < 11 :=
  (by decide +kernel : ∀ t : Fin grid1.N, _)

variable (V : (c : Dev nD) → (b : Ref sig .tc) → Buf (Elt Ideal) ((c : Thread nD τ).loc b))

theorem coord1 : ∀ t : Fin cfg1.N, (grid1.coords t 0).val = t.val :=
  (by decide +kernel : ∀ t : Fin grid1.N, (grid1.coords t 0).val = t.val)

/-- The rows' gradient on the kept rows. -/
def dxAll (du : FVec Ideal S4224x6656 .bf16) (x ct : FVec Ideal S4224x1024 .f32) (g : FVec Ideal S1x1024 .f32) (w : FVec Ideal S6656x1024 .bf16) :
    FVec Ideal S4224x1024 .f32 :=
  fun z => if kept (z 0).val then dxRow (rows ct (z 0)) (rows x (z 0)) (rows g 0) (dhRow (rows du (z 0)) (cols w)) (z 1) else 0

/-! ## The blocks' rows are the arrays' -/

theorem du_rows1 (c : Dev nD) (t : Fin cfg1.N) (i : Fin 384) (r : Fin 4224) (hr : r.val = 384 * t.val + i.val) :
    rows (show FVec Ideal S384x6656 .bf16 from iblk1 V c 0 t) i = rows (show FVec Ideal S4224x6656 .bf16 from V c main_arg3) r := by
  have ht := (idx1 t).2.2.2.2.2.2.2
  funext k
  unfold rows
  blk_point [iblk1, idx1 t]

theorem x_rows1 (c : Dev nD) (t : Fin cfg1.N) (i : Fin 384) (r : Fin 4224) (hr : r.val = 384 * t.val + i.val) :
    rows (show FVec Ideal S384x1024 .f32 from iblk1 V c 1 t) i = rows (show FVec Ideal S4224x1024 .f32 from V c main_arg0) r := by
  have ht := (idx1 t).2.2.2.2.2.2.2
  funext k
  unfold rows
  blk_point [iblk1, idx1 t]

theorem ct_rows1 (c : Dev nD) (t : Fin cfg1.N) (i : Fin 384) (r : Fin 4224) (hr : r.val = 384 * t.val + i.val) :
    rows (show FVec Ideal S384x1024 .f32 from iblk1 V c 2 t) i = rows (show FVec Ideal S4224x1024 .f32 from V c main_arg4) r := by
  have ht := (idx1 t).2.2.2.2.2.2.2
  funext k
  unfold rows
  blk_point [iblk1, idx1 t]

theorem g_row1 (c : Dev nD) (t : Fin cfg1.N) :
    rows (show FVec Ideal S1x1024 .f32 from iblk1 V c 3 t) 0 = rows (show FVec Ideal S1x1024 .f32 from V c main_arg1) 0 := by
  funext k
  unfold rows
  blk_point [iblk1, idx1 t]

theorem w_cols1 (c : Dev nD) (t : Fin cfg1.N) :
    cols (show FVec Ideal S6656x1024 .bf16 from iblk1 V c 4 t) = cols (show FVec Ideal S6656x1024 .bf16 from V c main_v2) := by
  funext k j
  unfold cols
  blk_point [iblk1, idx1 t]

theorem dxRow_congr {ct ct' u u' g g' : Row 1024} {d d' : Row 6656} {w w' : Fin 1024 → Row 6656} {l l' : Fin 1024} (h1 : ct = ct') (h2 : u = u')
    (h3 : g = g') (h4 : d = d') (h5 : w = w') (h6 : l = l') : dxRow ct u g (dhRow d w) l = dxRow ct' u' g' (dhRow d' w') l' := by
  subst h1 h2 h3 h4 h5 h6; rfl

theorem dgRow_congr {u u' : Row 1024} {d d' : Row 6656} {w w' : Fin 1024 → Row 6656} {l l' : Fin 1024} (h2 : u = u')
    (h4 : d = d') (h5 : w = w') (h6 : l = l') : dgRow u (dhRow d w) l = dgRow u' (dhRow d' w') l' := by
  subst h2 h4 h5 h6; rfl

/-- One or zero times a value keeps it or leaves zero. -/
theorem keep_mul (n m : ℕ) (h : n = m) (a b : EReal) (hab : a = b) : (if kept n then (1 : EReal) else 0) * a = if kept m then b else 0 := by
  subst h hab
  split_ifs
  · exact one_mul a
  · exact zero_mul a

theorem dx_point (c : Dev nD) (t : Fin cfg1.N) (y : S384x1024.Idx) (z : S4224x1024.Idx) (h0 : (z 0).val = 384 * t.val + (y 0).val)
    (h1 : (z 1).val = (y 1).val) :
    k1_pay1 (F := Ideal) (k1_pay7 (iblk1 V c 0 t) (iblk1 V c 4 t) (iblk1 V c 1 t) (iblk1 V c 3 t)) (k1_pay9 (grid1.coords t)) (iblk1 V c 2 t) y
      = dxAll (V c main_arg3) (V c main_arg0) (V c main_arg4) (V c main_arg1) (V c main_v2) z := by
  rw [eq_ix2 y]
  refine (pay_norm _ _ _ _ _ _ (y 0) (y 1)).trans ?_
  refine (congrArg (· * _) (pay_mask (grid1.coords t) (y 0))).trans ?_
  refine keep_mul _ _ ?_ _ _ (dxRow_congr (ct_rows1 V c t (y 0) (z 0) h0) (x_rows1 V c t (y 0) (z 0) h0) (g_row1 V c t)
    (du_rows1 V c t (y 0) (z 0) h0) (w_cols1 V c t) (Fin.ext h1.symm))
  rw [coord1 t, h0]

theorem final1_5 (c : Dev nD) : (dat1 V c).arrAt 5 cfg1.N = dxAll (V c main_arg3) (V c main_arg0) (V c main_arg4) (V c main_arg1) (V c main_v2) := by
  refine (dat1 V c).arrAt_eq_of_covers 5 _ (by decide +kernel) fun t _ y => ?_
  blk_simp
  rw [after1_5]
  by_cases h : t.val % 11 = 0
  · rw [outsAt1_A V c t h]; frame_out
    refine dx_point V c t y _ ?_ ?_ <;> blk_simp [idx1 t] <;> omega
  · rw [outsAt1_B V c t h]; frame_out
    refine dx_point V c t y _ ?_ ?_ <;> blk_simp [idx1 t] <;> omega

/-! ## The scale's gradient -/

/-- One row's scale gradient. -/
def dgAt (du : FVec Ideal S4224x6656 .bf16) (x : FVec Ideal S4224x1024 .f32) (w : FVec Ideal S6656x1024 .bf16) (r : Fin 4224) (l : Fin 1024) : EReal :=
  dgRow (rows x r) (dhRow (rows du r) (cols w)) l

/-- The scale's gradient gathered eight rows side by side: over the points, and over the eights of one point. -/
def dg8All (du : FVec Ideal S4224x6656 .bf16) (x : FVec Ideal S4224x1024 .f32) (w : FVec Ideal S6656x1024 .bf16) :
    FVec Ideal S8x1024 .f32 := fun z => ∑ t : Fin 11, ∑ q : Fin 48,
  dgAt du x w ⟨t.val * 384 + (q.val * 8 + (z 0).val), by have : (z 0).val < 8 := (z 0).isLt; have := t.isLt; have := q.isLt; omega⟩ (z 1)

/-- What one point adds. -/
def dgPart (c : Dev nD) (t : Fin cfg1.N) : FVec Ideal S8x1024 .f32 := fun y => ∑ q : Fin 48,
  dgAt (V c main_arg3) (V c main_arg0) (V c main_v2)
    ⟨t.val * 384 + (q.val * 8 + (y 0).val), by
      have : (y 0).val < 8 := (y 0).isLt; have := (idx1 t).2.2.2.2.2.2.2; have := q.isLt; omega⟩ (y 1)

theorem dg_step (c : Dev nD) (t : Fin cfg1.N) (acc : FVec Ideal S8x1024 .f32) (y : S8x1024.Idx) :
    k1_pay3 (F := Ideal) (k1_pay8 (iblk1 V c 0 t) (iblk1 V c 4 t) (iblk1 V c 1 t)) acc y = acc y + dgPart V c t y := by
  have h8 : (y 0).val < 8 := (y 0).isLt
  have ht := (idx1 t).2.2.2.2.2.2.2
  rw [eq_ix2 y]
  refine (pay_dg _ _ _ _ (y 0) (y 1)).trans (congrArg _ ?_)
  refine Finset.sum_congr rfl fun q _ => ?_
  have hq := q.isLt
  exact dgRow_congr (x_rows1 V c t _ ⟨t.val * 384 + (q.val * 8 + (y 0).val), by omega⟩ (congrArg (· + _) (Nat.mul_comm _ _)))
    (du_rows1 V c t _ _ (congrArg (· + _) (Nat.mul_comm _ _))) (w_cols1 V c t) rfl

theorem dg_first (c : Dev nD) (t : Fin cfg1.N) (h : t.val % 11 = 0) (j : S8x1024.Idx) :
    (outsAt1 V c t.val t.isLt).2 j = 0 + dgPart V c t j := by
  rw [outsAt1_A V c t h]
  frame_out
  exact (dg_step V c t _ j).trans (congrArg (· + dgPart V c t j) (pay_zero j))

theorem dg_next (c : Dev nD) (t : Fin cfg1.N) (h : ¬t.val % 11 = 0) (j : S8x1024.Idx) :
    (outsAt1 V c t.val t.isLt).2 j
      = (outsAt1 V c (t.val - 1) (Nat.lt_of_le_of_lt (Nat.sub_le _ _) t.isLt)).2 j + dgPart V c t j := by
  rw [outsAt1_B V c t h]
  frame_out
  exact dg_step V c t _ j

theorem final1_6 (c : Dev nD) : (dat1 V c).arrAt 6 cfg1.N = dg8All (V c main_arg3) (V c main_arg0) (V c main_v2) := by
  refine (dat1 V c).arrAt_eq_of_covers 6 _ (by decide +kernel) fun t hf y => ?_
  have hm : t.val % 11 = 11 - 1 := (flush1_6 t).mp hf
  have ht := (idx1 t).2.2.2.2.2.2.2
  blk_simp
  rw [after1_6]
  refine (Pipeline.eq_sum_fin_of_reset_step_apply_of_flush (fun n h => (outsAt1 V c n h).2) 11 (fun _ => 0) (dgPart V c)
    (dg_first V c) (dg_next V c) t hm _).trans ?_
  rw [zero_add]
  unfold dg8All dgPart
  refine Fin.sum_fin_congr fun s => Fin.sum_fin_congr fun q => ?_
  refine congrArg₂ (dgAt _ _ _) (Fin.ext ?_) (Fin.ext ?_)
  · show (11 * (t.val / 11) + s.val) * 384 + _ = s.val * 384 + _
    blk_simp [idx1 t]
    omega
  · blk_simp [idx1 t]

end Cert.Inp.Kern

end
-- ==== Proof.Inp.Wgrad.lean ====
/-
  The input projection's weight gradient: a product over all 4224 rows, added up over the row blocks of the grid.
-/
module

public import proofs.«01_k».proof.Proof.Ffn.Norm
public import proofs.«01_k».proof.Proof.Gen.Kernel3Ideal.Frame
public import Idealize.ShloMosaic.Lib.Pipeline.ValueKit
public import Idealize.ShloMosaic.Lib.Pipeline.ValueKit.Point

@[expose] public section

set_option maxRecDepth 16384

noncomputable section

namespace Cert.Inp.Kern

open Idealize.ShloMosaic Idealize.ShloMosaic.TcCoe Idealize.ShloMosaic.Tactic Idealize.SL.Sem
open Idealize.ShloMosaic.Pipeline (Dat Cfg Window)
open Cert.Kernel3Ideal Cert.Kernel3Ideal.Gen Cert.Ffn
open scoped BigOperators

variable (V : (c : Dev nD) → (b : Ref sig .tc) → Buf (Elt Ideal) ((c : Thread nD τ).loc b))

/-- The weight's gradient: a sum over the rows. -/
def wgAll (h : FVec Ideal S4224x1024 .bf16) (d : FVec Ideal S4224x6656 .bf16) : FVec Ideal S1024x6656 .f32 := fun z =>
  ∑ r : Fin 4224, h (ix2 r (z 0)) * d (ix2 r (z 1))

theorem wg_zero (j : S1024x3328.Idx) : k2_pay1 (F := Ideal) j = 0 := by
  pointwise [k2_pay1]

theorem wg_pay (acc : FVec Ideal S1024x3328 .f32) (h : FVec Ideal S384x1024 .bf16) (d : FVec Ideal S384x3328 .bf16) (k : Fin 1024) (l : Fin 3328) :
    k2_pay2 (F := Ideal) acc h d (ix2 k l) = acc (ix2 k l) + ∑ r : Fin 384, h (ix2 r k) * d (ix2 r l) := by
  pointwise [k2_pay2]

theorem idx2 : ∀ t : Fin cfg2.N, win2_0.index t = ![t.val % 11, 0] ∧ win2_1.index t = ![t.val % 11, t.val / 11]
    ∧ win2_2.index t = ![0, t.val / 11] ∧ t.val < 22 :=
  (by decide +kernel : ∀ t : Fin grid2.N, _)

def wgPart (c : Dev nD) (t : Fin cfg2.N) : FVec Ideal S1024x3328 .f32 := fun y =>
  ∑ r : Fin 384, (show FVec Ideal S384x1024 .bf16 from iblk2 V c 0 t) (ix2 r (y 0)) * (show FVec Ideal S384x3328 .bf16 from iblk2 V c 1 t) (ix2 r (y 1))

theorem wg_first (c : Dev nD) (t : Fin cfg2.N) (h : t.val % 11 = 0) (j : S1024x3328.Idx) :
    outsAt2 V c t.val t.isLt j = 0 + wgPart V c t j := by
  rw [outsAt2_A V c t h]
  frame_out
  rw [eq_ix2 j]
  exact (wg_pay _ _ _ (j 0) (j 1)).trans (congrArg (· + wgPart V c t j) (wg_zero _))

theorem wg_next (c : Dev nD) (t : Fin cfg2.N) (h : ¬t.val % 11 = 0) (j : S1024x3328.Idx) :
    outsAt2 V c t.val t.isLt j = outsAt2 V c (t.val - 1) (Nat.lt_of_le_of_lt (Nat.sub_le _ _) t.isLt) j + wgPart V c t j := by
  rw [outsAt2_B V c t h]
  frame_out
  rw [eq_ix2 j]
  exact wg_pay _ _ _ (j 0) (j 1)

theorem final2_2 (c : Dev nD) : (dat2 V c).arrAt 2 cfg2.N = wgAll (V c main_v1_6) (V c main_arg3) := by
  refine (dat2 V c).arrAt_eq_of_covers 2 _ (by decide +kernel) fun t hf y => ?_
  have hm : t.val % 11 = 11 - 1 := (flush2_2 t).mp hf
  have ht := (idx2 t).2.2.2
  blk_simp
  rw [after2_2]
  refine (Pipeline.eq_sum_fin_of_reset_step_apply_of_flush (fun n h => outsAt2 V c n h) 11 (fun _ => 0) (wgPart V c)
    (wg_first V c) (wg_next V c) t hm _).trans ?_
  rw [zero_add]
  unfold wgAll wgPart
  refine Fin.sum_mul_add_congr fun s k hl => ?_
  blk_point [iblk2, idx2 t, idx2 ⟨_, Pipeline.run_point_lt_of_flush t hm s⟩]

end Cert.Inp.Kern

end
-- ==== Proof.Inp.Match.lean ====
/-
  The input projection's kernel and reference agree: each of the nine results, in the kernel's closed form, is the
  reference's array of the same arguments.
-/
module

public import proofs.«01_k».proof.Proof.Inp.Ref
public import proofs.«01_k».proof.Proof.Inp.Fwd
public import proofs.«01_k».proof.Proof.Inp.Bwd
public import proofs.«01_k».proof.Proof.Inp.Wgrad

@[expose] public section

set_option maxRecDepth 16384

noncomputable section

namespace Cert.Inp.Match

open Idealize.ShloMosaic Idealize.ShloMosaic.TcCoe Idealize.SL.Sem
open Cert.Kernel3Ideal Cert.Kernel3Ideal.Gen Cert.Ffn Cert.Inp.Kern
open scoped BigOperators

variable (x : FVec Ideal S4224x1024 .f32) (g : FVec Ideal S1x1024 .f32) (w : FVec Ideal S1024x6656 .f32) (du : FVec Ideal S4224x6656 .bf16)
  (ct : FVec Ideal S4224x1024 .f32)

abbrev wk : FVec Ideal S1024x6656 .bf16 := truncf .bf16 w bitsLt_bf16_f32
abbrev wt : FVec Ideal S6656x1024 .bf16 := transpose S6656x1024 [1, 0] (wk w) transposes_S1024x6656_S6656x1024_1_0

theorem wt_cols : cols (wt w) = rows w := funext fun k => funext fun j => by pointwise [cols, rows, wt, wk]

/-- A group of columns is the reference's whole product at the group's columns. -/
theorem u_eq (n off : ℕ) (hn : off + n ≤ 6656) (r : Fin 4224) (j : Fin n) :
    uCols n off hn x g (wk w) (ix2 r j) = Ref.u x g w (ix2 r ⟨off + j.val, by omega⟩) := (Ref.u_at x g w r _).symm

theorem dh_eq (r : Fin 4224) : dhRow (rows du r) (cols (wt w)) = rows (Ref.dh du w) r := by
  rw [wt_cols]
  exact funext fun k => (Ref.dh_at du w r k).symm

theorem dx_eq : dxAll du x ct g (wt w) = Ref.dx ct x (Ffn.Ref.eg (Ref.dh du w) g) := funext fun z => by
  rw [eq_ix2 z]
  refine Eq.trans ?_ (Ref.dx_at ct x _ (z 0) (z 1)).symm
  refine congrArg (fun e => if 48 ≤ (z 0).val ∧ (z 0).val < 4160 then dnorm (rows ct (z 0)) (rows x (z 0)) e (z 1) else 0)
    (a₁ := fun k => dhRow (rows du (z 0)) (cols (wt w)) k * g (ix2 0 k)) (funext fun k => ?_)
  exact (congrArg (fun e : Row 1024 => e k * g (ix2 0 k)) (dh_eq w du (z 0))).trans (Ffn.Ref.eg_at _ g (z 0) k).symm

theorem dg8_sum (f : Fin 4224 → EReal) :
    ∑ s : Fin 8, ∑ t : Fin 11, ∑ e : Fin 48, f ⟨t.val * 384 + (e.val * 8 + s.val), by
      have := s.isLt; have := t.isLt; have := e.isLt; omega⟩ = ∑ r, f r := by
  rw [Finset.sum_comm]
  refine Eq.trans (Finset.sum_congr rfl fun t _ => Finset.sum_comm) ?_
  refine Eq.trans (Finset.sum_congr rfl fun t _ => Fin.sum_mul_add_congr (L := 384) (S := 48) (n := 8) (f := fun k : Fin 384 => f ⟨t.val * 384 + k.val, by
    have := t.isLt; have := k.isLt; omega⟩) fun e s hl => rfl) ?_
  exact Fin.sum_mul_add_congr (L := 4224) (S := 11) (n := 384) fun t k hl => rfl

theorem dg_eq : Host.reduceAdd (dg8All du x (wt w)) (constant S_ .f32 0x00000000#32) reducesTo_S8x1024_S1024_d0 h_S_
    = Ffn.Ref.dg x (Ref.dh du w) := funext fun z => by
  rw [eq_ix1 z]
  refine Eq.trans ?_ (Ffn.Ref.dg_at x _ (z 0)).symm
  refine Eq.trans ?_ (dg8_sum fun r => dgRow (rows x r) (rows (Ref.dh du w) r) (z 0))
  generalize z 0 = l
  have hl : ∀ (s : Fin 8) (l : Fin 1024), dg8All du x (wt w) (ix2 s l)
      = ∑ t : Fin 11, ∑ e : Fin 48, dgRow (rows x ⟨t.val * 384 + (e.val * 8 + s.val), by
      have := s.isLt; have := t.isLt; have := e.isLt; omega⟩) (rows (Ref.dh du w) ⟨t.val * 384 + (e.val * 8 + s.val), by
      have := s.isLt; have := t.isLt; have := e.isLt; omega⟩) l := fun s l =>
    Finset.sum_congr rfl fun t _ => Finset.sum_congr rfl fun e _ => congrArg (dgRow (rows x _) · l) (dh_eq w du _)
  generalize dg8All du x (wt w) = D at hl
  refine Eq.trans (b := ∑ s : Fin 8, D (ix2 s l)) ?_ (Finset.sum_congr rfl fun s _ => hl s l)
  pointwise []

theorem dw_eq : wgAll (hAll x g) du = Ref.dw du (Ffn.Ref.hn x g) := funext fun z => by
  rw [eq_ix2 z]
  refine Eq.trans ?_ (Ref.dw_at du (Ffn.Ref.hn x g) (z 0) (z 1)).symm
  exact Finset.sum_congr rfl fun r _ => congrArg (· * du (ix2 r (z 1))) (Ffn.Ref.hn_at x g r (z 0)).symm

/-! ## The reference's results, of equal arguments -/

variable {x g w du ct} {x' : FVec Ideal S4224x1024 .f32} {g' : FVec Ideal S1x1024 .f32} {w' : FVec Ideal S1024x6656 .f32}
  {du' : FVec Ideal S4224x6656 .bf16} {ct' : FVec Ideal S4224x1024 .f32}

theorem u0_fin (h0 : x' = x) (h1 : g' = g) (h2 : w' = w) :
    extractStridedSlice S4224x3072 ![0, 0] (Ref.u x' g' w') Cert.Reference3Ideal.Gen.slices_S4224x6656_S4224x3072_0_0 = uCols 3072 0 (by decide) x g (wk w) := by
  subst h0 h1 h2
  refine funext fun z => ?_
  rw [eq_ix2 z]
  exact (Ref.slice0_at _ (z 0) (z 1)).trans (u_eq _ _ _ 3072 0 (by decide) (z 0) (z 1)).symm
theorem u1_fin (h0 : x' = x) (h1 : g' = g) (h2 : w' = w) :
    extractStridedSlice S4224x1024 ![0, 3072] (Ref.u x' g' w') Cert.Reference3Ideal.Gen.slices_S4224x6656_S4224x1024_0_3072 = uCols 1024 3072 (by decide) x g (wk w) := by
  subst h0 h1 h2
  refine funext fun z => ?_
  rw [eq_ix2 z]
  exact (Ref.slice1_at _ (z 0) (z 1)).trans (u_eq _ _ _ 1024 3072 (by decide) (z 0) (z 1)).symm
theorem u2_fin (h0 : x' = x) (h1 : g' = g) (h2 : w' = w) :
    extractStridedSlice S4224x2048 ![0, 4096] (Ref.u x' g' w') Cert.Reference3Ideal.Gen.slices_S4224x6656_S4224x2048_0_4096 = uCols 2048 4096 (by decide) x g (wk w) := by
  subst h0 h1 h2
  refine funext fun z => ?_
  rw [eq_ix2 z]
  exact (Ref.slice2_at _ (z 0) (z 1)).trans (u_eq _ _ _ 2048 4096 (by decide) (z 0) (z 1)).symm
theorem u3_fin (h0 : x' = x) (h1 : g' = g) (h2 : w' = w) :
    extractStridedSlice S4224x256 ![0, 6144] (Ref.u x' g' w') Cert.Reference3Ideal.Gen.slices_S4224x6656_S4224x256_0_6144 = uCols 256 6144 (by decide) x g (wk w) := by
  subst h0 h1 h2
  refine funext fun z => ?_
  rw [eq_ix2 z]
  exact (Ref.slice3_at _ (z 0) (z 1)).trans (u_eq _ _ _ 256 6144 (by decide) (z 0) (z 1)).symm
theorem u4_fin (h0 : x' = x) (h1 : g' = g) (h2 : w' = w) :
    extractStridedSlice S4224x128 ![0, 6400] (Ref.u x' g' w') Cert.Reference3Ideal.Gen.slices_S4224x6656_S4224x128_0_6400 = uCols 128 6400 (by decide) x g (wk w) := by
  subst h0 h1 h2
  refine funext fun z => ?_
  rw [eq_ix2 z]
  exact (Ref.slice4_at _ (z 0) (z 1)).trans (u_eq _ _ _ 128 6400 (by decide) (z 0) (z 1)).symm
theorem u5_fin (h0 : x' = x) (h1 : g' = g) (h2 : w' = w) :
    extractStridedSlice S4224x128 ![0, 6528] (Ref.u x' g' w') Cert.Reference3Ideal.Gen.slices_S4224x6656_S4224x128_0_6528 = uCols 128 6528 (by decide) x g (wk w) := by
  subst h0 h1 h2
  refine funext fun z => ?_
  rw [eq_ix2 z]
  exact (Ref.slice5_at _ (z 0) (z 1)).trans (u_eq _ _ _ 128 6528 (by decide) (z 0) (z 1)).symm
theorem dx_fin (h0 : x' = x) (h1 : g' = g) (h2 : w' = w) (h3 : du' = du) (h4 : ct' = ct) :
    Ref.dx ct' x' (Ffn.Ref.eg (Ref.dh du' w') g') = dxAll du x ct g (wt w) := by
  subst h0 h1 h2 h3 h4
  exact (dx_eq ..).symm
theorem dg_fin (h0 : x' = x) (h2 : w' = w) (h3 : du' = du) :
    Ffn.Ref.dg x' (Ref.dh du' w')
      = Host.reduceAdd (dg8All du x (wt w)) (constant S_ .f32 0x00000000#32) reducesTo_S8x1024_S1024_d0 h_S_ := by
  subst h0 h2 h3
  exact (dg_eq ..).symm
theorem dw_fin (h0 : x' = x) (h1 : g' = g) (h3 : du' = du) :
    Ref.dw du' (Ffn.Ref.hn x' g') = wgAll (hAll x g) du := by
  subst h0 h1 h3
  exact (dw_eq ..).symm

end Cert.Inp.Match

end
-- ==== Proof.Inp.Run.lean ====
/-
  The input projection's run: every buffer ends at the contents its three calls and the host lines between them leave, and
  the nine results are read off those contents.
-/
module

public import proofs.«01_k».proof.Proof.Inp.Fwd
public import proofs.«01_k».proof.Proof.Inp.Bwd
public import proofs.«01_k».proof.Proof.Inp.Wgrad
public import proofs.«01_k».proof.Proof.Gen.Kernel3Ideal.Frame
public import Idealize.ShloMosaic.Lib.Pipeline.ValueKit
public import Idealize.ShloMosaic.Lib.Pipeline.ValueKit.Point

@[expose] public section

set_option maxRecDepth 16384

noncomputable section

namespace Cert.Inp.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel3Ideal Cert.Kernel3Ideal.Gen Cert.Ffn
open scoped BigOperators

local notation "𝕄" => MT nD τ sig Unit (Elt Ideal) ℕ (UR sig nD τ) ℕ

variable (m : (ℓ : Loc nD τ sig) → Buf (Elt Ideal) ℓ) (ρ : Dev nD → PrngReg)

/-- The run: every buffer ends at the last boundary's contents. -/
theorem run_all : θ_run defs (onTc (τ := τ) (main (F := Ideal))) ⟨m, fun _ => 0, ρ⟩ (fun r => (∀ c : Dev nD,
      ∀ b ∈ Pipeline.ucRefs τ sig, r.2.mem (((c : Thread nD τ)).1, b) = W6 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

abbrev argX (c : Dev nD) : FVec Ideal S4224x1024 .f32 := m ((c : Thread nD τ).loc main_arg0)
abbrev argG (c : Dev nD) : FVec Ideal S1x1024 .f32 := m ((c : Thread nD τ).loc main_arg1)
abbrev argW (c : Dev nD) : FVec Ideal S1024x6656 .f32 := m ((c : Thread nD τ).loc main_arg2)
abbrev argDu (c : Dev nD) : FVec Ideal S4224x6656 .bf16 := m ((c : Thread nD τ).loc main_arg3)
abbrev argCt (c : Dev nD) : FVec Ideal S4224x1024 .f32 := m ((c : Thread nD τ).loc main_arg4)
abbrev Wk (c : Dev nD) : FVec Ideal S1024x6656 .bf16 := truncf .bf16 (argW m c) bitsLt_bf16_f32
abbrev Wt (c : Dev nD) : FVec Ideal S6656x1024 .bf16 := transpose S6656x1024 [1, 0] (Wk m c) transposes_S1024x6656_S6656x1024_1_0

/-! ## What the calls find -/

theorem V1_w (c : Dev nD) : V1 m ρ c main_v0 = Wk m c := by
  show StableHlo.after hostOps0 (W0 m ρ c) (Proc.devRef .tc main_v0) = _
  after_results_simp <;> rfl

theorem V1_x (c : Dev nD) : V1 m ρ c main_arg0 = argX m c := W1_args m ρ c main_arg0 (by decide)
theorem V1_g (c : Dev nD) : V1 m ρ c main_arg1 = argG m c := W1_args m ρ c main_arg1 (by decide)

theorem V3_w (c : Dev nD) : V3 m ρ c main_v2 = Wt m c := by
  refine Eq.trans (b := transpose S6656x1024 [1, 0] (W2 m ρ c (Proc.devRef .tc main_v0)) transposes_S1024x6656_S6656x1024_1_0) ?_ ?_
  · show StableHlo.after hostOps1 (W2 m ρ c) (Proc.devRef .tc main_v2) = _
    after_results_simp <;> rfl
  · exact congrArg (transpose S6656x1024 [1, 0] · transposes_S1024x6656_S6656x1024_1_0) ((W2_of m ρ c main_v0 (by decide)).trans (V1_w m ρ c))

theorem V3_x (c : Dev nD) : V3 m ρ c main_arg0 = argX m c := W3_args m ρ c main_arg0 (by decide)
theorem V3_g (c : Dev nD) : V3 m ρ c main_arg1 = argG m c := W3_args m ρ c main_arg1 (by decide)
theorem V3_du (c : Dev nD) : V3 m ρ c main_arg3 = argDu m c := W3_args m ρ c main_arg3 (by decide)
theorem V3_ct (c : Dev nD) : V3 m ρ c main_arg4 = argCt m c := W3_args m ρ c main_arg4 (by decide)

theorem V4_dx (c : Dev nD) : W4 m ρ c (Proc.devRef .tc main_v3_0) = dxAll (argDu m c) (argX m c) (argCt m c) (argG m c) (Wt m c) := by
  refine (W4_arr m ρ c 5).trans ((final1_5 (V3 m ρ) c).trans ?_)
  rw [V3_x, V3_g, V3_ct, V3_du, V3_w]
theorem V4_dg (c : Dev nD) : W4 m ρ c (Proc.devRef .tc main_v3_1) = dg8All (argDu m c) (argX m c) (Wt m c) := by
  refine (W4_arr m ρ c 6).trans ((final1_6 (V3 m ρ) c).trans ?_)
  rw [V3_x, V3_du, V3_w]

/-- An array the last four stretches leave alone. -/
theorem keep (c : Dev nD) (r : Ref sig .tc) (h3 : r ∉ hostOps1_W) (h4 : ∀ w : Fin cfg1.W, Pipeline.arrRef spec1 w = r → (cfg1.win w).isOut = false)
    (h5 : r ∉ hostOps2_W) (h6 : ∀ w : Fin cfg2.W, Pipeline.arrRef spec2 w = r → (cfg2.win w).isOut = false) :
    W6 m ρ c (Proc.devRef .tc r) = W2 m ρ c (Proc.devRef .tc r) :=
  (W6_of m ρ c r h6).trans ((W5_of m ρ c r h5).trans ((W4_of m ρ c r h4).trans (W3_of m ρ c r h3)))

/-! ## The results -/

theorem res_u0 (c : Dev nD) : W6 m ρ c (Proc.devRef .tc main_v1_0) = uCols 3072 0 (by decide) (argX m c) (argG m c) (Wk m c) := by
  refine (keep m ρ c main_v1_0 (by decide) (by decide) (by decide) (by decide)).trans ((W2_arr m ρ c 3).trans ((final0_3 (V1 m ρ) c).trans ?_))
  rw [V1_x, V1_g, V1_w]
theorem res_u1 (c : Dev nD) : W6 m ρ c (Proc.devRef .tc main_v1_1) = uCols 1024 3072 (by decide) (argX m c) (argG m c) (Wk m c) := by
  refine (keep m ρ c main_v1_1 (by decide) (by decide) (by decide) (by decide)).trans ((W2_arr m ρ c 4).trans ((final0_4 (V1 m ρ) c).trans ?_))
  rw [V1_x, V1_g, V1_w]
theorem res_u2 (c : Dev nD) : W6 m ρ c (Proc.devRef .tc main_v1_2) = uCols 2048 4096 (by decide) (argX m c) (argG m c) (Wk m c) := by
  refine (keep m ρ c main_v1_2 (by decide) (by decide) (by decide) (by decide)).trans ((W2_arr m ρ c 5).trans ((final0_5 (V1 m ρ) c).trans ?_))
  rw [V1_x, V1_g, V1_w]
theorem res_u3 (c : Dev nD) : W6 m ρ c (Proc.devRef .tc main_v1_3) = uCols 256 6144 (by decide) (argX m c) (argG m c) (Wk m c) := by
  refine (keep m ρ c main_v1_3 (by decide) (by decide) (by decide) (by decide)).trans ((W2_arr m ρ c 6).trans ((final0_6 (V1 m ρ) c).trans ?_))
  rw [V1_x, V1_g, V1_w]
theorem res_u4 (c : Dev nD) : W6 m ρ c (Proc.devRef .tc main_v1_4) = uCols 128 6400 (by decide) (argX m c) (argG m c) (Wk m c) := by
  refine (keep m ρ c main_v1_4 (by decide) (by decide) (by decide) (by decide)).trans ((W2_arr m ρ c 7).trans ((final0_7 (V1 m ρ) c).trans ?_))
  rw [V1_x, V1_g, V1_w]
theorem res_u5 (c : Dev nD) : W6 m ρ c (Proc.devRef .tc main_v1_5) = uCols 128 6528 (by decide) (argX m c) (argG m c) (Wk m c) := by
  refine (keep m ρ c main_v1_5 (by decide) (by decide) (by decide) (by decide)).trans ((W2_arr m ρ c 8).trans ((final0_8 (V1 m ρ) c).trans ?_))
  rw [V1_x, V1_g, V1_w]

theorem res_dx (c : Dev nD) : W6 m ρ c (Proc.devRef .tc main_v3_0) = dxAll (argDu m c) (argX m c) (argCt m c) (argG m c) (Wt m c) :=
  (W6_of m ρ c main_v3_0 (by decide)).trans ((W5_of m ρ c main_v3_0 (by decide)).trans (V4_dx m ρ c))

theorem res_dg (c : Dev nD) : W6 m ρ c (Proc.devRef .tc main_v4)
    = Host.reduceAdd (dg8All (argDu m c) (argX m c) (Wt m c)) (constant S_ .f32 0x00000000#32) reducesTo_S8x1024_S1024_d0 h_S_ := by
  refine (W6_of m ρ c main_v4 (by decide)).trans ?_
  rw [← V4_dg m ρ c]
  show StableHlo.after hostOps2 (W4 m ρ c) (Proc.devRef .tc main_v4) = _
  after_results_simp <;> rfl

theorem V5_h (c : Dev nD) : V5 m ρ c main_v1_6 = hAll (argX m c) (argG m c) := by
  refine (W5_of m ρ c main_v1_6 (by decide)).trans ((W4_of m ρ c main_v1_6 (by decide)).trans ((W3_of m ρ c main_v1_6 (by decide)).trans
    ((W2_arr m ρ c 9).trans ((final0_9 (V1 m ρ) c).trans ?_))))
  rw [V1_x, V1_g]

theorem res_dw (c : Dev nD) : W6 m ρ c (Proc.devRef .tc main_v5) = wgAll (hAll (argX m c) (argG m c)) (argDu m c) := by
  refine (W6_arr m ρ c 2).trans ((final2_2 (V5 m ρ) c).trans ?_)
  rw [V5_h, show V5 m ρ c main_arg3 = argDu m c from W5_args m ρ c main_arg3 (by decide)]

/-- The run with its results named and the arguments unchanged. -/
theorem run_main : θ_run defs (onTc (τ := τ) (main (F := Ideal))) ⟨m, fun _ => 0, ρ⟩ (fun r => ∀ c : Dev nD,
      r.2.mem ((c : Thread nD τ).loc main_v1_0) = uCols 3072 0 (by decide) (argX m c) (argG m c) (Wk m c)
      ∧ r.2.mem ((c : Thread nD τ).loc main_v1_1) = uCols 1024 3072 (by decide) (argX m c) (argG m c) (Wk m c)
      ∧ r.2.mem ((c : Thread nD τ).loc main_v1_2) = uCols 2048 4096 (by decide) (argX m c) (argG m c) (Wk m c)
      ∧ r.2.mem ((c : Thread nD τ).loc main_v1_3) = uCols 256 6144 (by decide) (argX m c) (argG m c) (Wk m c)
      ∧ r.2.mem ((c : Thread nD τ).loc main_v1_4) = uCols 128 6400 (by decide) (argX m c) (argG m c) (Wk m c)
      ∧ r.2.mem ((c : Thread nD τ).loc main_v1_5) = uCols 128 6528 (by decide) (argX m c) (argG m c) (Wk m c)
      ∧ r.2.mem ((c : Thread nD τ).loc main_v3_0) = dxAll (argDu m c) (argX m c) (argCt m c) (argG m c) (Wt m c)
      ∧ r.2.mem ((c : Thread nD τ).loc main_v4)
          = Host.reduceAdd (dg8All (argDu m c) (argX m c) (Wt m c)) (constant S_ .f32 0x00000000#32) reducesTo_S8x1024_S1024_d0 h_S_
      ∧ r.2.mem ((c : Thread nD τ).loc main_v5) = wgAll (hAll (argX m c) (argG m c)) (argDu m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨(h.1 c _ (mem_uc main_v1_0 (by decide))).trans (res_u0 m ρ c),
     (h.1 c _ (mem_uc main_v1_1 (by decide))).trans (res_u1 m ρ c),
     (h.1 c _ (mem_uc main_v1_2 (by decide))).trans (res_u2 m ρ c),
     (h.1 c _ (mem_uc main_v1_3 (by decide))).trans (res_u3 m ρ c),
     (h.1 c _ (mem_uc main_v1_4 (by decide))).trans (res_u4 m ρ c),
     (h.1 c _ (mem_uc main_v1_5 (by decide))).trans (res_u5 m ρ c),
     (h.1 c _ (mem_uc main_v3_0 (by decide))).trans (res_dx m ρ c),
     (h.1 c _ (mem_uc main_v4 (by decide))).trans (res_dg m ρ c),
     (h.1 c _ (mem_uc main_v5 (by decide))).trans (res_dw m ρ c),
     (h.1 c _ (mem_uc main_arg0 (by decide))).trans (W6_main_arg0 m ρ c),
     (h.1 c _ (mem_uc main_arg1 (by decide))).trans (W6_main_arg1 m ρ c),
     (h.1 c _ (mem_uc main_arg2 (by decide))).trans (W6_main_arg2 m ρ c),
     (h.1 c _ (mem_uc main_arg3 (by decide))).trans (W6_main_arg3 m ρ c),
     (h.1 c _ (mem_uc main_arg4 (by decide))).trans (W6_main_arg4 m ρ c)⟩) (run_all m ρ)

end Cert.Inp.Kern

end
-- ==== Proof.Inp.Final.lean ====
/-
  The input projection's claims: the frames of kernel and reference, and the value claim.
-/
module

public import proofs.«01_k».proof.Defs
public import proofs.«01_k».proof.Proof.Gen.Kernel3.Frame
public import proofs.«01_k».proof.Proof.Inp.Match
public import proofs.«01_k».proof.Proof.Inp.Run
public import Idealize.ShloMosaic.Adequacy
public import Idealize.ShloMosaic.Init

@[expose] public section

noncomputable section

namespace Cert.Inp.Final

open Idealize.ShloMosaic Idealize.SL.Sem

theorem frame_kernel : Cert.quiescent_Kernel3 := fun m ρ _ => Cert.Kernel3.Gen.frame (F := Bits) m ρ

theorem frame_kernelIdeal : Cert.quiescent_Kernel3Ideal := fun m ρ _ => Cert.Kernel3Ideal.Gen.frame (F := Ideal) m ρ

theorem frame_referenceIdeal : Cert.quiescent_Reference3Ideal := fun m ρ _ =>
  (θ_run Cert.Reference3Ideal.defs _ _).mono (fun r h => ⟨fun c => (h c).2.2.2.2.2.2.2.2.2, sem_eq_zero_of_no_sems rfl r.2⟩)
    (Cert.Reference3Ideal.Value.run m ρ)

theorem algebraic : Cert.algebraic_Kernel3Ideal_Reference3Ideal := by
  intro m g m' g' _ hagree
  refine ⟨_, _, _, _, _, _, _, _, _, Cert.Inp.Kern.run_main m g, ?_⟩
  refine θ_run_mono (Cert.Reference3Ideal.Value.run m' g') ?_
  intro r hr c
  obtain ⟨h0, h1, h2, h3, h4⟩ := hagree c
  obtain ⟨k0, k1, k2, k3, k4, k5, k6, k7, k8, ka⟩ := hr c
  exact ⟨k0.trans (Cert.Inp.Match.u0_fin h0 h1 h2), k1.trans (Cert.Inp.Match.u1_fin h0 h1 h2), k2.trans (Cert.Inp.Match.u2_fin h0 h1 h2),
    k3.trans (Cert.Inp.Match.u3_fin h0 h1 h2), k4.trans (Cert.Inp.Match.u4_fin h0 h1 h2), k5.trans (Cert.Inp.Match.u5_fin h0 h1 h2),
    k6.trans (Cert.Inp.Match.dx_fin h0 h1 h2 h3 h4), k7.trans (Cert.Inp.Match.dg_fin h0 h2 h3), k8.trans (Cert.Inp.Match.dw_fin h0 h1 h3), ka⟩

end Cert.Inp.Final

end
-- ==== Proof.Mix.Norm.lean ====
/-
  The mixer's rows over the extended reals: a head, 128 of a row's 512 columns, is normalised by its own root mean square.
-/
module

public import proofs.«01_k».proof.Proof.Ffn.Norm

@[expose] public section

noncomputable section

namespace Cert.Mix

open Idealize.ShloMosaic Cert.Ffn
open scoped BigOperators

/-- A 128th, as the head's mean is scaled by. -/
abbrev inv128 : EReal := Ideal.ofBits .f32 0x3C000000#32

theorem inv128_eq : inv128 = ((1 / 128 : ℝ) : EReal) := by
  simp [inv128, Ideal.ofBits, Ideal.ieee, -EReal.coe_mul]; norm_num

theorem f128_eq : Ideal.ofBits .f32 0x43000000#32 = ((128 : ℝ) : EReal) := by
  simp [Ideal.ofBits, Ideal.ieee, -EReal.coe_mul]; norm_num

theorem div_128 (x : EReal) : Ideal.div x (Ideal.ofBits .f32 0x43000000#32) = x * inv128 := by
  rw [f128_eq, inv128_eq]
  exact Ideal.div_coe (by norm_num) x

/-- A head's mean square plus the small constant, and its reciprocal root. -/
def headSq (u : Row 128) : EReal := (∑ k, u k * u k) * inv128 + eps
def hinv (u : Row 128) : EReal := Ideal.rsqrt (headSq u)

/-! ## Rows of four heads -/

/-- The head a column belongs to, and the column within it. -/
def headOf (u : Row 512) (h : Fin 4) : Row 128 := fun k => u ⟨128 * h.val + k.val, by omega⟩
def hd (j : Fin 512) : Fin 4 := ⟨j.val / 128, by omega⟩
def lane (j : Fin 512) : Fin 128 := ⟨j.val % 128, by omega⟩

/-- The logistic function, and the layer norm of a row with its scale and shift. -/
def sig (x : EReal) : EReal := Ideal.div 1 (1 + Ideal.exp (-x))
def silu (x : EReal) : EReal := x * sig x
abbrev f512 : EReal := Ideal.ofBits .f32 0x44000000#32
def cen (z : Row 512) : Row 512 := fun k => z k - Ideal.div (∑ l, z l) f512
def lnRow (z g b : Row 512) : Row 512 := fun k => cen z k * Ideal.rsqrt (Ideal.div (∑ l, cen z l * cen z l) f512 + eps) * g k + b k
def caRow (z g b : Row 512) : Row 512 := fun k => silu (lnRow z g b k)

/-- The heads normalised, and with the gate. -/
def nh (u : Row 512) : Row 512 := fun j => u j * hinv (headOf u (hd j))
def ocRow (u g q : Row 512) : Row 512 := fun j => nh u j * g j * silu (q j)
/-- A row's product with the columns of a matrix. -/
def mulRow {n m : ℕ} (u : Row n) (w : Fin n → Row m) : Row m := fun j => ∑ k, u k * w k j
/-- A group of 1024 gates. -/
def gate (q : Row 3072) (a : Fin 3) : Row 1024 := fun j => q ⟨1024 * a.val + j.val, by omega⟩
def mixRow (q : Row 3072) (a b c : Row 1024) : Row 1024 := fun j => sig (gate q 0 j) * a j + sig (gate q 1 j) * b j + sig (gate q 2 j) * c j

end Cert.Mix

end
-- ==== Proof.Mix.Ref.lean ====
/-
  The mixer's reference, operation by operation over whole arrays, and each array at an element of a row.
-/
module

public import proofs.«01_k».proof.Proof.Mix.Norm
public import proofs.«01_k».proof.Proof.Gen.Reference4Ideal.Run

@[expose] public section

set_option maxRecDepth 16384

noncomputable section

namespace Cert.Mix.Ref

open Idealize.ShloMosaic Idealize.ShloMosaic.TcCoe Idealize.SL.Sem
open Cert.Reference4Ideal Cert.Reference4Ideal.Gen Cert.Ffn Cert.Mix
open scoped BigOperators

abbrev zero1 : FVec Ideal S_ .f32 := constant (F := Ideal) S_ .f32 0x00000000#32
abbrev ones : FVec Ideal S4224x512 .f32 := broadcastInDim S4224x512 ![] bcast_S_S4224x512 (constant (F := Ideal) S_ .f32 0x3F800000#32)
abbrev ones3 : FVec Ideal S4224x3072 .f32 := broadcastInDim S4224x3072 ![] bcast_S_S4224x3072 (constant (F := Ideal) S_ .f32 0x3F800000#32)
abbrev col (b : BitVec 32) : FVec Ideal S4224x1 .f32 := broadcastInDim S4224x1 ![] bcast_S_S4224x1 (constant (F := Ideal) S_ .f32 b)
abbrev hcol (b : BitVec 32) : FVec Ideal S4224x4x1 .f32 := broadcastInDim S4224x4x1 ![] bcast_S_S4224x4x1 (constant (F := Ideal) S_ .f32 b)

/-- The layer norm of the convolution's rows, and its product. -/
def mean (z : FVec Ideal S4224x512 .f32) : FVec Ideal S4224x1 .f32 :=
  Host.divf (broadcastInDim S4224x1 ![0] bcast_S4224_S4224x1_0 (Host.reduceAdd z zero1 reducesTo_S4224x512_S4224_d1 h_S_)) (col 0x44000000#32)
def centred (z : FVec Ideal S4224x512 .f32) : FVec Ideal S4224x512 .f32 :=
  subf z (broadcastInDim S4224x512 ![0, 1] bcast_S4224x1_S4224x512_0_1 (mean z))
def ln (z : FVec Ideal S4224x512 .f32) (g b : FVec Ideal S1x512 .f32) : FVec Ideal S4224x512 .f32 :=
  addf (mulf (mulf (centred z) (broadcastInDim S4224x512 ![0, 1] bcast_S4224x1_S4224x512_0_1 (Host.rsqrt (addf (mean (mulf (centred z) (centred z))) (col 0x358637BD#32)))))
    (broadcastInDim S4224x512 ![0, 1] bcast_S1x512_S4224x512_0_1 g)) (broadcastInDim S4224x512 ![0, 1] bcast_S1x512_S4224x512_0_1 b)
def silu5 (x : FVec Ideal S4224x512 .f32) : FVec Ideal S4224x512 .f32 := mulf x (Host.divf ones (addf ones (Host.exp (Host.negf x))))
def mul5 (x : FVec Ideal S4224x512 .f32) (w : FVec Ideal S512x1024 .f32) : FVec Ideal S4224x1024 .f32 :=
  Host.dotGeneral dot_S4224x512_S512x1024_S4224x1024_1_0_0_1_n_n none x w
def mul10 (x : FVec Ideal S4224x1024 .f32) (w : FVec Ideal S1024x1024 .f32) : FVec Ideal S4224x1024 .f32 :=
  Host.dotGeneral dot_S4224x1024_S1024x1024_S4224x1024_1_0_0_1_n_n none x w
/-- The heads, their mean squares, and the heads normalised. -/
def heads (u : FVec Ideal S4224x512 .f32) : FVec Ideal S4224x4x128 .f32 := shapeCast S4224x4x128 u shapeCasts_S4224x512_S4224x4x128
def hsq (u : FVec Ideal S4224x512 .f32) : FVec Ideal S4224x4x1 .f32 :=
  addf (Host.divf (broadcastInDim S4224x4x1 ![0, 1] bcast_S4224x4_S4224x4x1_0_1 (Host.reduceAdd (mulf (heads u) (heads u)) zero1 reducesTo_S4224x4x128_S4224x4_d2 h_S_))
    (hcol 0x43000000#32)) (hcol 0x358637BD#32)
def wide (q : FVec Ideal S4224x4x1 .f32) : FVec Ideal S4224x4x128 .f32 := broadcastInDim S4224x4x128 ![0, 1, 2] bcast_S4224x4x1_S4224x4x128_0_1_2 q
def normedHeads (u : FVec Ideal S4224x512 .f32) : FVec Ideal S4224x512 .f32 :=
  shapeCast S4224x512 (mulf (heads u) (wide (Host.rsqrt (hsq u)))) shapeCasts_S4224x4x128_S4224x512
def scale (x : FVec Ideal S4224x512 .f32) (g : FVec Ideal S1x512 .f32) : FVec Ideal S4224x512 .f32 :=
  mulf x (broadcastInDim S4224x512 ![0, 1] bcast_S1x512_S4224x512_0_1 g)
def hgate (h4 : FVec Ideal S4224x2048 .f32) : FVec Ideal S4224x512 .f32 := extractStridedSlice S4224x512 ![0, 1536] h4 slices_S4224x2048_S4224x512_0_1536
def oc (u : FVec Ideal S4224x512 .f32) (g : FVec Ideal S1x512 .f32) (q : FVec Ideal S4224x512 .f32) : FVec Ideal S4224x512 .f32 :=
  mulf (scale (normedHeads u) g) (silu5 q)

/-- The gates, in three groups. -/
def sigs (gt : FVec Ideal S4224x3072 .f32) : FVec Ideal S4224x3072 .f32 := Host.divf ones3 (addf ones3 (Host.exp (Host.negf gt)))
def g0 (gt : FVec Ideal S4224x3072 .f32) : FVec Ideal S4224x1024 .f32 :=
  shapeCast S4224x1024 (extractStridedSlice S4224x1x1024 ![0, 0, 0] (shapeCast S4224x3x1024 (sigs gt) shapeCasts_S4224x3072_S4224x3x1024)
    slices_S4224x3x1024_S4224x1x1024_0_0_0) shapeCasts_S4224x1x1024_S4224x1024
def g1 (gt : FVec Ideal S4224x3072 .f32) : FVec Ideal S4224x1024 .f32 :=
  shapeCast S4224x1024 (extractStridedSlice S4224x1x1024 ![0, 1, 0] (shapeCast S4224x3x1024 (sigs gt) shapeCasts_S4224x3072_S4224x3x1024)
    slices_S4224x3x1024_S4224x1x1024_0_1_0) shapeCasts_S4224x1x1024_S4224x1024
def g2 (gt : FVec Ideal S4224x3072 .f32) : FVec Ideal S4224x1024 .f32 :=
  shapeCast S4224x1024 (extractStridedSlice S4224x1x1024 ![0, 2, 0] (shapeCast S4224x3x1024 (sigs gt) shapeCasts_S4224x3072_S4224x3x1024)
    slices_S4224x3x1024_S4224x1x1024_0_2_0) shapeCasts_S4224x1x1024_S4224x1024
def mix (gt : FVec Ideal S4224x3072 .f32) (a b c : FVec Ideal S4224x1024 .f32) : FVec Ideal S4224x1024 .f32 :=
  addf (addf (mulf (g0 gt) a) (mulf (g1 gt) b)) (mulf (g2 gt) c)

/-- The rows kept, and the sum there. -/
def keep : IVec S4224x1 1 :=
  andi (cmpi .sge (broadcastInDim S4224x1 ![0] bcast_S4224_S4224x1_0 (iotaInDim S4224 32 0)) (broadcastInDim S4224x1 ![] bcast_S_S4224x1 (constantI S_ 32 48#32)))
    (cmpi .slt (broadcastInDim S4224x1 ![0] bcast_S4224_S4224x1_0 (iotaInDim S4224 32 0)) (broadcastInDim S4224x1 ![] bcast_S_S4224x1 (constantI S_ 32 4160#32)))
def x1 (x y : FVec Ideal S4224x1024 .f32) : FVec Ideal S4224x1024 .f32 :=
  select (broadcastInDim S4224x1024 ![0, 1] bcast_S4224x1_S4224x1024_0_1 keep) (addf x y) x

/-! ## At an element -/

theorem mean_at (z : FVec Ideal S4224x512 .f32) (r : Fin 4224) (o : Fin 1) : mean z (ix2 r o) = Ideal.div (∑ l, z (ix2 r l)) f512 := by
  pointwise [mean]

theorem centred_at (z : FVec Ideal S4224x512 .f32) (r : Fin 4224) (k : Fin 512) : centred z (ix2 r k) = cen (rows z r) k := by
  pointwise [centred, mean_at, cen, rows]

theorem ln_at (z : FVec Ideal S4224x512 .f32) (g b : FVec Ideal S1x512 .f32) (r : Fin 4224) (k : Fin 512) :
    ln z g b (ix2 r k) = lnRow (rows z r) (rows g 0) (rows b 0) k := by
  pointwise [ln, mean_at, centred_at, lnRow, rows]

theorem silu5_at (x : FVec Ideal S4224x512 .f32) (r : Fin 4224) (k : Fin 512) : silu5 x (ix2 r k) = silu (x (ix2 r k)) := by
  pointwise [silu5, silu, sig, Ideal.ofBits_one_f32]

theorem ca_at (z : FVec Ideal S4224x512 .f32) (g b : FVec Ideal S1x512 .f32) (r : Fin 4224) (k : Fin 512) :
    silu5 (ln z g b) (ix2 r k) = caRow (rows z r) (rows g 0) (rows b 0) k := by
  rw [silu5_at, ln_at]; rfl

theorem mul5_at (x : FVec Ideal S4224x512 .f32) (w : FVec Ideal S512x1024 .f32) (r : Fin 4224) (j : Fin 1024) :
    mul5 x w (ix2 r j) = mulRow (rows x r) (rows w) j := by
  pointwise [mul5, mulRow, rows]

theorem mul10_at (x : FVec Ideal S4224x1024 .f32) (w : FVec Ideal S1024x1024 .f32) (r : Fin 4224) (j : Fin 1024) :
    mul10 x w (ix2 r j) = mulRow (rows x r) (rows w) j := by
  pointwise [mul10, mulRow, rows]

theorem heads_at (u : FVec Ideal S4224x512 .f32) (r : Fin 4224) (h : Fin 4) (k : Fin 128) : heads u (ix3 r h k) = headOf (rows u r) h k := by
  pointwise [heads, headOf, rows]
  exact congrArg (fun j => u (ix2 r j)) (Fin.ext (by show h.val * 128 + k.val = 128 * h.val + k.val; omega))

theorem hsq_at (u : FVec Ideal S4224x512 .f32) (r : Fin 4224) (h : Fin 4) (o : Fin 1) : hsq u (ix3 r h o) = headSq (headOf (rows u r) h) := by
  pointwise [hsq, heads_at, headSq, div_128, zero_add]

theorem headOf_hd (x : Row 512) (k : Fin 512) : headOf x (hd k) (lane k) = x k :=
  congrArg x (Fin.ext (Nat.div_add_mod k.val 128))

theorem nh_at (u : FVec Ideal S4224x512 .f32) (r : Fin 4224) (k : Fin 512) : normedHeads u (ix2 r k) = nh (rows u r) k := by
  refine Eq.trans ?_ (congrArg (· * hinv (headOf (rows u r) (hd k))) (headOf_hd (rows u r) k))
  pointwise [normedHeads, wide, heads_at, hsq_at, hinv, hd, lane]

theorem scale_at (x : FVec Ideal S4224x512 .f32) (g : FVec Ideal S1x512 .f32) (r : Fin 4224) (k : Fin 512) :
    scale x g (ix2 r k) = x (ix2 r k) * g (ix2 0 k) := by
  pointwise [scale]

theorem hgate_at (h4 : FVec Ideal S4224x2048 .f32) (r : Fin 4224) (k : Fin 512) : hgate h4 (ix2 r k) = h4 (ix2 r ⟨1536 + k.val, by omega⟩) := by
  pointwise [hgate]

theorem oc_at (u : FVec Ideal S4224x512 .f32) (g : FVec Ideal S1x512 .f32) (q : FVec Ideal S4224x512 .f32) (r : Fin 4224) (k : Fin 512) :
    oc u g q (ix2 r k) = ocRow (rows u r) (rows g 0) (rows q r) k := by
  pointwise [oc, scale_at, nh_at, silu5_at, ocRow, rows]

theorem sigs_at (gt : FVec Ideal S4224x3072 .f32) (r : Fin 4224) (k : Fin 3072) : sigs gt (ix2 r k) = sig (gt (ix2 r k)) := by
  pointwise [sigs, sig, Ideal.ofBits_one_f32]

theorem g0_at (gt : FVec Ideal S4224x3072 .f32) (r : Fin 4224) (k : Fin 1024) : g0 gt (ix2 r k) = sig (gate (rows gt r) 0 k) := by
  pointwise [g0, sigs_at, gate, rows]

theorem g1_at (gt : FVec Ideal S4224x3072 .f32) (r : Fin 4224) (k : Fin 1024) : g1 gt (ix2 r k) = sig (gate (rows gt r) 1 k) := by
  pointwise [g1, sigs_at, gate, rows]

theorem g2_at (gt : FVec Ideal S4224x3072 .f32) (r : Fin 4224) (k : Fin 1024) : g2 gt (ix2 r k) = sig (gate (rows gt r) 2 k) := by
  pointwise [g2, sigs_at, gate, rows]

theorem mix_at (gt : FVec Ideal S4224x3072 .f32) (a b c : FVec Ideal S4224x1024 .f32) (r : Fin 4224) (k : Fin 1024) :
    mix gt a b c (ix2 r k) = mixRow (rows gt r) (rows a r) (rows b r) (rows c r) k := by
  pointwise [mix, g0_at, g1_at, g2_at, mixRow, rows]

/-- The kept rows, as words. -/
theorem kept_word : ∀ r : Fin 4224,
    IntOp.andi (IntOp.cmpi CmpIPredicate.sge (BitVec.ofNat 32 r.val) 48#32) (IntOp.cmpi CmpIPredicate.slt (BitVec.ofNat 32 r.val) 4160#32)
      = if 48 ≤ r.val ∧ r.val < 4160 then 1#1 else 0#1 := by
  decide +kernel

theorem keep_at (r : Fin 4224) (l : Fin 1024) :
    broadcastInDim S4224x1024 ![0, 1] bcast_S4224x1_S4224x1024_0_1 keep (ix2 r l) = if 48 ≤ r.val ∧ r.val < 4160 then 1#1 else 0#1 := by
  pointwise [keep]
  exact kept_word r

theorem x1_at (x y : FVec Ideal S4224x1024 .f32) (r : Fin 4224) (l : Fin 1024) :
    x1 x y (ix2 r l) = x (ix2 r l) + if 48 ≤ r.val ∧ r.val < 4160 then y (ix2 r l) else 0 := by
  refine (congrArg (fun b => Scalar.select b (x (ix2 r l) + y (ix2 r l)) (x (ix2 r l))) (keep_at r l)).trans ?_
  split_ifs
  · rfl
  · exact (add_zero _).symm

end Cert.Mix.Ref

end
-- ==== Proof.Mix.Pay.lean ====
/-
  The mixer's forward call, value by value, each at an element of a block of 384 rows.
-/
module

public import proofs.«01_k».proof.Proof.Mix.Norm
public import proofs.«01_k».proof.Proof.Gen.Kernel4Ideal.Skeleton

@[expose] public section

set_option maxRecDepth 16384

noncomputable section

namespace Cert.Mix.Kern

open Idealize.ShloMosaic Idealize.ShloMosaic.TcCoe Idealize.SL.Sem
open Cert.Kernel4Ideal Cert.Kernel4Ideal.Gen Cert.Ffn Cert.Mix
open Idealize.ShloMosaic.Tactic
open scoped BigOperators

theorem pay_ca (z : FVec Ideal S384x512 .f32) (g b : FVec Ideal S1x512 .f32) (i : Fin 384) (k : Fin 512) :
    k0_pay2 (F := Ideal) z g b (ix2 i k) = caRow (rows z i) (rows g 0) (rows b 0) k := by
  pointwise [k0_pay2, caRow, lnRow, cen, silu, sig, rows, Ideal.ofBits_one_f32, zero_sub]

theorem pay_ya (z : FVec Ideal S384x512 .f32) (g b : FVec Ideal S1x512 .f32) (w : FVec Ideal S512x1024 .bf16) (i : Fin 384) (j : Fin 1024) :
    k0_pay3 (F := Ideal) z g b w (ix2 i j) = mulRow (caRow (rows z i) (rows g 0) (rows b 0)) (rows w) j := by
  pointwise [k0_pay3, pay_ca, mulRow, rows]

theorem pay_yb (u : FVec Ideal S384x1024 .f32) (w : FVec Ideal S1024x1024 .bf16) (i : Fin 384) (j : Fin 1024) :
    k0_pay4 (F := Ideal) u w (ix2 i j) = mulRow (rows u i) (rows w) j := by
  pointwise [k0_pay4, mulRow, rows]

theorem pay_yc (u : FVec Ideal S384x512 .bf16) (w : FVec Ideal S512x1024 .bf16) (i : Fin 384) (j : Fin 1024) :
    k0_pay13 (F := Ideal) u w (ix2 i j) = mulRow (rows u i) (rows w) j := by
  pointwise [k0_pay13, mulRow, rows]

/-- One head of the gated heads. -/
def ocAt (u g : Row 128) (q : EReal) (k : Fin 128) : EReal := u k * hinv u * g k * silu q

theorem pay_oc0 (q : FVec Ideal S384x512 .f32) (u : FVec Ideal S384x128 .f32) (g : FVec Ideal S1x128 .f32) (i : Fin 384) (k : Fin 128) :
    k0_pay5 (F := Ideal) q u g (ix2 i k) = ocAt (rows u i) (rows g 0) (q (ix2 i ⟨0 + k.val, by omega⟩)) k := by
  pointwise [k0_pay5, ocAt, hinv, headSq, silu, sig, rows, Ideal.ofBits_one_f32, zero_sub]

theorem pay_oc1 (q : FVec Ideal S384x512 .f32) (u : FVec Ideal S384x128 .f32) (g : FVec Ideal S1x128 .f32) (i : Fin 384) (k : Fin 128) :
    k0_pay7 (F := Ideal) q u (k0_pay6 u) (Scalar.ofBits .f32 0x358637BD#32) g (ix2 i k) = ocAt (rows u i) (rows g 0) (q (ix2 i ⟨128 + k.val, by omega⟩)) k := by
  pointwise [k0_pay7, k0_pay6, ocAt, hinv, headSq, silu, sig, rows, Ideal.ofBits_one_f32, zero_sub]

theorem pay_oc2 (q : FVec Ideal S384x512 .f32) (u : FVec Ideal S384x128 .f32) (g : FVec Ideal S1x128 .f32) (i : Fin 384) (k : Fin 128) :
    k0_pay11 (F := Ideal) (k0_pay8 u g) (k0_pay9 q) (k0_pay10 q) (ix2 i k) = ocAt (rows u i) (rows g 0) (q (ix2 i ⟨256 + k.val, by omega⟩)) k := by
  pointwise [k0_pay11, k0_pay8, k0_pay9, k0_pay10, ocAt, hinv, headSq, silu, sig, rows, Ideal.ofBits_one_f32, zero_sub]

theorem pay_oc3 (q : FVec Ideal S384x512 .f32) (u : FVec Ideal S384x128 .f32) (g : FVec Ideal S1x128 .f32) (i : Fin 384) (k : Fin 128) :
    k0_pay12 (F := Ideal) q u g (ix2 i k) = ocAt (rows u i) (rows g 0) (q (ix2 i ⟨384 + k.val, by omega⟩)) k := by
  pointwise [k0_pay12, ocAt, hinv, headSq, silu, sig, rows, Ideal.ofBits_one_f32, zero_sub]

theorem pay_mix (a b c : FVec Ideal S384x1024 .f32) (p q r : FVec Ideal S384x1024 .f32) (i : Fin 384) (j : Fin 1024) :
    k0_pay14 (F := Ideal) a b c p q r (ix2 i j)
      = sig (p (ix2 i j)) * a (ix2 i j) + sig (q (ix2 i j)) * b (ix2 i j) + sig (r (ix2 i j)) * c (ix2 i j) := by
  pointwise [k0_pay14, sig, Ideal.ofBits_one_f32, zero_sub]

/-- The rows that the mixer's output is added to. -/
abbrev kept (r : ℕ) : Prop := 48 ≤ r ∧ r < 4160

/-- The kept rows as the grid's points count them. -/
theorem kept_word : ∀ (a : Fin 11) (r : Fin 384),
    BitVec.setWidth 32 (IntOp.andi (IntOp.cmpi .sge (IntOp.addi (Scalar.muli (BitVec.ofNat 32 a.val) 384#32) (BitVec.ofNat 32 r.val)) 48#32)
        (IntOp.cmpi .slt (IntOp.addi (Scalar.muli (BitVec.ofNat 32 a.val) 384#32) (BitVec.ofNat 32 r.val)) 4160#32))
      = if kept (384 * a.val + r.val) then 1#32 else 0#32 := by
  decide +kernel

theorem word_one : FloatOps.sitofp (F := Ideal) FTy.f32 1#32 = 1 := by
  show (((1#32).toInt : ℝ) : EReal) = 1
  norm_num

theorem word_zero : FloatOps.sitofp (F := Ideal) FTy.f32 0#32 = 0 := by
  show (((0#32).toInt : ℝ) : EReal) = 0
  norm_num

theorem pay_x1 (a : Fin 11) (u : FVec Ideal S384x1024 .bf16) (x : FVec Ideal S384x1024 .f32) (w : FVec Ideal S1024x1024 .bf16) (i : Fin 384) (j : Fin 1024) :
    k0_pay1 (F := Ideal) (BitVec.ofNat 32 a.val) u x w (ix2 i j)
      = x (ix2 i j) + (if kept (384 * a.val + i.val) then mulRow (rows u i) (rows w) j else 0) := by
  pointwise [k0_pay1]
  refine congrArg (x (ix2 i j) + ·) ((congrArg (fun e : BitVec 32 => FloatOps.sitofp (F := Ideal) FTy.f32 e * ∑ k, u (ix2 i k) * w (ix2 k j)) (kept_word a i)).trans ?_)
  by_cases h : kept (384 * a.val + i.val)
  · rw [if_pos h, if_pos h]
    exact (congrArg (· * ∑ k, u (ix2 i k) * w (ix2 k j)) word_one).trans (one_mul _)
  · rw [if_neg h, if_neg h]
    exact (congrArg (· * ∑ k, u (ix2 i k) * w (ix2 k j)) word_zero).trans (zero_mul _)

end Cert.Mix.Kern

end
-- ==== Proof.Mix.Fwd.lean ====
/-
  The mixer's forward call: its seven results as whole arrays.
-/
module

public import proofs.«01_k».proof.Proof.Mix.Pay
public import proofs.«01_k».proof.Proof.Gen.Kernel4Ideal.Frame
public import Idealize.ShloMosaic.Lib.Pipeline.ValueKit
public import Idealize.ShloMosaic.Lib.Pipeline.ValueKit.Point

@[expose] public section

set_option maxRecDepth 16384

noncomputable section

namespace Cert.Mix.Kern

open Idealize.ShloMosaic Idealize.ShloMosaic.TcCoe Idealize.ShloMosaic.Tactic Idealize.SL.Sem
open Idealize.ShloMosaic.Pipeline (Dat Cfg Window)
open Cert.Kernel4Ideal Cert.Kernel4Ideal.Gen Cert.Ffn Cert.Mix
open scoped BigOperators

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 3] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ (grid0.coords t 0).val = t.val ∧ t.val < 11 :=
  (by decide +kernel : ∀ t : Fin grid0.N, _)

/-! ## The gated heads of a block: four stores of 128 columns -/

theorem ld_head (n : ℕ) (h : Fin 4) (off : ℕ) (ho : off = 128 * h.val)
    (inb : ∀ a, (![0, off] : Fin 2 → ℕ) a + (![n, 128] : Fin 2 → ℕ) a ≤ (⟨2, ![n, 512]⟩ : Shape).size a)
    (U : FVec Ideal ⟨2, ![n, 512]⟩ .f32) (i : Fin n) :
    rows (φ := .f32) (View.ld (Val := Elt Ideal) (e' := .f32) U (Rect.unit (s := ⟨2, ![n, 512]⟩) ![0, off] ![n, 128] inb) : FVec Ideal ⟨2, ![n, 128]⟩ .f32) i
      = headOf (rows U i) h := by
  subst ho
  funext k
  refine View.ld_unit_apply_of _ _ _ inb (ix2 i k) (ix2 i ⟨128 * h.val + k.val, by omega⟩) fun a => ?_
  fin_cases a
  · show i.val = 0 + i.val
    omega
  · rfl

/-- The gated heads of a block of rows. -/
def ocBlk (U : FVec Ideal S384x512 .f32) (G : FVec Ideal S1x512 .f32) (Q : FVec Ideal S384x512 .f32) : FVec Ideal S384x512 .bf16 :=
  fun y => ocRow (rows U (y 0)) (rows G 0) (rows Q (y 0)) (y 1)

theorem oc_piece (h : Fin 4) (off : ℕ) (ho : off = 128 * h.val) (hb : off + 128 ≤ 512)
    (U : FVec Ideal S384x512 .f32) (G : FVec Ideal S1x512 .f32) (Q : FVec Ideal S384x512 .f32) (u : FVec Ideal S384x128 .f32) (g : FVec Ideal S1x128 .f32)
    (i : Fin 384) (k : Fin 128) (hu : rows u i = headOf (rows U i) h) (hg : rows g 0 = headOf (rows G 0) h) (e : EReal)
    (he : e = ocAt (rows u i) (rows g 0) (Q (ix2 i ⟨off + k.val, by omega⟩)) k) (y : S384x512.Idx) (h0 : (y 0).val = i.val) (h1 : (y 1).val = off + k.val) :
    e = ocBlk U G Q y := by
  subst ho
  have hy : y = ix2 i ⟨128 * h.val + k.val, by omega⟩ := (eq_ix2 y).trans (congrArg₂ ix2 (Fin.ext h0) (Fin.ext h1))
  have hh : hd ⟨128 * h.val + k.val, by omega⟩ = h := Fin.ext (by show (128 * h.val + k.val) / 128 = h.val; omega)
  rw [hy, he, hu, hg]
  show _ = ocRow (rows U i) (rows G 0) (rows Q i) ⟨128 * h.val + k.val, by omega⟩
  unfold ocRow nh
  rw [hh]
  rfl

/-- The four stores, last first. -/
abbrev ocPieces (U : FVec Ideal S384x512 .f32) (G : FVec Ideal S1x512 .f32) (Q : FVec Ideal S384x512 .f32) : List (View.Piece (Elt Ideal) S384x512 .bf16) :=
  [⟨Rect.unit ![0, 384] ![384, 128] inb_S384x512_S384x128_0_384,
      k0_pay12 (F := Ideal) Q (View.ld (Val := Elt Ideal) (e' := .f32) U (Rect.unit (s := S384x512) ![0, 384] ![384, 128] inb_S384x512_S384x128_0_384)) (View.ld (Val := Elt Ideal) (e' := .f32) G (Rect.unit (s := S1x512) ![0, 384] ![1, 128] inb_S1x512_S1x128_0_384))⟩,
    ⟨Rect.unit ![0, 256] ![384, 128] inb_S384x512_S384x128_0_256,
      k0_pay11 (F := Ideal) (k0_pay8 (F := Ideal) (View.ld (Val := Elt Ideal) (e' := .f32) U (Rect.unit (s := S384x512) ![0, 256] ![384, 128] inb_S384x512_S384x128_0_256)) (View.ld (Val := Elt Ideal) (e' := .f32) G (Rect.unit (s := S1x512) ![0, 256] ![1, 128] inb_S1x512_S1x128_0_256)))
        (k0_pay9 (F := Ideal) Q) (k0_pay10 (F := Ideal) Q)⟩,
    ⟨Rect.unit ![0, 128] ![384, 128] inb_S384x512_S384x128_0_128,
      k0_pay7 (F := Ideal) Q (View.ld (Val := Elt Ideal) (e' := .f32) U (Rect.unit (s := S384x512) ![0, 128] ![384, 128] inb_S384x512_S384x128_0_128))
        (k0_pay6 (F := Ideal) (View.ld (Val := Elt Ideal) (e' := .f32) U (Rect.unit (s := S384x512) ![0, 128] ![384, 128] inb_S384x512_S384x128_0_128))) (FloatOps.ofBits FTy.f32 897988541#32)
        (View.ld (Val := Elt Ideal) (e' := .f32) G (Rect.unit (s := S1x512) ![0, 128] ![1, 128] inb_S1x512_S1x128_0_128))⟩,
    ⟨Rect.unit ![0, 0] ![384, 128] inb_S384x512_S384x128_0_0,
      k0_pay5 (F := Ideal) Q (View.ld (Val := Elt Ideal) (e' := .f32) U (Rect.unit (s := S384x512) ![0, 0] ![384, 128] inb_S384x512_S384x128_0_0)) (View.ld (Val := Elt Ideal) (e' := .f32) G (Rect.unit (s := S1x512) ![0, 0] ![1, 128] inb_S1x512_S1x128_0_0))⟩]

theorem oc_canon (U : FVec Ideal S384x512 .f32) (G : FVec Ideal S1x512 .f32) (Q : FVec Ideal S384x512 .f32) (y : S384x512.Idx) :
    View.canon (ocPieces U G Q) y = ocBlk U G Q y := by
  unfold ocPieces
  canon_tiles x h
  · rw [eq_ix2 x]
    exact oc_piece 3 384 rfl (by decide) U G Q _ _ (x 0) (x 1) (ld_head 384 3 384 rfl _ U _) (ld_head 1 3 384 rfl _ G 0) _ (pay_oc3 Q _ _ (x 0) (x 1)) y h0 h1
  · rw [eq_ix2 x]
    exact oc_piece 2 256 rfl (by decide) U G Q _ _ (x 0) (x 1) (ld_head 384 2 256 rfl _ U _) (ld_head 1 2 256 rfl _ G 0) _ (pay_oc2 Q _ _ (x 0) (x 1)) y h0 h1
  · rw [eq_ix2 x]
    exact oc_piece 1 128 rfl (by decide) U G Q _ _ (x 0) (x 1) (ld_head 384 1 128 rfl _ U _) (ld_head 1 1 128 rfl _ G 0) _ (pay_oc1 Q _ _ (x 0) (x 1)) y h0 h1
  · rw [eq_ix2 x]
    exact oc_piece 0 0 rfl (by decide) U G Q _ _ (x 0) (x 1) (ld_head 384 0 0 rfl _ U _) (ld_head 1 0 0 rfl _ G 0) _ (pay_oc0 Q _ _ (x 0) (x 1)) y h0 (by omega)

theorem oc_read {κ : Kind} {sp : Space} (v : View Cert.Kernel4Ideal.sig κ sp S384x512 .bf16) (U : FVec Ideal S384x512 .f32) (G : FVec Ideal S1x512 .f32) (Q : FVec Ideal S384x512 .f32)
    (inb : ∀ a, (![0, 0] : Fin 2 → ℕ) a + (![384, 512] : Fin 2 → ℕ) a ≤ S384x512.size a) :
    v.readCov (ocPieces U G Q) (Rect.unit (s := S384x512) ![0, 0] ![384, 512] inb).toLoadRect = ocBlk U G Q := by
  rw [View.readCov_eq_canon']
  funext y
  refine (oc_canon U G Q _).trans (congrArg (ocBlk U G Q) ?_)
  funext a
  fin_cases a <;> exact Fin.ext (by show 0 + 1 * _ = _; omega)

variable (m : (ℓ : Loc nD τ Cert.Kernel4Ideal.sig) → Buf (Elt Ideal) ℓ)

/-- The results as whole arrays. -/
def caAll (z : FVec Ideal S4224x512 .f32) (g b : FVec Ideal S1x512 .f32) : FVec Ideal S4224x512 .bf16 :=
  fun y => caRow (rows z (y 0)) (rows g 0) (rows b 0) (y 1)
def hgRow (h4 : FVec Ideal S4224x2048 .f32) (r : Fin 4224) : Row 512 := fun k => h4 (ix2 r ⟨1536 + k.val, by omega⟩)
def ocAll (u : FVec Ideal S4224x512 .f32) (g : FVec Ideal S1x512 .f32) (h4 : FVec Ideal S4224x2048 .f32) : FVec Ideal S4224x512 .bf16 :=
  fun y => ocRow (rows u (y 0)) (rows g 0) (hgRow h4 (y 0)) (y 1)
def mulAll {n : ℕ} {e e' : FTy} (x : FVec Ideal ⟨2, ![4224, n]⟩ e) (w : FVec Ideal ⟨2, ![n, 1024]⟩ e') : FVec Ideal S4224x1024 .f32 :=
  fun y => mulRow (rows x (y 0)) (rows w) (y 1)
def mixAll (gt : FVec Ideal S4224x3072 .f32) (a b c : FVec Ideal S4224x1024 .f32) : FVec Ideal S4224x1024 .bf16 :=
  fun y => mixRow (rows gt (y 0)) (rows a (y 0)) (rows b (y 0)) (rows c (y 0)) (y 1)
def x1All (x : FVec Ideal S4224x1024 .f32) (mx : FVec Ideal S4224x1024 .bf16) (w : FVec Ideal S1024x1024 .bf16) : FVec Ideal S4224x1024 .f32 :=
  fun y => x y + if kept (y 0).val then mulAll mx w y else 0

/-! ## The blocks of the arguments -/

section rowsOf
variable (c : Dev nD) (t : Fin cfg0.N) (i : Fin 384) (r : Fin 4224) (hr : r.val = 384 * t.val + i.val)
include hr

theorem z_row : rows (show FVec Ideal S384x512 .f32 from iblk m c 1 t) i = rows (show FVec Ideal S4224x512 .f32 from V m c main_arg1) r := by
  have ht := (idx0 t).2.2.2.2.2.2.2.2.2.2.2.2.2.2.2.2.2.2.2.2.2
  funext k
  unfold rows
  blk_point [iblk, idx0 t]

theorem oa_row : rows (show FVec Ideal S384x1024 .f32 from iblk m c 2 t) i = rows (show FVec Ideal S4224x1024 .f32 from V m c main_arg2) r := by
  have ht := (idx0 t).2.2.2.2.2.2.2.2.2.2.2.2.2.2.2.2.2.2.2.2.2
  funext k
  unfold rows
  blk_point [iblk, idx0 t]

theorem hg_row : rows (show FVec Ideal S384x512 .f32 from iblk m c 4 t) i = hgRow (V m c main_arg4) r := by
  have ht := (idx0 t).2.2.2.2.2.2.2.2.2.2.2.2.2.2.2.2.2.2.2.2.2
  funext k
  unfold rows hgRow
  blk_point [iblk, idx0 t]

theorem oh_row : rows (show FVec Ideal S384x512 .f32 from iblk m c 3 t) i = rows (show FVec Ideal S4224x512 .f32 from V m c main_arg3) r := by
  have ht := (idx0 t).2.2.2.2.2.2.2.2.2.2.2.2.2.2.2.2.2.2.2.2.2
  funext k
  unfold rows
  blk_point [iblk, idx0 t]

theorem x_row : rows (show FVec Ideal S384x1024 .f32 from iblk m c 0 t) i = rows (show FVec Ideal S4224x1024 .f32 from V m c main_arg0) r := by
  have ht := (idx0 t).2.2.2.2.2.2.2.2.2.2.2.2.2.2.2.2.2.2.2.2.2
  funext k
  unfold rows
  blk_point [iblk, idx0 t]

theorem gates_row : rows (show FVec Ideal S384x3072 .f32 from iblk m c 5 t) i = rows (show FVec Ideal S4224x3072 .f32 from V m c main_arg5) r := by
  have ht := (idx0 t).2.2.2.2.2.2.2.2.2.2.2.2.2.2.2.2.2.2.2.2.2
  funext k
  unfold rows
  blk_point [iblk, idx0 t]

end rowsOf

theorem lng_row (c : Dev nD) (t : Fin cfg0.N) :
    rows (show FVec Ideal S1x512 .f32 from iblk m c 6 t) 0 = rows (show FVec Ideal S1x512 .f32 from V m c main_arg6) 0 := by
  funext k
  unfold rows
  blk_point [iblk, idx0 t]

theorem lnb_row (c : Dev nD) (t : Fin cfg0.N) :
    rows (show FVec Ideal S1x512 .f32 from iblk m c 7 t) 0 = rows (show FVec Ideal S1x512 .f32 from V m c main_arg7) 0 := by
  funext k
  unfold rows
  blk_point [iblk, idx0 t]

theorem wco_row (c : Dev nD) (t : Fin cfg0.N) :
    rows (show FVec Ideal S512x1024 .bf16 from iblk m c 8 t) = rows (show FVec Ideal S512x1024 .bf16 from V m c main_v0) := by
  funext k j
  unfold rows
  blk_point [iblk, idx0 t]

theorem wao_row (c : Dev nD) (t : Fin cfg0.N) :
    rows (show FVec Ideal S1024x1024 .bf16 from iblk m c 9 t) = rows (show FVec Ideal S1024x1024 .bf16 from V m c main_v1) := by
  funext k j
  unfold rows
  blk_point [iblk, idx0 t]

theorem who_row (c : Dev nD) (t : Fin cfg0.N) :
    rows (show FVec Ideal S512x1024 .bf16 from iblk m c 11 t) = rows (show FVec Ideal S512x1024 .bf16 from V m c main_v2) := by
  funext k j
  unfold rows
  blk_point [iblk, idx0 t]

theorem wout_row (c : Dev nD) (t : Fin cfg0.N) :
    rows (show FVec Ideal S1024x1024 .bf16 from iblk m c 12 t) = rows (show FVec Ideal S1024x1024 .bf16 from V m c main_v3) := by
  funext k j
  unfold rows
  blk_point [iblk, idx0 t]

theorem ng_row (c : Dev nD) (t : Fin cfg0.N) :
    rows (show FVec Ideal S1x512 .f32 from iblk m c 10 t) 0 = rows (show FVec Ideal S1x512 .f32 from V m c main_arg10) 0 := by
  funext k
  unfold rows
  blk_point [iblk, idx0 t]

/-- The products as whole arrays, row by row. -/
theorem ca_rows (c : Dev nD) (t : Fin cfg0.N) (i : Fin 384) (r : Fin 4224) (hr : r.val = 384 * t.val + i.val) :
    caRow (rows (show FVec Ideal S384x512 .f32 from iblk m c 1 t) i) (rows (show FVec Ideal S1x512 .f32 from iblk m c 6 t) 0) (rows (show FVec Ideal S1x512 .f32 from iblk m c 7 t) 0)
      = rows (caAll (V m c main_arg1) (V m c main_arg6) (V m c main_arg7)) r := by
  rw [z_row m c t i r hr, lng_row m c t, lnb_row m c t]
  rfl

theorem oc_rows (c : Dev nD) (t : Fin cfg0.N) (i : Fin 384) (r : Fin 4224) (hr : r.val = 384 * t.val + i.val) :
    rows (ocBlk (iblk m c 3 t) (iblk m c 10 t) (iblk m c 4 t)) i = rows (ocAll (V m c main_arg3) (V m c main_arg10) (V m c main_arg4)) r := by
  refine Eq.trans (b := ocRow (rows (show FVec Ideal S384x512 .f32 from iblk m c 3 t) i) (rows (show FVec Ideal S1x512 .f32 from iblk m c 10 t) 0)
    (rows (show FVec Ideal S384x512 .f32 from iblk m c 4 t) i)) rfl ?_
  rw [oh_row m c t i r hr, ng_row m c t, hg_row m c t i r hr]
  rfl

theorem ca_point (c : Dev nD) (t : Fin cfg0.N) (y : S384x512.Idx) (z : S4224x512.Idx) (h0 : (z 0).val = 384 * t.val + (y 0).val) (h1 : (z 1).val = (y 1).val) :
    k0_pay2 (F := Ideal) (iblk m c 1 t) (iblk m c 6 t) (iblk m c 7 t) y = caAll (V m c main_arg1) (V m c main_arg6) (V m c main_arg7) z := by
  rw [eq_ix2 y, eq_ix2 z]
  refine (pay_ca _ _ _ (y 0) (y 1)).trans ?_
  rw [ca_rows m c t (y 0) (z 0) h0]
  exact congrArg (rows (caAll (V m c main_arg1) (V m c main_arg6) (V m c main_arg7)) (z 0)) (Fin.ext h1.symm)

theorem final0_15 (c : Dev nD) : (dats m 0 c).arrAt 15 cfg0.N = caAll (V m c main_arg1) (V m c main_arg6) (V m c main_arg7) := by
  refine (dats m 0 c).arrAt_eq_of_covers 15 _ (by decide +kernel) fun t _ y => ?_
  blk_simp
  rw [after0_15]
  unfold outsAt0
  frame_out
  refine ca_point m c t y _ ?_ ?_ <;> blk_simp [idx0 t] <;> omega

theorem oc_point (c : Dev nD) (t : Fin cfg0.N) (y : S384x512.Idx) (z : S4224x512.Idx) (h0 : (z 0).val = 384 * t.val + (y 0).val) (h1 : (z 1).val = (y 1).val) :
    View.canon (ocPieces (iblk m c 3 t) (iblk m c 10 t) (iblk m c 4 t)) y = ocAll (V m c main_arg3) (V m c main_arg10) (V m c main_arg4) z := by
  refine (oc_canon _ _ _ y).trans ?_
  rw [eq_ix2 y, eq_ix2 z]
  refine (congrFun (oc_rows m c t (y 0) (z 0) h0) (y 1)).trans ?_
  exact congrArg (rows (ocAll (V m c main_arg3) (V m c main_arg10) (V m c main_arg4)) (z 0)) (Fin.ext h1.symm)

theorem final0_16 (c : Dev nD) : (dats m 0 c).arrAt 16 cfg0.N = ocAll (V m c main_arg3) (V m c main_arg10) (V m c main_arg4) := by
  refine (dats m 0 c).arrAt_eq_of_covers 16 _ (by decide +kernel) fun t _ y => ?_
  blk_simp
  rw [after0_16]
  unfold outsAt0
  frame_out
  refine oc_point m c t y _ ?_ ?_ <;> blk_simp [idx0 t] <;> omega

theorem ya_at (c : Dev nD) (t : Fin cfg0.N) (y : S384x1024.Idx) (z : S4224x1024.Idx) (h0 : (z 0).val = 384 * t.val + (y 0).val) (h1 : (z 1).val = (y 1).val) :
    k0_pay3 (F := Ideal) (iblk m c 1 t) (iblk m c 6 t) (iblk m c 7 t) (iblk m c 8 t) y
      = mulAll (caAll (V m c main_arg1) (V m c main_arg6) (V m c main_arg7)) (show FVec Ideal S512x1024 .bf16 from V m c main_v0) z := by
  rw [eq_ix2 y, eq_ix2 z]
  refine (pay_ya _ _ _ _ (y 0) (y 1)).trans ?_
  rw [ca_rows m c t (y 0) (z 0) h0, wco_row m c t, Fin.ext h1.symm]
  rfl

theorem final0_17 (c : Dev nD) : (dats m 0 c).arrAt 17 cfg0.N
    = mulAll (caAll (V m c main_arg1) (V m c main_arg6) (V m c main_arg7)) (show FVec Ideal S512x1024 .bf16 from V m c main_v0) := by
  refine (dats m 0 c).arrAt_eq_of_covers 17 _ (by decide +kernel) fun t _ y => ?_
  blk_simp
  rw [after0_17]
  unfold outsAt0
  frame_out
  refine ya_at m c t y _ ?_ ?_ <;> blk_simp [idx0 t] <;> omega

theorem yb_at (c : Dev nD) (t : Fin cfg0.N) (y : S384x1024.Idx) (z : S4224x1024.Idx) (h0 : (z 0).val = 384 * t.val + (y 0).val) (h1 : (z 1).val = (y 1).val) :
    k0_pay4 (F := Ideal) (iblk m c 2 t) (iblk m c 9 t) y
      = mulAll (show FVec Ideal S4224x1024 .f32 from V m c main_arg2) (show FVec Ideal S1024x1024 .bf16 from V m c main_v1) z := by
  rw [eq_ix2 y, eq_ix2 z]
  refine (pay_yb _ _ (y 0) (y 1)).trans ?_
  rw [oa_row m c t (y 0) (z 0) h0, wao_row m c t, Fin.ext h1.symm]
  rfl

theorem final0_18 (c : Dev nD) : (dats m 0 c).arrAt 18 cfg0.N
    = mulAll (show FVec Ideal S4224x1024 .f32 from V m c main_arg2) (show FVec Ideal S1024x1024 .bf16 from V m c main_v1) := by
  refine (dats m 0 c).arrAt_eq_of_covers 18 _ (by decide +kernel) fun t _ y => ?_
  blk_simp
  rw [after0_18]
  unfold outsAt0
  frame_out
  refine yb_at m c t y _ ?_ ?_ <;> blk_simp [idx0 t] <;> omega

theorem yc_at (c : Dev nD) (t : Fin cfg0.N) (y : S384x1024.Idx) (z : S4224x1024.Idx) (h0 : (z 0).val = 384 * t.val + (y 0).val) (h1 : (z 1).val = (y 1).val) :
    k0_pay13 (F := Ideal) (ocBlk (iblk m c 3 t) (iblk m c 10 t) (iblk m c 4 t)) (iblk m c 11 t) y
      = mulAll (ocAll (V m c main_arg3) (V m c main_arg10) (V m c main_arg4)) (show FVec Ideal S512x1024 .bf16 from V m c main_v2) z := by
  rw [eq_ix2 y, eq_ix2 z]
  refine (pay_yc _ _ (y 0) (y 1)).trans ?_
  rw [oc_rows m c t (y 0) (z 0) h0, who_row m c t, Fin.ext h1.symm]
  rfl

theorem yc_point {κ : Kind} {sp : Space} (v : View Cert.Kernel4Ideal.sig κ sp S384x512 .bf16) (c : Dev nD) (t : Fin cfg0.N) (y : S384x1024.Idx) (z : S4224x1024.Idx)
    (h0 : (z 0).val = 384 * t.val + (y 0).val) (h1 : (z 1).val = (y 1).val) :
    k0_pay13 (F := Ideal) (v.readCov (ocPieces (iblk m c 3 t) (iblk m c 10 t) (iblk m c 4 t)) (Rect.unit (s := S384x512) ![0, 0] ![384, 512] inb_S384x512_S384x512_0_0).toLoadRect) (iblk m c 11 t) y
      = mulAll (ocAll (V m c main_arg3) (V m c main_arg10) (V m c main_arg4)) (show FVec Ideal S512x1024 .bf16 from V m c main_v2) z := by
  rw [oc_read]
  exact yc_at m c t y z h0 h1

theorem final0_19 (c : Dev nD) : (dats m 0 c).arrAt 19 cfg0.N
    = mulAll (ocAll (V m c main_arg3) (V m c main_arg10) (V m c main_arg4)) (show FVec Ideal S512x1024 .bf16 from V m c main_v2) := by
  refine (dats m 0 c).arrAt_eq_of_covers 19 _ (by decide +kernel) fun t _ y => ?_
  blk_simp
  rw [after0_19]
  unfold outsAt0
  frame_out
  refine yc_point m (ms0_16 t).view c t y _ ?_ ?_ <;> blk_simp [idx0 t] <;> omega

theorem ld_gate (a : Fin 3) (off : ℕ) (ho : off = 1024 * a.val) (inb : ∀ a, (![0, off] : Fin 2 → ℕ) a + (![384, 1024] : Fin 2 → ℕ) a ≤ S384x3072.size a)
    (Q : FVec Ideal S384x3072 .f32) (i : Fin 384) (j : Fin 1024) :
    (View.ld (Val := Elt Ideal) (e' := .f32) Q (Rect.unit (s := S384x3072) ![0, off] ![384, 1024] inb) : FVec Ideal S384x1024 .f32) (ix2 i j) = gate (rows Q i) a j := by
  subst ho
  refine View.ld_unit_apply_of _ _ _ inb (ix2 i j) (ix2 i ⟨1024 * a.val + j.val, by omega⟩) fun b => ?_
  fin_cases b
  · show i.val = 0 + i.val
    omega
  · rfl

/-- The mix of a block, as the body computes it. -/
abbrev mixBlk (A B C : FVec Ideal S384x1024 .f32) (Q : FVec Ideal S384x3072 .f32) : FVec Ideal S384x1024 .bf16 :=
  k0_pay14 (F := Ideal) A B C (View.ld (Val := Elt Ideal) (e' := .f32) Q (Rect.unit (s := S384x3072) ![0, 0] ![384, 1024] inb_S384x3072_S384x1024_0_0))
    (View.ld (Val := Elt Ideal) (e' := .f32) Q (Rect.unit (s := S384x3072) ![0, 1024] ![384, 1024] inb_S384x3072_S384x1024_0_1024))
    (View.ld (Val := Elt Ideal) (e' := .f32) Q (Rect.unit (s := S384x3072) ![0, 2048] ![384, 1024] inb_S384x3072_S384x1024_0_2048))

theorem mixBlk_at (A B C : FVec Ideal S384x1024 .f32) (Q : FVec Ideal S384x3072 .f32) (i : Fin 384) (j : Fin 1024) :
    mixBlk A B C Q (ix2 i j) = mixRow (rows Q i) (rows A i) (rows B i) (rows C i) j := by
  refine (pay_mix _ _ _ _ _ _ i j).trans ?_
  rw [ld_gate 0 0 rfl, ld_gate 1 1024 rfl, ld_gate 2 2048 rfl]
  rfl

section mixOf
variable (c : Dev nD) (t : Fin cfg0.N)

/-- The three products of a block, as the body computes them. -/
abbrev yaB : FVec Ideal S384x1024 .f32 := k0_pay3 (F := Ideal) (iblk m c 1 t) (iblk m c 6 t) (iblk m c 7 t) (iblk m c 8 t)
abbrev ybB : FVec Ideal S384x1024 .f32 := k0_pay4 (F := Ideal) (iblk m c 2 t) (iblk m c 9 t)
abbrev ycB : FVec Ideal S384x1024 .f32 := k0_pay13 (F := Ideal) (ocBlk (iblk m c 3 t) (iblk m c 10 t) (iblk m c 4 t)) (iblk m c 11 t)

/-- The three products as whole arrays, and their mix. -/
abbrev yaW : FVec Ideal S4224x1024 .f32 := mulAll (caAll (V m c main_arg1) (V m c main_arg6) (V m c main_arg7)) (show FVec Ideal S512x1024 .bf16 from V m c main_v0)
abbrev ybW : FVec Ideal S4224x1024 .f32 := mulAll (show FVec Ideal S4224x1024 .f32 from V m c main_arg2) (show FVec Ideal S1024x1024 .bf16 from V m c main_v1)
abbrev ycW : FVec Ideal S4224x1024 .f32 := mulAll (ocAll (V m c main_arg3) (V m c main_arg10) (V m c main_arg4)) (show FVec Ideal S512x1024 .bf16 from V m c main_v2)
abbrev mixW : FVec Ideal S4224x1024 .bf16 := mixAll (V m c main_arg5) (yaW m c) (ybW m c) (ycW m c)

theorem mix_rows (i : Fin 384) (r : Fin 4224) (hr : r.val = 384 * t.val + i.val) :
    rows (mixBlk (yaB m c t) (ybB m c t) (ycB m c t) (iblk m c 5 t)) i = rows (mixW m c) r := by
  funext j
  refine (mixBlk_at _ _ _ _ i j).trans ?_
  rw [gates_row m c t i r hr,
    show rows (yaB m c t) i = rows (yaW m c) r from funext fun k => ya_at m c t (ix2 i k) (ix2 r k) hr rfl,
    show rows (ybB m c t) i = rows (ybW m c) r from funext fun k => yb_at m c t (ix2 i k) (ix2 r k) hr rfl,
    show rows (ycB m c t) i = rows (ycW m c) r from funext fun k => yc_at m c t (ix2 i k) (ix2 r k) hr rfl]
  rfl

theorem mix_point (y : S384x1024.Idx) (z : S4224x1024.Idx) (h0 : (z 0).val = 384 * t.val + (y 0).val) (h1 : (z 1).val = (y 1).val) :
    mixBlk (yaB m c t) (ybB m c t) (ycB m c t) (iblk m c 5 t) y = mixW m c z := by
  rw [eq_ix2 y, eq_ix2 z, Fin.ext h1.symm]
  exact congrFun (mix_rows m c t (y 0) (z 0) h0) (z 1)

theorem x1_point (y : S384x1024.Idx) (z : S4224x1024.Idx) (h0 : (z 0).val = 384 * t.val + (y 0).val) (h1 : (z 1).val = (y 1).val) :
    k0_pay1 (F := Ideal) (BitVec.ofNat 32 (grid0.coords t 0).val) (mixBlk (yaB m c t) (ybB m c t) (ycB m c t) (iblk m c 5 t)) (iblk m c 0 t) (iblk m c 12 t) y
      = x1All (V m c main_arg0) (mixW m c) (V m c main_v3) z := by
  have ht : (grid0.coords t 0).val = t.val := (idx0 t).2.2.2.2.2.2.2.2.2.2.2.2.2.2.2.2.2.2.2.2.1
  rw [eq_ix2 y, eq_ix2 z, Fin.ext h1.symm]
  refine (pay_x1 (show Fin 11 from grid0.coords t 0) _ _ _ (y 0) (z 1)).trans ?_
  have hk : 384 * (show Fin 11 from grid0.coords t 0).val + (y 0).val = (z 0).val := by rw [h0, ← ht]
  rw [mix_rows m c t (y 0) (z 0) h0, wout_row m c t, hk]
  exact congrArg (· + _) (congrFun (x_row m c t (y 0) (z 0) h0) (z 1))

theorem mix_read {κ : Kind} {sp : Space} (v : View Cert.Kernel4Ideal.sig κ sp S384x512 .bf16) (y : S384x1024.Idx) (z : S4224x1024.Idx)
    (h0 : (z 0).val = 384 * t.val + (y 0).val) (h1 : (z 1).val = (y 1).val) :
    mixBlk (yaB m c t) (ybB m c t) (k0_pay13 (F := Ideal) (v.readCov (ocPieces (iblk m c 3 t) (iblk m c 10 t) (iblk m c 4 t)) (Rect.unit (s := S384x512) ![0, 0] ![384, 512] inb_S384x512_S384x512_0_0).toLoadRect) (iblk m c 11 t)) (iblk m c 5 t) y = mixW m c z := by
  rw [oc_read]
  exact mix_point m c t y z h0 h1

theorem x1_read {κ : Kind} {sp : Space} (v : View Cert.Kernel4Ideal.sig κ sp S384x512 .bf16) (y : S384x1024.Idx) (z : S4224x1024.Idx)
    (h0 : (z 0).val = 384 * t.val + (y 0).val) (h1 : (z 1).val = (y 1).val) :
    k0_pay1 (F := Ideal) (BitVec.ofNat 32 (grid0.coords t 0).val) (mixBlk (yaB m c t) (ybB m c t) (k0_pay13 (F := Ideal) (v.readCov (ocPieces (iblk m c 3 t) (iblk m c 10 t) (iblk m c 4 t)) (Rect.unit (s := S384x512) ![0, 0] ![384, 512] inb_S384x512_S384x512_0_0).toLoadRect) (iblk m c 11 t)) (iblk m c 5 t))
        (iblk m c 0 t) (iblk m c 12 t) y
      = x1All (V m c main_arg0) (mixW m c) (V m c main_v3) z := by
  rw [oc_read]
  exact x1_point m c t y z h0 h1

end mixOf

theorem final0_14 (c : Dev nD) : (dats m 0 c).arrAt 14 cfg0.N = mixW m c := by
  refine (dats m 0 c).arrAt_eq_of_covers 14 _ (by decide +kernel) fun t _ y => ?_
  blk_simp
  rw [after0_14]
  unfold outsAt0
  frame_out
  refine mix_read m c t (ms0_16 t).view y _ ?_ ?_ <;> blk_simp [idx0 t] <;> omega

theorem final0_13 (c : Dev nD) : (dats m 0 c).arrAt 13 cfg0.N = x1All (V m c main_arg0) (mixW m c) (V m c main_v3) := by
  refine (dats m 0 c).arrAt_eq_of_covers 13 _ (by decide +kernel) fun t _ y => ?_
  blk_simp
  rw [after0_13]
  unfold outsAt0
  frame_out
  refine x1_read m c t (ms0_16 t).view y _ ?_ ?_ <;> blk_simp [idx0 t] <;> omega

end Cert.Mix.Kern

end
-- ==== Proof.Mix.Match.lean ====
/-
  The mixer's forward kernel and reference agree: each of the seven results, in the kernel's closed form, is the reference's
  array of the same arguments.
-/
module

public import proofs.«01_k».proof.Proof.Mix.Ref
public import proofs.«01_k».proof.Proof.Mix.Fwd

@[expose] public section

set_option maxRecDepth 16384

noncomputable section

namespace Cert.Mix.Match

open Idealize.ShloMosaic Idealize.ShloMosaic.TcCoe Idealize.SL.Sem
open Cert.Kernel4Ideal Cert.Kernel4Ideal.Gen Cert.Ffn Cert.Mix Cert.Mix.Kern
open scoped BigOperators

variable (x : FVec Ideal S4224x1024 .f32) (z : FVec Ideal S4224x512 .f32) (oa : FVec Ideal S4224x1024 .f32) (oh : FVec Ideal S4224x512 .f32)
  (h4 : FVec Ideal S4224x2048 .f32) (gt : FVec Ideal S4224x3072 .f32) (lng lnb : FVec Ideal S1x512 .f32) (wco : FVec Ideal S512x1024 .f32)
  (wao : FVec Ideal S1024x1024 .f32) (ng : FVec Ideal S1x512 .f32) (who : FVec Ideal S512x1024 .f32) (wout : FVec Ideal S1024x1024 .f32)

abbrev w5 (w : FVec Ideal S512x1024 .f32) : FVec Ideal S512x1024 .bf16 := truncf .bf16 w bitsLt_bf16_f32
abbrev w10 (w : FVec Ideal S1024x1024 .f32) : FVec Ideal S1024x1024 .bf16 := truncf .bf16 w bitsLt_bf16_f32

/-- The reference's arrays. -/
abbrev caR : FVec Ideal S4224x512 .f32 := Ref.silu5 (Ref.ln z lng lnb)
abbrev ocR : FVec Ideal S4224x512 .f32 := Ref.oc oh ng (Ref.hgate h4)
abbrev mixR : FVec Ideal S4224x1024 .f32 := Ref.mix gt (Ref.mul5 (caR z lng lnb) wco) (Ref.mul10 oa wao) (Ref.mul5 (ocR oh h4 ng) who)

theorem ca_eq : truncf .bf16 (caR z lng lnb) Cert.Reference4Ideal.Gen.bitsLt_bf16_f32 = caAll z lng lnb := funext fun y => by
  rw [eq_ix2 y]
  exact Ref.ca_at z lng lnb (y 0) (y 1)

theorem oc_eq : truncf .bf16 (ocR oh h4 ng) Cert.Reference4Ideal.Gen.bitsLt_bf16_f32 = ocAll oh ng h4 := funext fun y => by
  rw [eq_ix2 y]
  refine (Ref.oc_at oh ng (Ref.hgate h4) (y 0) (y 1)).trans ?_
  exact congrArg (fun q => ocRow (rows oh (y 0)) (rows ng 0) q (y 1)) (funext fun k => Ref.hgate_at h4 (y 0) k)

theorem ya_eq : Ref.mul5 (caR z lng lnb) wco = mulAll (caAll z lng lnb) (w5 wco) := funext fun y => by
  rw [eq_ix2 y, ← ca_eq]
  exact Ref.mul5_at _ wco (y 0) (y 1)

theorem yb_eq : Ref.mul10 oa wao = mulAll oa (w10 wao) := funext fun y => by
  rw [eq_ix2 y]
  exact Ref.mul10_at oa wao (y 0) (y 1)

theorem yc_eq : Ref.mul5 (ocR oh h4 ng) who = mulAll (ocAll oh ng h4) (w5 who) := funext fun y => by
  rw [eq_ix2 y, ← oc_eq]
  exact Ref.mul5_at _ who (y 0) (y 1)

/-- The mix of the kernel's products. -/
abbrev mixK : FVec Ideal S4224x1024 .bf16 := mixAll gt (mulAll (caAll z lng lnb) (w5 wco)) (mulAll oa (w10 wao)) (mulAll (ocAll oh ng h4) (w5 who))

theorem mix_eq : truncf .bf16 (mixR z oa oh h4 gt lng lnb wco wao ng who) Cert.Reference4Ideal.Gen.bitsLt_bf16_f32
    = mixK z oa oh h4 gt lng lnb wco wao ng who := funext fun y => by
  unfold mixR
  rw [ya_eq, yb_eq, yc_eq, eq_ix2 y]
  exact Ref.mix_at gt _ _ _ (y 0) (y 1)

theorem x1_eq : Ref.x1 x (Ref.mul10 (mixR z oa oh h4 gt lng lnb wco wao ng who) wout)
    = x1All x (mixK z oa oh h4 gt lng lnb wco wao ng who) (w10 wout) := funext fun y => by
  rw [← mix_eq, eq_ix2 y]
  refine (Ref.x1_at x _ (y 0) (y 1)).trans ?_
  exact congrArg (fun q => x (ix2 (y 0) (y 1)) + if 48 ≤ (y 0).val ∧ (y 0).val < 4160 then q else 0) (Ref.mul10_at _ wout (y 0) (y 1))

/-! ## The reference's results, of equal arguments -/

variable {x z oa oh h4 gt lng lnb wco wao ng who wout}
variable {x' : FVec Ideal S4224x1024 .f32} {z' : FVec Ideal S4224x512 .f32} {oa' : FVec Ideal S4224x1024 .f32} {oh' : FVec Ideal S4224x512 .f32}
  {h4' : FVec Ideal S4224x2048 .f32} {gt' : FVec Ideal S4224x3072 .f32} {lng' lnb' : FVec Ideal S1x512 .f32} {wco' : FVec Ideal S512x1024 .f32}
  {wao' : FVec Ideal S1024x1024 .f32} {ng' : FVec Ideal S1x512 .f32} {who' : FVec Ideal S512x1024 .f32} {wout' : FVec Ideal S1024x1024 .f32}

theorem ca_fin (h1 : z' = z) (h6 : lng' = lng) (h7 : lnb' = lnb) :
    truncf .bf16 (caR z' lng' lnb') Cert.Reference4Ideal.Gen.bitsLt_bf16_f32 = caAll z lng lnb := by
  subst h1 h6 h7
  exact ca_eq ..
theorem oc_fin (h3 : oh' = oh) (h4e : h4' = h4) (h10 : ng' = ng) :
    truncf .bf16 (ocR oh' h4' ng') Cert.Reference4Ideal.Gen.bitsLt_bf16_f32 = ocAll oh ng h4 := by
  subst h3 h4e h10
  exact oc_eq ..
theorem ya_fin (h1 : z' = z) (h6 : lng' = lng) (h7 : lnb' = lnb) (h8 : wco' = wco) :
    Ref.mul5 (caR z' lng' lnb') wco' = mulAll (caAll z lng lnb) (w5 wco) := by
  subst h1 h6 h7 h8
  exact ya_eq ..
theorem yb_fin (h2 : oa' = oa) (h9 : wao' = wao) : Ref.mul10 oa' wao' = mulAll oa (w10 wao) := by
  subst h2 h9
  exact yb_eq ..
theorem yc_fin (h3 : oh' = oh) (h4e : h4' = h4) (h10 : ng' = ng) (h11 : who' = who) :
    Ref.mul5 (ocR oh' h4' ng') who' = mulAll (ocAll oh ng h4) (w5 who) := by
  subst h3 h4e h10 h11
  exact yc_eq ..
theorem mix_fin (h1 : z' = z) (h2 : oa' = oa) (h3 : oh' = oh) (h4e : h4' = h4) (h5 : gt' = gt) (h6 : lng' = lng) (h7 : lnb' = lnb) (h8 : wco' = wco)
    (h9 : wao' = wao) (h10 : ng' = ng) (h11 : who' = who) :
    truncf .bf16 (mixR z' oa' oh' h4' gt' lng' lnb' wco' wao' ng' who') Cert.Reference4Ideal.Gen.bitsLt_bf16_f32
      = mixK z oa oh h4 gt lng lnb wco wao ng who := by
  subst h1 h2 h3 h4e h5 h6 h7 h8 h9 h10 h11
  exact mix_eq ..
theorem x1_fin (h0 : x' = x) (h1 : z' = z) (h2 : oa' = oa) (h3 : oh' = oh) (h4e : h4' = h4) (h5 : gt' = gt) (h6 : lng' = lng) (h7 : lnb' = lnb)
    (h8 : wco' = wco) (h9 : wao' = wao) (h10 : ng' = ng) (h11 : who' = who) (h12 : wout' = wout) :
    Ref.x1 x' (Ref.mul10 (mixR z' oa' oh' h4' gt' lng' lnb' wco' wao' ng' who') wout')
      = x1All x (mixK z oa oh h4 gt lng lnb wco wao ng who) (w10 wout) := by
  subst h0 h1 h2 h3 h4e h5 h6 h7 h8 h9 h10 h11 h12
  exact x1_eq ..

end Cert.Mix.Match

end
-- ==== Proof.Mix.Final.lean ====
/-
  The mixer's forward pass: the frames of kernel and reference, and the value claim.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Mix.Match
public import Idealize.ShloMosaic.Adequacy
public import Idealize.ShloMosaic.Init

@[expose] public section

set_option maxRecDepth 16384

noncomputable section

namespace Cert.Mix.Final

open Idealize.ShloMosaic Idealize.ShloMosaic.TcCoe Idealize.ShloMosaic.Tactic Idealize.SL.Sem
open Cert.Kernel4Ideal Cert.Kernel4Ideal.Gen Cert.Kernel4Ideal.Value Cert.Mix Cert.Mix.Kern Cert.Mix.Match

variable (m : (ℓ : Loc nD τ Cert.Kernel4Ideal.sig) → Buf (Elt Ideal) ℓ) (ρ : Dev nD → PrngReg)

abbrev aX (c : Dev nD) : FVec Ideal S4224x1024 .f32 := m ((c : Thread nD τ).loc main_arg0)
abbrev aZ (c : Dev nD) : FVec Ideal S4224x512 .f32 := m ((c : Thread nD τ).loc main_arg1)
abbrev aOa (c : Dev nD) : FVec Ideal S4224x1024 .f32 := m ((c : Thread nD τ).loc main_arg2)
abbrev aOh (c : Dev nD) : FVec Ideal S4224x512 .f32 := m ((c : Thread nD τ).loc main_arg3)
abbrev aH (c : Dev nD) : FVec Ideal S4224x2048 .f32 := m ((c : Thread nD τ).loc main_arg4)
abbrev aGt (c : Dev nD) : FVec Ideal S4224x3072 .f32 := m ((c : Thread nD τ).loc main_arg5)
abbrev aLg (c : Dev nD) : FVec Ideal S1x512 .f32 := m ((c : Thread nD τ).loc main_arg6)
abbrev aLb (c : Dev nD) : FVec Ideal S1x512 .f32 := m ((c : Thread nD τ).loc main_arg7)
abbrev aWco (c : Dev nD) : FVec Ideal S512x1024 .f32 := m ((c : Thread nD τ).loc main_arg8)
abbrev aWao (c : Dev nD) : FVec Ideal S1024x1024 .f32 := m ((c : Thread nD τ).loc main_arg9)
abbrev aNg (c : Dev nD) : FVec Ideal S1x512 .f32 := m ((c : Thread nD τ).loc main_arg10)
abbrev aWho (c : Dev nD) : FVec Ideal S512x1024 .f32 := m ((c : Thread nD τ).loc main_arg11)
abbrev aWout (c : Dev nD) : FVec Ideal S1024x1024 .f32 := m ((c : Thread nD τ).loc main_arg12)

/-! ## What the call finds -/

theorem V_w0 (c : Dev nD) : V m c main_v0 = w5 (aWco m c) := by
  show StableHlo.after hostOps0 (fun b => m (c, b)) (Proc.devRef .tc main_v0) = _
  after_results_simp <;> rfl
theorem V_w1 (c : Dev nD) : V m c main_v1 = w10 (aWao m c) := by
  show StableHlo.after hostOps0 (fun b => m (c, b)) (Proc.devRef .tc main_v1) = _
  after_results_simp <;> rfl
theorem V_w2 (c : Dev nD) : V m c main_v2 = w5 (aWho m c) := by
  show StableHlo.after hostOps0 (fun b => m (c, b)) (Proc.devRef .tc main_v2) = _
  after_results_simp <;> rfl
theorem V_w3 (c : Dev nD) : V m c main_v3 = w10 (aWout m c) := by
  show StableHlo.after hostOps0 (fun b => m (c, b)) (Proc.devRef .tc main_v3) = _
  after_results_simp <;> rfl

/-! ## The results -/

theorem res_ca (c : Dev nD) : (dats m 0 c).arrAt 15 cfg0.N = caAll (aZ m c) (aLg m c) (aLb m c) := by
  refine (final0_15 m c).trans ?_
  rw [V_main_arg1, V_main_arg6, V_main_arg7]
theorem res_oc (c : Dev nD) : (dats m 0 c).arrAt 16 cfg0.N = ocAll (aOh m c) (aNg m c) (aH m c) := by
  refine (final0_16 m c).trans ?_
  rw [V_main_arg3, V_main_arg10, V_main_arg4]

theorem yaW_eq (c : Dev nD) : yaW m c = mulAll (caAll (aZ m c) (aLg m c) (aLb m c)) (w5 (aWco m c)) := by
  unfold yaW
  rw [V_main_arg1, V_main_arg6, V_main_arg7, V_w0]
theorem ybW_eq (c : Dev nD) : ybW m c = mulAll (aOa m c) (w10 (aWao m c)) := by
  unfold ybW
  rw [V_main_arg2, V_w1]
theorem ycW_eq (c : Dev nD) : ycW m c = mulAll (ocAll (aOh m c) (aNg m c) (aH m c)) (w5 (aWho m c)) := by
  unfold ycW
  rw [V_main_arg3, V_main_arg10, V_main_arg4, V_w2]

theorem res_ya (c : Dev nD) : (dats m 0 c).arrAt 17 cfg0.N = mulAll (caAll (aZ m c) (aLg m c) (aLb m c)) (w5 (aWco m c)) :=
  (final0_17 m c).trans (yaW_eq m c)
theorem res_yb (c : Dev nD) : (dats m 0 c).arrAt 18 cfg0.N = mulAll (aOa m c) (w10 (aWao m c)) := (final0_18 m c).trans (ybW_eq m c)
theorem res_yc (c : Dev nD) : (dats m 0 c).arrAt 19 cfg0.N = mulAll (ocAll (aOh m c) (aNg m c) (aH m c)) (w5 (aWho m c)) :=
  (final0_19 m c).trans (ycW_eq m c)

theorem mixW_eq (c : Dev nD) : mixW m c = mixK (aZ m c) (aOa m c) (aOh m c) (aH m c) (aGt m c) (aLg m c) (aLb m c) (aWco m c) (aWao m c) (aNg m c) (aWho m c) := by
  unfold mixW
  rw [V_main_arg5, yaW_eq, ybW_eq, ycW_eq]

theorem res_mix (c : Dev nD) : (dats m 0 c).arrAt 14 cfg0.N = mixK (aZ m c) (aOa m c) (aOh m c) (aH m c) (aGt m c) (aLg m c) (aLb m c) (aWco m c) (aWao m c) (aNg m c) (aWho m c) := (final0_14 m c).trans (mixW_eq m c)

theorem res_x1 (c : Dev nD) : (dats m 0 c).arrAt 13 cfg0.N
    = x1All (aX m c) (mixK (aZ m c) (aOa m c) (aOh m c) (aH m c) (aGt m c) (aLg m c) (aLb m c) (aWco m c) (aWao m c) (aNg m c) (aWho m c)) (w10 (aWout m c)) := by
  refine (final0_13 m c).trans ?_
  rw [V_main_arg0, V_w3, mixW_eq]

/-- The run: the seven results in closed form, the arguments as launched. -/
theorem run_main : θ_run defs (onTc (τ := τ) (main (F := Ideal))) ⟨m, fun _ => 0, ρ⟩ fun r => ∀ c : Dev nD,
      r.2.mem ((c : Thread nD τ).loc main_v4_0) = x1All (aX m c) (mixK (aZ m c) (aOa m c) (aOh m c) (aH m c) (aGt m c) (aLg m c) (aLb m c) (aWco m c) (aWao m c) (aNg m c) (aWho m c)) (w10 (aWout m c))
      ∧ r.2.mem ((c : Thread nD τ).loc main_v4_1) = mixK (aZ m c) (aOa m c) (aOh m c) (aH m c) (aGt m c) (aLg m c) (aLb m c) (aWco m c) (aWao m c) (aNg m c) (aWho m c)
      ∧ r.2.mem ((c : Thread nD τ).loc main_v4_2) = caAll (aZ m c) (aLg m c) (aLb m c)
      ∧ r.2.mem ((c : Thread nD τ).loc main_v4_3) = ocAll (aOh m c) (aNg m c) (aH m c)
      ∧ r.2.mem ((c : Thread nD τ).loc main_v4_4) = mulAll (caAll (aZ m c) (aLg m c) (aLb m c)) (w5 (aWco m c))
      ∧ r.2.mem ((c : Thread nD τ).loc main_v4_5) = mulAll (aOa m c) (w10 (aWao m c))
      ∧ r.2.mem ((c : Thread nD τ).loc main_v4_6) = mulAll (ocAll (aOh m c) (aNg m c) (aH m c)) (w5 (aWho m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  θ_run_mono (run_blocks m ρ) fun r h c => by
    obtain ⟨k0, k1, k2, k3, k4, k5, k6, ka⟩ := h c
    exact ⟨k0.trans (res_x1 m c), k1.trans (res_mix m c), k2.trans (res_ca m c), k3.trans (res_oc m c), k4.trans (res_ya m c),
      k5.trans (res_yb m c), k6.trans (res_yc m c), ka⟩

/-! ## The claims -/

theorem frame_kernel : Cert.quiescent_Kernel4 := fun m ρ _ => Cert.Kernel4.Gen.frame (F := Bits) m ρ

theorem frame_kernelIdeal : Cert.quiescent_Kernel4Ideal := fun m ρ _ => Cert.Kernel4Ideal.Gen.frame (F := Ideal) m ρ

theorem frame_referenceIdeal : Cert.quiescent_Reference4Ideal := fun m ρ _ =>
  (θ_run Cert.Reference4Ideal.defs _ _).mono (fun r h => ⟨fun c => (h c).2.2.2.2.2.2.2, sem_eq_zero_of_no_sems rfl r.2⟩)
    (Cert.Reference4Ideal.Value.run m ρ)

theorem algebraic : Cert.algebraic_Kernel4Ideal_Reference4Ideal := by
  intro m g m' g' _ hagree
  refine ⟨_, _, _, _, _, _, _, run_main m g, ?_⟩
  refine θ_run_mono (Cert.Reference4Ideal.Value.run m' g') ?_
  intro r hr c
  obtain ⟨h0, h1, h2, h3, h4, h5, h6, h7, h8, h9, h10, h11, h12⟩ := hagree c
  obtain ⟨k0, k1, k2, k3, k4, k5, k6, ka⟩ := hr c
  exact ⟨k0.trans (x1_fin h0 h1 h2 h3 h4 h5 h6 h7 h8 h9 h10 h11 h12), k1.trans (mix_fin h1 h2 h3 h4 h5 h6 h7 h8 h9 h10 h11),
    k2.trans (ca_fin h1 h6 h7), k3.trans (oc_fin h3 h4 h10), k4.trans (ya_fin h1 h6 h7 h8), k5.trans (yb_fin h2 h9),
    k6.trans (yc_fin h3 h4 h10 h11), ka⟩

end Cert.Mix.Final

end
-- ==== Proof.lean ====
/- The claims of this certificate. The convolution's backward call: the frames are one run at two
   readings of the floats (Conv/Run), the values are the kernel's arrays in closed form (Conv/Final)
   and the reference's results in the same form (Conv/Ref). The feed-forward block: its four calls' arrays
   in closed form (Ffn/Fwd, Bwd, Dg, Wgrad), read through the run (Ffn/Run) and compared with the reference
   (Ffn/Ref, Match, Final). The input projection (Inp) and the mixer's forward call (Mix): the same. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Conv.Final
public import proofs.«01_k».proof.Proof.Conv.Ref
public import proofs.«01_k».proof.Proof.Ffn.Final
public import proofs.«01_k».proof.Proof.Inp.Final
public import proofs.«01_k».proof.Proof.Mix.Final
public import Idealize.ShloMosaic.Adequacy
public import Idealize.ShloMosaic.Init

@[expose] public section

noncomputable section

namespace Cert.Proof

open Idealize.ShloMosaic Idealize.SL.Sem

/-- The two programs' body tables are one. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun ℓ => funext fun a => ?_)
  match ℓ, a with
  | 0, (t, s) => rfl

theorem defs_eq : @Cert.Kernel.defs Bits _ Cert.Kernel.Gen.facts = @Cert.KernelIdeal.defs Bits _ Cert.KernelIdeal.Gen.facts :=
  congrArg (Pipeline.defs (@Cert.KernelIdeal.pcfgs Bits Cert.KernelIdeal.Gen.facts)) bodies_eq

theorem frame_kernel : Cert.quiescent_Kernel := fun m ρ _ => by
  rw [defs_eq]
  exact Cert.Conv.Any.frame (F := Bits) m ρ

theorem frame_kernelIdeal : Cert.quiescent_KernelIdeal := fun m ρ _ => Cert.Conv.Any.frame (F := Ideal) m ρ

theorem frame_referenceIdeal : Cert.quiescent_ReferenceIdeal := fun m ρ _ =>
  (θ_run Cert.ReferenceIdeal.defs _ _).mono (fun r h => ⟨fun c => (h c).2.2.2, sem_eq_zero_of_no_sems rfl r.2⟩) (Cert.ReferenceIdeal.Value.run m ρ)

theorem algebraic : Cert.algebraic_KernelIdeal_ReferenceIdeal := by
  pair_intro
  · run_from Cert.Conv.Named.run_main m g
  · run_from Cert.ReferenceIdeal.Value.run m' g'
    · refine (Cert.Conv.Ref.da_at _).trans (Eq.trans ?_ (Cert.Conv.Named.final4 m c).symm)
      exact congr (congr (congrArg Cert.Conv.daAll (hagree c).1) (hagree c).2.1) (hagree c).2.2
    · refine (Cert.Conv.Ref.dg_at _).trans (Eq.trans ?_ (Cert.Conv.Named.final5 m c).symm)
      exact congr (congr (congrArg Cert.Conv.dgAll (hagree c).1) (hagree c).2.1) (hagree c).2.2
    · refine (Cert.Conv.Ref.dw_at _).trans (Eq.trans ?_ (Cert.Conv.Named.final6 m c).symm)
      exact congr (congrArg Cert.Conv.dwAll (hagree c).1) (hagree c).2.2

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   frame_kernel, frame_kernelIdeal, frame_referenceIdeal,
   Cert.Ffn.Final.frame_kernel, Cert.Ffn.Final.frame_kernelIdeal, Cert.Ffn.Final.frame_referenceIdeal,
   Cert.Inp.Final.frame_kernel, Cert.Inp.Final.frame_kernelIdeal, Cert.Inp.Final.frame_referenceIdeal,
   Cert.Mix.Final.frame_kernel, Cert.Mix.Final.frame_kernelIdeal, Cert.Mix.Final.frame_referenceIdeal,
   trivial, algebraic, trivial, Cert.Ffn.Final.algebraic, trivial, Cert.Inp.Final.algebraic,
   trivial, Cert.Mix.Final.algebraic⟩

end Cert.Proof

end
